-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_in_range [hPre_inputs_in_range : Cert.Pre_inputs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_in_range [hPre_inputs_in_range : Cert.Pre_inputs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_KernelIdeal_pre_inputs_in_range [hKernelIdeal : Cert.KernelIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_ReferenceIdeal_pre_inputs_in_range [hReferenceIdeal : Cert.ReferenceIdeal.Facts] [hPre_inputs_in_range : Cert.Pre_inputs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  True

def algebraic_KernelIdeal_ReferenceIdeal_pre_inputs_in_range [hKernelIdeal : Cert.KernelIdeal.Facts] [hReferenceIdeal : Cert.ReferenceIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_inputs_in_range : Cert.Pre_inputs_in_range.Facts),
    quiescent_Kernel (hKernel := hKernel)
    ∧ quiescent_KernelIdeal (hKernelIdeal := hKernelIdeal)
    ∧ quiescent_KernelIdeal_pre_inputs_in_range (hKernelIdeal := hKernelIdeal) (hPre_inputs_in_range := hPre_inputs_in_range)
    ∧ quiescent_ReferenceIdeal (hReferenceIdeal := hReferenceIdeal)
    ∧ quiescent_ReferenceIdeal_pre_inputs_in_range (hReferenceIdeal := hReferenceIdeal) (hPre_inputs_in_range := hPre_inputs_in_range)
    ∧ preserves_Kernel_KernelIdeal
    ∧ algebraic_KernelIdeal_ReferenceIdeal_pre_inputs_in_range (hKernelIdeal := hKernelIdeal) (hReferenceIdeal := hReferenceIdeal) (hPre_inputs_in_range := hPre_inputs_in_range)
-- ==== Pre_inputs_in_range.lean ====
abbrev S100000 : Shape := ⟨1, ![100000]⟩
abbrev S100000x2 : Shape := ⟨2, ![100000, 2]⟩
abbrev S1000x64 : Shape := ⟨2, ![1000, 64]⟩
abbrev S500x64 : Shape := ⟨2, ![500, 64]⟩
abbrev S50x64 : Shape := ⟨2, ![50, 64]⟩
abbrev S2x64 : Shape := ⟨2, ![2, 64]⟩
abbrev S16x64 : Shape := ⟨2, ![16, 64]⟩
abbrev S64 : Shape := ⟨1, ![64]⟩
abbrev S1x64 : Shape := ⟨2, ![1, 64]⟩
abbrev S_ : Shape := ⟨0, ![]⟩
abbrev S99999 : Shape := ⟨1, ![99999]⟩

class Facts : Prop where
  bcast_S_S100000 : S_.BroadcastsInDim S100000 (![] : Fin 0 → Fin S100000.rank)
  reducesTo_S100000_S_d0 : S100000.ReducesTo [0] S_
  h_S_ : 0 < S_.numel
  slices_S100000_S99999_0 : S100000.Slices ![0] S99999
  slices_S100000_S99999_1 : S100000.Slices ![1] S99999
  reducesTo_S99999_S_d0 : S99999.ReducesTo [0] S_
  bcast_S_S100000x2 : S_.BroadcastsInDim S100000x2 (![] : Fin 0 → Fin S100000x2.rank)
  reducesTo_S100000x2_S_d0_1 : S100000x2.ReducesTo [0, 1] S_
  bcast_S_S1000x64 : S_.BroadcastsInDim S1000x64 (![] : Fin 0 → Fin S1000x64.rank)
  reducesTo_S1000x64_S_d0_1 : S1000x64.ReducesTo [0, 1] S_
  bcast_S_S500x64 : S_.BroadcastsInDim S500x64 (![] : Fin 0 → Fin S500x64.rank)
  reducesTo_S500x64_S_d0_1 : S500x64.ReducesTo [0, 1] S_
  bcast_S_S50x64 : S_.BroadcastsInDim S50x64 (![] : Fin 0 → Fin S50x64.rank)
  reducesTo_S50x64_S_d0_1 : S50x64.ReducesTo [0, 1] S_
  bcast_S_S2x64 : S_.BroadcastsInDim S2x64 (![] : Fin 0 → Fin S2x64.rank)
  reducesTo_S2x64_S_d0_1 : S2x64.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_

variable [Facts]

def fn_part7 {F : FTy → Type} [FloatOps F] (main_v115 : IVec S_ 1) (main_v118 : IVec S64 1) (main_c_46 : IVec S_ 1) : IVec S_ 1 :=
  let main_v119 : IVec S_ 1 := (fun x v => Host.reduce IntOp.andi x v reducesTo_S64_S_d0 h_S_) main_v118 main_c_46
  let main_v120 : IVec S_ 1 := andi main_v115 main_v119
  main_v120

def fn_part6 {F : FTy → Type} [FloatOps F] (main_arg18 : FVec F S1x64 .f32) (main_arg19 : FVec F S64 .f32) (main_arg20 : FVec F S64 .f32) (main_v40 : IVec S_ 1) (main_v44 : IVec S_ 1) (main_v58 : IVec S_ 1) (main_v82 : IVec S_ 1) (main_v96 : IVec S_ 1) (main_v100 : IVec S_ 1) : IVec S_ 1 :=
  let main_v101 : IVec S_ 1 := andi main_v96 main_v100
  let main_v102 : FVec F S1x64 .f32 := Host.absf main_arg18
  let main_cst_41 : FVec F S_ .f32 := constant S_ .f32 0x7F800000#32
  let main_v103 : FVec F S1x64 .f32 := broadcastInDim S1x64 ![] bcast_S_S1x64 main_cst_41
  let main_v104 : IVec S1x64 1 := cmpf .olt main_v102 main_v103
  let main_c_42 : IVec S_ 1 := constantI S_ 1 1#1
  let main_v105 : IVec S_ 1 := (fun x v => Host.reduce IntOp.andi x v reducesTo_S1x64_S_d0_1 h_S_) main_v104 main_c_42
  let main_v106 : IVec S_ 1 := andi main_v101 main_v105
  let main_v107 : FVec F S64 .f32 := Host.absf main_arg19
  let main_cst_43 : FVec F S_ .f32 := constant S_ .f32 0x7F800000#32
  let main_v108 : FVec F S64 .f32 := broadcastInDim S64 ![] bcast_S_S64 main_cst_43
  let main_v109 : IVec S64 1 := cmpf .olt main_v107 main_v108
  let main_c_44 : IVec S_ 1 := constantI S_ 1 1#1
  let main_v110 : IVec S_ 1 := (fun x v => Host.reduce IntOp.andi x v reducesTo_S64_S_d0 h_S_) main_v109 main_c_44
  let main_v111 : IVec S_ 1 := andi main_v106 main_v110
  let main_v112 : IVec S_ 1 := andi main_v40 main_v44
  let main_v113 : IVec S_ 1 := andi main_v112 main_v58
  let main_v114 : IVec S_ 1 := andi main_v113 main_v82
  let main_v115 : IVec S_ 1 := andi main_v114 main_v111
  let main_v116 : FVec F S64 .f32 := Host.absf main_arg20
  let main_cst_45 : FVec F S_ .f32 := constant S_ .f32 0x7F800000#32
  let main_v117 : FVec F S64 .f32 := broadcastInDim S64 ![] bcast_S_S64 main_cst_45
  let main_v118 : IVec S64 1 := cmpf .olt main_v116 main_v117
  let main_c_46 : IVec S_ 1 := constantI S_ 1 1#1
  fn_part7 (F := F) main_v115 main_v118 main_c_46

def fn_part5 {F : FTy → Type} [FloatOps F] (main_arg15 : FVec F S64 .f32) (main_arg16 : FVec F S1x64 .f32) (main_arg17 : FVec F S64 .f32) (main_arg18 : FVec F S1x64 .f32) (main_arg19 : FVec F S64 .f32) (main_arg20 : FVec F S64 .f32) (main_v40 : IVec S_ 1) (main_v44 : IVec S_ 1) (main_v58 : IVec S_ 1) (main_v82 : IVec S_ 1) (main_v83 : FVec F S2x64 .f32) (main_cst_33 : FVec F S_ .f32) : IVec S_ 1 :=
  let main_v84 : FVec F S2x64 .f32 := broadcastInDim S2x64 ![] bcast_S_S2x64 main_cst_33
  let main_v85 : IVec S2x64 1 := cmpf .olt main_v83 main_v84
  let main_c_34 : IVec S_ 1 := constantI S_ 1 1#1
  let main_v86 : IVec S_ 1 := (fun x v => Host.reduce IntOp.andi x v reducesTo_S2x64_S_d0_1 h_S_) main_v85 main_c_34
  let main_v87 : FVec F S64 .f32 := Host.absf main_arg15
  let main_cst_35 : FVec F S_ .f32 := constant S_ .f32 0x7F800000#32
  let main_v88 : FVec F S64 .f32 := broadcastInDim S64 ![] bcast_S_S64 main_cst_35
  let main_v89 : IVec S64 1 := cmpf .olt main_v87 main_v88
  let main_c_36 : IVec S_ 1 := constantI S_ 1 1#1
  let main_v90 : IVec S_ 1 := (fun x v => Host.reduce IntOp.andi x v reducesTo_S64_S_d0 h_S_) main_v89 main_c_36
  let main_v91 : IVec S_ 1 := andi main_v86 main_v90
  let main_v92 : FVec F S1x64 .f32 := Host.absf main_arg16
  let main_cst_37 : FVec F S_ .f32 := constant S_ .f32 0x7F800000#32
  let main_v93 : FVec F S1x64 .f32 := broadcastInDim S1x64 ![] bcast_S_S1x64 main_cst_37
  let main_v94 : IVec S1x64 1 := cmpf .olt main_v92 main_v93
  let main_c_38 : IVec S_ 1 := constantI S_ 1 1#1
  let main_v95 : IVec S_ 1 := (fun x v => Host.reduce IntOp.andi x v reducesTo_S1x64_S_d0_1 h_S_) main_v94 main_c_38
  let main_v96 : IVec S_ 1 := andi main_v91 main_v95
  let main_v97 : FVec F S64 .f32 := Host.absf main_arg17
  let main_cst_39 : FVec F S_ .f32 := constant S_ .f32 0x7F800000#32
  let main_v98 : FVec F S64 .f32 := broadcastInDim S64 ![] bcast_S_S64 main_cst_39
  let main_v99 : IVec S64 1 := cmpf .olt main_v97 main_v98
  let main_c_40 : IVec S_ 1 := constantI S_ 1 1#1
  let main_v100 : IVec S_ 1 := (fun x v => Host.reduce IntOp.andi x v reducesTo_S64_S_d0 h_S_) main_v99 main_c_40
  fn_part6 (F := F) main_arg18 main_arg19 main_arg20 main_v40 main_v44 main_v58 main_v82 main_v96 main_v100

def fn_part4 {F : FTy → Type} [FloatOps F] (main_arg11 : FVec F S50x64 .f32) (main_arg12 : FVec F S2x64 .f32) (main_arg13 : FVec F S16x64 .f32) (main_arg14 : FVec F S2x64 .f32) (main_arg15 : FVec F S64 .f32) (main_arg16 : FVec F S1x64 .f32) (main_arg17 : FVec F S64 .f32) (main_arg18 : FVec F S1x64 .f32) (main_arg19 : FVec F S64 .f32) (main_arg20 : FVec F S64 .f32) (main_v40 : IVec S_ 1) (main_v44 : IVec S_ 1) (main_v58 : IVec S_ 1) (main_v62 : IVec S_ 1) (main_v66 : IVec S_ 1) : IVec S_ 1 :=
  let main_v67 : IVec S_ 1 := andi main_v62 main_v66
  let main_v68 : FVec F S50x64 .f32 := Host.absf main_arg11
  let main_cst_27 : FVec F S_ .f32 := constant S_ .f32 0x7F800000#32
  let main_v69 : FVec F S50x64 .f32 := broadcastInDim S50x64 ![] bcast_S_S50x64 main_cst_27
  let main_v70 : IVec S50x64 1 := cmpf .olt main_v68 main_v69
  let main_c_28 : IVec S_ 1 := constantI S_ 1 1#1
  let main_v71 : IVec S_ 1 := (fun x v => Host.reduce IntOp.andi x v reducesTo_S50x64_S_d0_1 h_S_) main_v70 main_c_28
  let main_v72 : IVec S_ 1 := andi main_v67 main_v71
  let main_v73 : FVec F S2x64 .f32 := Host.absf main_arg12
  let main_cst_29 : FVec F S_ .f32 := constant S_ .f32 0x7F800000#32
  let main_v74 : FVec F S2x64 .f32 := broadcastInDim S2x64 ![] bcast_S_S2x64 main_cst_29
  let main_v75 : IVec S2x64 1 := cmpf .olt main_v73 main_v74
  let main_c_30 : IVec S_ 1 := constantI S_ 1 1#1
  let main_v76 : IVec S_ 1 := (fun x v => Host.reduce IntOp.andi x v reducesTo_S2x64_S_d0_1 h_S_) main_v75 main_c_30
  let main_v77 : IVec S_ 1 := andi main_v72 main_v76
  let main_v78 : FVec F S16x64 .f32 := Host.absf main_arg13
  let main_cst_31 : FVec F S_ .f32 := constant S_ .f32 0x7F800000#32
  let main_v79 : FVec F S16x64 .f32 := broadcastInDim S16x64 ![] bcast_S_S16x64 main_cst_31
  let main_v80 : IVec S16x64 1 := cmpf .olt main_v78 main_v79
  let main_c_32 : IVec S_ 1 := constantI S_ 1 1#1
  let main_v81 : IVec S_ 1 := (fun x v => Host.reduce IntOp.andi x v reducesTo_S16x64_S_d0_1 h_S_) main_v80 main_c_32
  let main_v82 : IVec S_ 1 := andi main_v77 main_v81
  let main_v83 : FVec F S2x64 .f32 := Host.absf main_arg14
  let main_cst_33 : FVec F S_ .f32 := constant S_ .f32 0x7F800000#32
  fn_part5 (F := F) main_arg15 main_arg16 main_arg17 main_arg18 main_arg19 main_arg20 main_v40 main_v44 main_v58 main_v82 main_v83 main_cst_33

def fn_part3 {F : FTy → Type} [FloatOps F] (main_arg6 : FVec F S100000x2 .f32) (main_arg9 : FVec F S1000x64 .f32) (main_arg10 : FVec F S500x64 .f32) (main_arg11 : FVec F S50x64 .f32) (main_arg12 : FVec F S2x64 .f32) (main_arg13 : FVec F S16x64 .f32) (main_arg14 : FVec F S2x64 .f32) (main_arg15 : FVec F S64 .f32) (main_arg16 : FVec F S1x64 .f32) (main_arg17 : FVec F S64 .f32) (main_arg18 : FVec F S1x64 .f32) (main_arg19 : FVec F S64 .f32) (main_arg20 : FVec F S64 .f32) (main_v40 : IVec S_ 1) (main_v44 : IVec S_ 1) (main_v48 : IVec S_ 1) (main_v49 : FVec F S100000 .f32) (main_cst_19 : FVec F S_ .f32) : IVec S_ 1 :=
  let main_v50 : FVec F S100000 .f32 := broadcastInDim S100000 ![] bcast_S_S100000 main_cst_19
  let main_v51 : IVec S100000 1 := cmpf .olt main_v49 main_v50
  let main_c_20 : IVec S_ 1 := constantI S_ 1 1#1
  let main_v52 : IVec S_ 1 := (fun x v => Host.reduce IntOp.andi x v reducesTo_S100000_S_d0 h_S_) main_v51 main_c_20
  let main_v53 : IVec S_ 1 := andi main_v48 main_v52
  let main_v54 : FVec F S100000x2 .f32 := Host.absf main_arg6
  let main_cst_21 : FVec F S_ .f32 := constant S_ .f32 0x7F800000#32
  let main_v55 : FVec F S100000x2 .f32 := broadcastInDim S100000x2 ![] bcast_S_S100000x2 main_cst_21
  let main_v56 : IVec S100000x2 1 := cmpf .olt main_v54 main_v55
  let main_c_22 : IVec S_ 1 := constantI S_ 1 1#1
  let main_v57 : IVec S_ 1 := (fun x v => Host.reduce IntOp.andi x v reducesTo_S100000x2_S_d0_1 h_S_) main_v56 main_c_22
  let main_v58 : IVec S_ 1 := andi main_v53 main_v57
  let main_v59 : FVec F S1000x64 .f32 := Host.absf main_arg9
  let main_cst_23 : FVec F S_ .f32 := constant S_ .f32 0x7F800000#32
  let main_v60 : FVec F S1000x64 .f32 := broadcastInDim S1000x64 ![] bcast_S_S1000x64 main_cst_23
  let main_v61 : IVec S1000x64 1 := cmpf .olt main_v59 main_v60
  let main_c_24 : IVec S_ 1 := constantI S_ 1 1#1
  let main_v62 : IVec S_ 1 := (fun x v => Host.reduce IntOp.andi x v reducesTo_S1000x64_S_d0_1 h_S_) main_v61 main_c_24
  let main_v63 : FVec F S500x64 .f32 := Host.absf main_arg10
  let main_cst_25 : FVec F S_ .f32 := constant S_ .f32 0x7F800000#32
  let main_v64 : FVec F S500x64 .f32 := broadcastInDim S500x64 ![] bcast_S_S500x64 main_cst_25
  let main_v65 : IVec S500x64 1 := cmpf .olt main_v63 main_v64
  let main_c_26 : IVec S_ 1 := constantI S_ 1 1#1
  let main_v66 : IVec S_ 1 := (fun x v => Host.reduce IntOp.andi x v reducesTo_S500x64_S_d0_1 h_S_) main_v65 main_c_26
  fn_part4 (F := F) main_arg11 main_arg12 main_arg13 main_arg14 main_arg15 main_arg16 main_arg17 main_arg18 main_arg19 main_arg20 main_v40 main_v44 main_v58 main_v62 main_v66

def fn_part2 {F : FTy → Type} [FloatOps F] (main_arg0 : FVec F S100000 .f32) (main_arg1 : FVec F S100000 .f32) (main_arg6 : FVec F S100000x2 .f32) (main_arg8 : IVec S100000 32) (main_arg9 : FVec F S1000x64 .f32) (main_arg10 : FVec F S500x64 .f32) (main_arg11 : FVec F S50x64 .f32) (main_arg12 : FVec F S2x64 .f32) (main_arg13 : FVec F S16x64 .f32) (main_arg14 : FVec F S2x64 .f32) (main_arg15 : FVec F S64 .f32) (main_arg16 : FVec F S1x64 .f32) (main_arg17 : FVec F S64 .f32) (main_arg18 : FVec F S1x64 .f32) (main_arg19 : FVec F S64 .f32) (main_arg20 : FVec F S64 .f32) (main_v26 : IVec S_ 1) (main_v32 : IVec S_ 1) : IVec S_ 1 :=
  let main_v33 : IVec S_ 1 := andi main_v26 main_v32
  let main_c_14 : IVec S_ 32 := constantI S_ 32 0#32
  let main_v34 : IVec S100000 32 := broadcastInDim S100000 ![] bcast_S_S100000 main_c_14
  let main_v35 : IVec S100000 1 := cmpi .sge main_arg8 main_v34
  let main_c_15 : IVec S_ 32 := constantI S_ 32 512#32
  let main_v36 : IVec S100000 32 := broadcastInDim S100000 ![] bcast_S_S100000 main_c_15
  let main_v37 : IVec S100000 1 := cmpi .slt main_arg8 main_v36
  let main_v38 : IVec S100000 1 := andi main_v35 main_v37
  let main_c_16 : IVec S_ 1 := constantI S_ 1 1#1
  let main_v39 : IVec S_ 1 := (fun x v => Host.reduce IntOp.andi x v reducesTo_S100000_S_d0 h_S_) main_v38 main_c_16
  let main_v40 : IVec S_ 1 := andi main_v33 main_v39
  let main_v41 : IVec S99999 32 := (extractStridedSlice S99999 ![0] · slices_S100000_S99999_0) main_arg8
  let main_v42 : IVec S99999 32 := (extractStridedSlice S99999 ![1] · slices_S100000_S99999_1) main_arg8
  let main_v43 : IVec S99999 1 := cmpi .sle main_v41 main_v42
  let main_c_17 : IVec S_ 1 := constantI S_ 1 1#1
  let main_v44 : IVec S_ 1 := (fun x v => Host.reduce IntOp.andi x v reducesTo_S99999_S_d0 h_S_) main_v43 main_c_17
  let main_v45 : FVec F S100000 .f32 := Host.absf main_arg0
  let main_cst : FVec F S_ .f32 := constant S_ .f32 0x7F800000#32
  let main_v46 : FVec F S100000 .f32 := broadcastInDim S100000 ![] bcast_S_S100000 main_cst
  let main_v47 : IVec S100000 1 := cmpf .olt main_v45 main_v46
  let main_c_18 : IVec S_ 1 := constantI S_ 1 1#1
  let main_v48 : IVec S_ 1 := (fun x v => Host.reduce IntOp.andi x v reducesTo_S100000_S_d0 h_S_) main_v47 main_c_18
  let main_v49 : FVec F S100000 .f32 := Host.absf main_arg1
  let main_cst_19 : FVec F S_ .f32 := constant S_ .f32 0x7F800000#32
  fn_part3 (F := F) main_arg6 main_arg9 main_arg10 main_arg11 main_arg12 main_arg13 main_arg14 main_arg15 main_arg16 main_arg17 main_arg18 main_arg19 main_arg20 main_v40 main_v44 main_v48 main_v49 main_cst_19

def fn_part1 {F : FTy → Type} [FloatOps F] (main_arg0 : FVec F S100000 .f32) (main_arg1 : FVec F S100000 .f32) (main_arg4 : IVec S100000 32) (main_arg5 : IVec S100000 32) (main_arg6 : FVec F S100000x2 .f32) (main_arg7 : IVec S100000 32) (main_arg8 : IVec S100000 32) (main_arg9 : FVec F S1000x64 .f32) (main_arg10 : FVec F S500x64 .f32) (main_arg11 : FVec F S50x64 .f32) (main_arg12 : FVec F S2x64 .f32) (main_arg13 : FVec F S16x64 .f32) (main_arg14 : FVec F S2x64 .f32) (main_arg15 : FVec F S64 .f32) (main_arg16 : FVec F S1x64 .f32) (main_arg17 : FVec F S64 .f32) (main_arg18 : FVec F S1x64 .f32) (main_arg19 : FVec F S64 .f32) (main_arg20 : FVec F S64 .f32) (main_v12 : IVec S_ 1) (main_v14 : IVec S100000 1) (main_v15 : IVec S100000 32) : IVec S_ 1 :=
  let main_v16 : IVec S100000 1 := cmpi .slt main_arg4 main_v15
  let main_v17 : IVec S100000 1 := andi main_v14 main_v16
  let main_c_7 : IVec S_ 1 := constantI S_ 1 1#1
  let main_v18 : IVec S_ 1 := (fun x v => Host.reduce IntOp.andi x v reducesTo_S100000_S_d0 h_S_) main_v17 main_c_7
  let main_v19 : IVec S_ 1 := andi main_v12 main_v18
  let main_c_8 : IVec S_ 32 := constantI S_ 32 0#32
  let main_v20 : IVec S100000 32 := broadcastInDim S100000 ![] bcast_S_S100000 main_c_8
  let main_v21 : IVec S100000 1 := cmpi .sge main_arg5 main_v20
  let main_c_9 : IVec S_ 32 := constantI S_ 32 2#32
  let main_v22 : IVec S100000 32 := broadcastInDim S100000 ![] bcast_S_S100000 main_c_9
  let main_v23 : IVec S100000 1 := cmpi .slt main_arg5 main_v22
  let main_v24 : IVec S100000 1 := andi main_v21 main_v23
  let main_c_10 : IVec S_ 1 := constantI S_ 1 1#1
  let main_v25 : IVec S_ 1 := (fun x v => Host.reduce IntOp.andi x v reducesTo_S100000_S_d0 h_S_) main_v24 main_c_10
  let main_v26 : IVec S_ 1 := andi main_v19 main_v25
  let main_c_11 : IVec S_ 32 := constantI S_ 32 0#32
  let main_v27 : IVec S100000 32 := broadcastInDim S100000 ![] bcast_S_S100000 main_c_11
  let main_v28 : IVec S100000 1 := cmpi .sge main_arg7 main_v27
  let main_c_12 : IVec S_ 32 := constantI S_ 32 16#32
  let main_v29 : IVec S100000 32 := broadcastInDim S100000 ![] bcast_S_S100000 main_c_12
  let main_v30 : IVec S100000 1 := cmpi .slt main_arg7 main_v29
  let main_v31 : IVec S100000 1 := andi main_v28 main_v30
  let main_c_13 : IVec S_ 1 := constantI S_ 1 1#1
  let main_v32 : IVec S_ 1 := (fun x v => Host.reduce IntOp.andi x v reducesTo_S100000_S_d0 h_S_) main_v31 main_c_13
  fn_part2 (F := F) main_arg0 main_arg1 main_arg6 main_arg8 main_arg9 main_arg10 main_arg11 main_arg12 main_arg13 main_arg14 main_arg15 main_arg16 main_arg17 main_arg18 main_arg19 main_arg20 main_v26 main_v32

def fn {F : FTy → Type} [FloatOps F] (main_arg0 : FVec F S100000 .f32) (main_arg1 : FVec F S100000 .f32) (main_arg2 : IVec S100000 32) (main_arg3 : IVec S100000 32) (main_arg4 : IVec S100000 32) (main_arg5 : IVec S100000 32) (main_arg6 : FVec F S100000x2 .f32) (main_arg7 : IVec S100000 32) (main_arg8 : IVec S100000 32) (main_arg9 : FVec F S1000x64 .f32) (main_arg10 : FVec F S500x64 .f32) (main_arg11 : FVec F S50x64 .f32) (main_arg12 : FVec F S2x64 .f32) (main_arg13 : FVec F S16x64 .f32) (main_arg14 : FVec F S2x64 .f32) (main_arg15 : FVec F S64 .f32) (main_arg16 : FVec F S1x64 .f32) (main_arg17 : FVec F S64 .f32) (main_arg18 : FVec F S1x64 .f32) (main_arg19 : FVec F S64 .f32) (main_arg20 : FVec F S64 .f32) (main_arg21 : FVec F S64 .f32) (main_arg22 : FVec F S64 .f32) : IVec S_ 1 :=
  let main_c : IVec S_ 32 := constantI S_ 32 0#32
  let main_v0 : IVec S100000 32 := broadcastInDim S100000 ![] bcast_S_S100000 main_c
  let main_v1 : IVec S100000 1 := cmpi .sge main_arg2 main_v0
  let main_c_0 : IVec S_ 32 := constantI S_ 32 1000#32
  let main_v2 : IVec S100000 32 := broadcastInDim S100000 ![] bcast_S_S100000 main_c_0
  let main_v3 : IVec S100000 1 := cmpi .slt main_arg2 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  let main_c_2 : IVec S_ 32 := constantI S_ 32 0#32
  let main_v6 : IVec S100000 32 := broadcastInDim S100000 ![] bcast_S_S100000 main_c_2
  let main_v7 : IVec S100000 1 := cmpi .sge main_arg3 main_v6
  let main_c_3 : IVec S_ 32 := constantI S_ 32 500#32
  let main_v8 : IVec S100000 32 := broadcastInDim S100000 ![] bcast_S_S100000 main_c_3
  let main_v9 : IVec S100000 1 := cmpi .slt main_arg3 main_v8
  let main_v10 : IVec S100000 1 := andi main_v7 main_v9
  let main_c_4 : IVec S_ 1 := constantI S_ 1 1#1
  let main_v11 : IVec S_ 1 := (fun x v => Host.reduce IntOp.andi x v reducesTo_S100000_S_d0 h_S_) main_v10 main_c_4
  let main_v12 : IVec S_ 1 := andi main_v5 main_v11
  let main_c_5 : IVec S_ 32 := constantI S_ 32 0#32
  let main_v13 : IVec S100000 32 := broadcastInDim S100000 ![] bcast_S_S100000 main_c_5
  let main_v14 : IVec S100000 1 := cmpi .sge main_arg4 main_v13
  let main_c_6 : IVec S_ 32 := constantI S_ 32 50#32
  let main_v15 : IVec S100000 32 := broadcastInDim S100000 ![] bcast_S_S100000 main_c_6
  fn_part1 (F := F) main_arg0 main_arg1 main_arg4 main_arg5 main_arg6 main_arg7 main_arg8 main_arg9 main_arg10 main_arg11 main_arg12 main_arg13 main_arg14 main_arg15 main_arg16 main_arg17 main_arg18 main_arg19 main_arg20 main_v12 main_v14 main_v15
-- ==== Kernel.lean ====
abbrev S100000 : Shape := ⟨1, ![100000]⟩
abbrev S100000x2 : Shape := ⟨2, ![100000, 2]⟩
abbrev S1000x64 : Shape := ⟨2, ![1000, 64]⟩
abbrev S500x64 : Shape := ⟨2, ![500, 64]⟩
abbrev S50x64 : Shape := ⟨2, ![50, 64]⟩
abbrev S2x64 : Shape := ⟨2, ![2, 64]⟩
abbrev S16x64 : Shape := ⟨2, ![16, 64]⟩
abbrev S64 : Shape := ⟨1, ![64]⟩
abbrev S1x64 : Shape := ⟨2, ![1, 64]⟩
abbrev S_ : Shape := ⟨0, ![]⟩
abbrev S106496 : Shape := ⟨1, ![106496]⟩
abbrev S1x106496 : Shape := ⟨2, ![1, 106496]⟩
abbrev S8x106496 : Shape := ⟨2, ![8, 106496]⟩
abbrev S100000x1 : Shape := ⟨2, ![100000, 1]⟩
abbrev S13 : Shape := ⟨1, ![13]⟩
abbrev S13x1 : Shape := ⟨2, ![13, 1]⟩
abbrev S13x2 : Shape := ⟨2, ![13, 2]⟩
abbrev S1024x64 : Shape := ⟨2, ![1024, 64]⟩
abbrev S64x1024 : Shape := ⟨2, ![64, 1024]⟩
abbrev S512x64 : Shape := ⟨2, ![512, 64]⟩
abbrev S64x512 : Shape := ⟨2, ![64, 512]⟩
abbrev S8x64 : Shape := ⟨2, ![8, 64]⟩
abbrev S64x64 : Shape := ⟨2, ![64, 64]⟩
abbrev S96x64 : Shape := ⟨2, ![96, 64]⟩
abbrev S64x96 : Shape := ⟨2, ![64, 96]⟩
abbrev S3x64 : Shape := ⟨2, ![3, 64]⟩
abbrev S64x8 : Shape := ⟨2, ![64, 8]⟩
abbrev S64x106496 : Shape := ⟨2, ![64, 106496]⟩
abbrev S128x512 : Shape := ⟨2, ![128, 512]⟩
abbrev S8x8192 : Shape := ⟨2, ![8, 8192]⟩
abbrev S64x8192 : Shape := ⟨2, ![64, 8192]⟩
abbrev S136x512 : Shape := ⟨2, ![136, 512]⟩
abbrev S1x8192 : Shape := ⟨2, ![1, 8192]⟩
abbrev S128x8192 : Shape := ⟨2, ![128, 8192]⟩
abbrev S64x128 : Shape := ⟨2, ![64, 128]⟩
abbrev S16x8192 : Shape := ⟨2, ![16, 8192]⟩
abbrev S96x8192 : Shape := ⟨2, ![96, 8192]⟩
abbrev S136x8192 : Shape := ⟨2, ![136, 8192]⟩
abbrev S1x1 : Shape := ⟨2, ![1, 1]⟩
abbrev S136x128 : Shape := ⟨2, ![136, 128]⟩
abbrev S1x512 : Shape := ⟨2, ![1, 512]⟩
abbrev S64x1 : Shape := ⟨2, ![64, 1]⟩
abbrev S100000x64 : Shape := ⟨2, ![100000, 64]⟩
abbrev S8192x64 : Shape := ⟨2, ![8192, 64]⟩
abbrev S128x128 : Shape := ⟨2, ![128, 128]⟩

abbrev nBuf : Space → Nat
  | .hbm => 181
  | .vmem => 20
  | .smem => 1
  | _ => 0

abbrev hbmTy0_0 (i : Nat) : BufTy := match i % 128 with
  | 0 => ⟨S100000, .f32⟩
  | 1 => ⟨S100000, .f32⟩
  | 2 => ⟨S100000, .i32⟩
  | 3 => ⟨S100000, .i32⟩
  | 4 => ⟨S100000, .i32⟩
  | 5 => ⟨S100000, .i32⟩
  | 6 => ⟨S100000x2, .f32⟩
  | 7 => ⟨S100000, .i32⟩
  | 8 => ⟨S100000, .i32⟩
  | 9 => ⟨S1000x64, .f32⟩
  | 10 => ⟨S500x64, .f32⟩
  | 11 => ⟨S50x64, .f32⟩
  | 12 => ⟨S2x64, .f32⟩
  | 13 => ⟨S16x64, .f32⟩
  | 14 => ⟨S2x64, .f32⟩
  | 15 => ⟨S64, .f32⟩
  | 16 => ⟨S1x64, .f32⟩
  | 17 => ⟨S64, .f32⟩
  | 18 => ⟨S1x64, .f32⟩
  | 19 => ⟨S64, .f32⟩
  | 20 => ⟨S64, .f32⟩
  | 21 => ⟨S64, .f32⟩
  | 22 => ⟨S64, .f32⟩
  | 23 => ⟨S_, .i32⟩
  | 24 => ⟨S106496, .i32⟩
  | 25 => ⟨S_, .i32⟩
  | 26 => ⟨S_, .i32⟩
  | 27 => ⟨S106496, .i32⟩
  | 28 => ⟨S_, .i32⟩
  | 29 => ⟨S_, .i32⟩
  | 30 => ⟨S106496, .i32⟩
  | 31 => ⟨S_, .i32⟩
  | 32 => ⟨S_, .i32⟩
  | 33 => ⟨S106496, .i32⟩
  | 34 => ⟨S_, .i32⟩
  | 35 => ⟨S_, .i32⟩
  | 36 => ⟨S106496, .i32⟩
  | 37 => ⟨S_, .i32⟩
  | 38 => ⟨S_, .i32⟩
  | 39 => ⟨S106496, .i32⟩
  | 40 => ⟨S1x106496, .i32⟩
  | 41 => ⟨S1x106496, .i32⟩
  | 42 => ⟨S1x106496, .i32⟩
  | 43 => ⟨S1x106496, .i32⟩
  | 44 => ⟨S1x106496, .i32⟩
  | 45 => ⟨S1x106496, .i32⟩
  | 46 => ⟨S1x106496, .i32⟩
  | 47 => ⟨S1x106496, .i32⟩
  | 48 => ⟨S8x106496, .i32⟩
  | 49 => ⟨S_, .bf16⟩
  | 50 => ⟨S106496, .bf16⟩
  | 51 => ⟨S100000, .bf16⟩
  | 52 => ⟨S_, .i32⟩
  | 53 => ⟨S_, .bf16⟩
  | 54 => ⟨S106496, .bf16⟩
  | 55 => ⟨S100000, .bf16⟩
  | 56 => ⟨S_, .i32⟩
  | 57 => ⟨S_, .bf16⟩
  | 58 => ⟨S106496, .bf16⟩
  | 59 => ⟨S100000x1, .f32⟩
  | 60 => ⟨S100000, .f32⟩
  | 61 => ⟨S100000, .bf16⟩
  | 62 => ⟨S_, .i32⟩
  | 63 => ⟨S_, .bf16⟩
  | 64 => ⟨S106496, .bf16⟩
  | 65 => ⟨S100000x1, .f32⟩
  | 66 => ⟨S100000, .f32⟩
  | 67 => ⟨S100000, .bf16⟩
  | 68 => ⟨S_, .i32⟩
  | 69 => ⟨S_, .bf16⟩
  | 70 => ⟨S106496, .bf16⟩
  | 71 => ⟨S100000, .bf16⟩
  | 72 => ⟨S_, .i32⟩
  | 73 => ⟨S_, .bf16⟩
  | 74 => ⟨S106496, .bf16⟩
  | 75 => ⟨S_, .bf16⟩
  | 76 => ⟨S106496, .bf16⟩
  | 77 => ⟨S1x106496, .bf16⟩
  | 78 => ⟨S1x106496, .bf16⟩
  | 79 => ⟨S1x106496, .bf16⟩
  | 80 => ⟨S1x106496, .bf16⟩
  | 81 => ⟨S1x106496, .bf16⟩
  | 82 => ⟨S1x106496, .bf16⟩
  | 83 => ⟨S1x106496, .bf16⟩
  | 84 => ⟨S1x106496, .bf16⟩
  | 85 => ⟨S8x106496, .bf16⟩
  | 86 => ⟨S13, .i32⟩
  | 87 => ⟨S_, .i32⟩
  | 88 => ⟨S13, .i32⟩
  | 89 => ⟨S13, .i32⟩
  | 90 => ⟨S_, .i32⟩
  | 91 => ⟨S13, .i32⟩
  | 92 => ⟨S13, .i1⟩
  | 93 => ⟨S_, .i32⟩
  | 94 => ⟨S13, .i32⟩
  | 95 => ⟨S13, .i32⟩
  | 96 => ⟨S13, .i32⟩
  | 97 => ⟨S13x1, .i32⟩
  | 98 => ⟨S13, .i32⟩
  | 99 => ⟨S13, .i32⟩
  | 100 => ⟨S_, .i32⟩
  | 101 => ⟨S13, .i32⟩
  | 102 => ⟨S13, .i32⟩
  | 103 => ⟨S_, .i32⟩
  | 104 => ⟨S13, .i32⟩
  | 105 => ⟨S13, .i32⟩
  | 106 => ⟨S_, .i32⟩
  | 107 => ⟨S13, .i32⟩
  | 108 => ⟨S13, .i32⟩
  | 109 => ⟨S_, .i32⟩
  | 110 => ⟨S13, .i32⟩
  | 111 => ⟨S13, .i32⟩
  | 112 => ⟨S_, .i32⟩
  | 113 => ⟨S13, .i32⟩
  | 114 => ⟨S13, .i1⟩
  | 115 => ⟨S_, .i32⟩
  | 116 => ⟨S13, .i32⟩
  | 117 => ⟨S13, .i32⟩
  | 118 => ⟨S13, .i32⟩
  | 119 => ⟨S13x1, .i32⟩
  | 120 => ⟨S13, .i32⟩
  | 121 => ⟨S13x1, .i32⟩
  | 122 => ⟨S13x1, .i32⟩
  | 123 => ⟨S_, .i32⟩
  | 124 => ⟨S_, .f32⟩
  | 125 => ⟨S1024x64, .f32⟩
  | 126 => ⟨S1024x64, .bf16⟩
  | 127 => ⟨S64x1024, .bf16⟩
  | _ => ⟨S100000, .f32⟩

abbrev hbmTy0_1 (i : Nat) : BufTy := match i % 128 with
  | 0 => ⟨S_, .i32⟩
  | 1 => ⟨S_, .f32⟩
  | 2 => ⟨S512x64, .f32⟩
  | 3 => ⟨S512x64, .bf16⟩
  | 4 => ⟨S64x512, .bf16⟩
  | 5 => ⟨S64, .f32⟩
  | 6 => ⟨S64, .f32⟩
  | 7 => ⟨S1x64, .f32⟩
  | 8 => ⟨S64, .f32⟩
  | 9 => ⟨S1x64, .f32⟩
  | 10 => ⟨S64, .f32⟩
  | 11 => ⟨S1x64, .f32⟩
  | 12 => ⟨S64, .f32⟩
  | 13 => ⟨S1x64, .f32⟩
  | 14 => ⟨S64, .f32⟩
  | 15 => ⟨S64, .f32⟩
  | 16 => ⟨S64, .f32⟩
  | 17 => ⟨S64, .f32⟩
  | 18 => ⟨S1x64, .f32⟩
  | 19 => ⟨S64, .f32⟩
  | 20 => ⟨S64, .f32⟩
  | 21 => ⟨S_, .f32⟩
  | 22 => ⟨S64, .f32⟩
  | 23 => ⟨S_, .f32⟩
  | 24 => ⟨S64, .f32⟩
  | 25 => ⟨S1x64, .f32⟩
  | 26 => ⟨S1x64, .f32⟩
  | 27 => ⟨S1x64, .f32⟩
  | 28 => ⟨S1x64, .f32⟩
  | 29 => ⟨S1x64, .f32⟩
  | 30 => ⟨S1x64, .f32⟩
  | 31 => ⟨S1x64, .f32⟩
  | 32 => ⟨S1x64, .f32⟩
  | 33 => ⟨S8x64, .f32⟩
  | 34 => ⟨S_, .i32⟩
  | 35 => ⟨S_, .f32⟩
  | 36 => ⟨S64x64, .f32⟩
  | 37 => ⟨S_, .f32⟩
  | 38 => ⟨S8x64, .f32⟩
  | 39 => ⟨S96x64, .f32⟩
  | 40 => ⟨S96x64, .bf16⟩
  | 41 => ⟨S64x96, .bf16⟩
  | 42 => ⟨S1x64, .f32⟩
  | 43 => ⟨S1x64, .f32⟩
  | 44 => ⟨S1x64, .f32⟩
  | 45 => ⟨S3x64, .f32⟩
  | 46 => ⟨S_, .i32⟩
  | 47 => ⟨S_, .f32⟩
  | 48 => ⟨S8x64, .f32⟩
  | 49 => ⟨S64x8, .f32⟩
  | 50 => ⟨S64x106496, .bf16⟩
  | 51 => ⟨S128x512, .bf16⟩
  | 52 => ⟨S100000x64, .f32⟩
  | _ => ⟨S100000, .f32⟩

abbrev hbmTy (i : Nat) : BufTy := match i / 128 with
  | 0 => hbmTy0_0 i
  | 1 => hbmTy0_1 i
  | _ => ⟨S100000, .f32⟩

abbrev bufTy : (tb : Table) → Fin (tcTables nBuf tb) → BufTy
  | .hbm, ⟨i, _⟩ => hbmTy i
  | .local _ .vmem, ⟨0, _⟩ => ⟨S8x8192, .i32⟩
  | .local _ .vmem, ⟨1, _⟩ => ⟨S8x8192, .i32⟩
  | .local _ .vmem, ⟨2, _⟩ => ⟨S8x8192, .bf16⟩
  | .local _ .vmem, ⟨3, _⟩ => ⟨S8x8192, .bf16⟩
  | .local _ .vmem, ⟨4, _⟩ => ⟨S64x1024, .bf16⟩
  | .local _ .vmem, ⟨5, _⟩ => ⟨S64x512, .bf16⟩
  | .local _ .vmem, ⟨6, _⟩ => ⟨S64x96, .bf16⟩
  | .local _ .vmem, ⟨7, _⟩ => ⟨S64x8, .f32⟩
  | .local _ .vmem, ⟨8, _⟩ => ⟨S64x8192, .bf16⟩
  | .local _ .vmem, ⟨9, _⟩ => ⟨S64x8192, .bf16⟩
  | .local _ .vmem, ⟨10, _⟩ => ⟨S128x512, .bf16⟩
  | .local _ .vmem, ⟨11, _⟩ => ⟨S136x512, .f32⟩
  | .local _ .vmem, ⟨12, _⟩ => ⟨S64x8192, .bf16⟩
  | .local _ .vmem, ⟨13, _⟩ => ⟨S64x8192, .bf16⟩
  | .local _ .vmem, ⟨14, _⟩ => ⟨S8x8192, .i32⟩
  | .local _ .vmem, ⟨15, _⟩ => ⟨S8x8192, .i32⟩
  | .local _ .vmem, ⟨16, _⟩ => ⟨S128x512, .bf16⟩
  | .local _ .vmem, ⟨17, _⟩ => ⟨S8192x64, .f32⟩
  | .local _ .vmem, ⟨18, _⟩ => ⟨S8192x64, .f32⟩
  | .local _ .vmem, ⟨19, _⟩ => ⟨S128x8192, .f32⟩
  | .local _ .smem, ⟨0, _⟩ => ⟨S13x2, .i32⟩
  | _, _ => ⟨S100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_v0 : Ref sig .tc := ⟨.hbm, 24, rfl⟩
abbrev main_c_0 : Ref sig .tc := ⟨.hbm, 25, rfl⟩
abbrev main_call0_v0 : Ref sig .tc := ⟨.hbm, 26, rfl⟩
abbrev main_v1 : Ref sig .tc := ⟨.hbm, 27, rfl⟩
abbrev main_c_1 : Ref sig .tc := ⟨.hbm, 28, rfl⟩
abbrev main_call1_v0 : Ref sig .tc := ⟨.hbm, 29, rfl⟩
abbrev main_v2 : Ref sig .tc := ⟨.hbm, 30, rfl⟩
abbrev main_c_2 : Ref sig .tc := ⟨.hbm, 31, rfl⟩
abbrev main_call2_v0 : Ref sig .tc := ⟨.hbm, 32, rfl⟩
abbrev main_v3 : Ref sig .tc := ⟨.hbm, 33, rfl⟩
abbrev main_c_3 : Ref sig .tc := ⟨.hbm, 34, rfl⟩
abbrev main_call3_v0 : Ref sig .tc := ⟨.hbm, 35, rfl⟩
abbrev main_v4 : Ref sig .tc := ⟨.hbm, 36, rfl⟩
abbrev main_c_4 : Ref sig .tc := ⟨.hbm, 37, rfl⟩
abbrev main_call4_v0 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_cst : Ref sig .tc := ⟨.hbm, 49, rfl⟩
abbrev main_v15 : Ref sig .tc := ⟨.hbm, 50, rfl⟩
abbrev main_v16 : Ref sig .tc := ⟨.hbm, 51, rfl⟩
abbrev main_c_5 : Ref sig .tc := ⟨.hbm, 52, rfl⟩
abbrev main_call5_v0 : Ref sig .tc := ⟨.hbm, 53, rfl⟩
abbrev main_v17 : Ref sig .tc := ⟨.hbm, 54, rfl⟩
abbrev main_v18 : Ref sig .tc := ⟨.hbm, 55, rfl⟩
abbrev main_c_6 : Ref sig .tc := ⟨.hbm, 56, rfl⟩
abbrev main_call6_v0 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_c_7 : Ref sig .tc := ⟨.hbm, 62, rfl⟩
abbrev main_call7_v0 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_c_8 : Ref sig .tc := ⟨.hbm, 68, rfl⟩
abbrev main_call8_v0 : Ref sig .tc := ⟨.hbm, 69, rfl⟩
abbrev main_v27 : Ref sig .tc := ⟨.hbm, 70, rfl⟩
abbrev main_v28 : Ref sig .tc := ⟨.hbm, 71, rfl⟩
abbrev main_c_9 : Ref sig .tc := ⟨.hbm, 72, rfl⟩
abbrev main_call9_v0 : Ref sig .tc := ⟨.hbm, 73, rfl⟩
abbrev main_v29 : Ref sig .tc := ⟨.hbm, 74, rfl⟩
abbrev main_cst_10 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_c_11 : Ref sig .tc := ⟨.hbm, 87, rfl⟩
abbrev main_v41 : Ref sig .tc := ⟨.hbm, 88, rfl⟩
abbrev main_v42 : Ref sig .tc := ⟨.hbm, 89, rfl⟩
abbrev main_c_12 : Ref sig .tc := ⟨.hbm, 90, rfl⟩
abbrev main_v43 : Ref sig .tc := ⟨.hbm, 91, rfl⟩
abbrev main_v44 : Ref sig .tc := ⟨.hbm, 92, rfl⟩
abbrev main_c_13 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_c_14 : Ref sig .tc := ⟨.hbm, 100, rfl⟩
abbrev main_v51 : Ref sig .tc := ⟨.hbm, 101, rfl⟩
abbrev main_v52 : Ref sig .tc := ⟨.hbm, 102, rfl⟩
abbrev main_c_15 : Ref sig .tc := ⟨.hbm, 103, rfl⟩
abbrev main_v53 : Ref sig .tc := ⟨.hbm, 104, rfl⟩
abbrev main_v54 : Ref sig .tc := ⟨.hbm, 105, rfl⟩
abbrev main_c_16 : Ref sig .tc := ⟨.hbm, 106, rfl⟩
abbrev main_v55 : Ref sig .tc := ⟨.hbm, 107, rfl⟩
abbrev main_v56 : Ref sig .tc := ⟨.hbm, 108, rfl⟩
abbrev main_c_17 : Ref sig .tc := ⟨.hbm, 109, rfl⟩
abbrev main_v57 : Ref sig .tc := ⟨.hbm, 110, rfl⟩
abbrev main_v58 : Ref sig .tc := ⟨.hbm, 111, rfl⟩
abbrev main_c_18 : Ref sig .tc := ⟨.hbm, 112, rfl⟩
abbrev main_v59 : Ref sig .tc := ⟨.hbm, 113, rfl⟩
abbrev main_v60 : Ref sig .tc := ⟨.hbm, 114, rfl⟩
abbrev main_c_19 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_c_20 : Ref sig .tc := ⟨.hbm, 123, rfl⟩
abbrev main_call10_v0 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_c_21 : Ref sig .tc := ⟨.hbm, 128, rfl⟩
abbrev main_call11_v0 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_22 : Ref sig .tc := ⟨.hbm, 149, rfl⟩
abbrev main_v91 : Ref sig .tc := ⟨.hbm, 150, rfl⟩
abbrev main_cst_23 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_c_24 : Ref sig .tc := ⟨.hbm, 162, rfl⟩
abbrev main_call12_v0 : Ref sig .tc := ⟨.hbm, 163, rfl⟩
abbrev main_v102 : Ref sig .tc := ⟨.hbm, 164, rfl⟩
abbrev main_cst_25 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_c_26 : Ref sig .tc := ⟨.hbm, 174, rfl⟩
abbrev main_call13_v0 : Ref sig .tc := ⟨.hbm, 175, rfl⟩
abbrev main_v111 : Ref sig .tc := ⟨.hbm, 176, rfl⟩
abbrev main_v112 : Ref sig .tc := ⟨.hbm, 177, rfl⟩
abbrev main_v113_0 : Ref sig .tc := ⟨.hbm, 178, rfl⟩
abbrev main_v113_1 : Ref sig .tc := ⟨.hbm, 179, rfl⟩
abbrev main_v114 : Ref sig .tc := ⟨.hbm, 180, rfl⟩
abbrev main_v68 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![13], ![false]⟩

abbrev pre0 : Pipeline.Prefetch sig := ⟨1, ![main_v68.idx], fun | 0 => main_v68.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v208 : Index := Scalar.indexCast arg0
  let c0_54 : Index := 0#32
  ![v208.toNat, 0]
def k0_off2 (i : grid0.Coords) : Fin 2 → Nat :=
  let arg0 : BitVec 32 := BitVec.ofNat 32 (i 0).val
  let v210 : Index := Scalar.indexCast arg0
  let c1 : Index := 1#32
  ![v210.toNat, 1]
def k0_off3 (i : grid0.Coords) : Fin 2 → Nat :=
  let arg0 : BitVec 32 := BitVec.ofNat 32 (i 0).val
  let v217 : Index := Scalar.indexCast arg0
  let c0_57 : Index := 0#32
  ![v217.toNat, 0]
def k0_off4 (i : grid0.Coords) : Fin 2 → Nat :=
  let arg0 : BitVec 32 := BitVec.ofNat 32 (i 0).val
  let v219 : Index := Scalar.indexCast arg0
  let c1_58 : Index := 1#32
  ![v219.toNat, 1]
def k0_off5 (i : grid0.Coords) : Fin 2 → Nat :=
  let arg0 : BitVec 32 := BitVec.ofNat 32 (i 0).val
  let v226 : Index := Scalar.indexCast arg0
  let c0_61 : Index := 0#32
  ![v226.toNat, 0]
def k0_off6 (i : grid0.Coords) : Fin 2 → Nat :=
  let arg0 : BitVec 32 := BitVec.ofNat 32 (i 0).val
  let v228 : Index := Scalar.indexCast arg0
  let c1_62 : Index := 1#32
  ![v228.toNat, 1]
def k0_off7 (i : grid0.Coords) : Fin 2 → Nat :=
  let arg0 : BitVec 32 := BitVec.ofNat 32 (i 0).val
  let v235 : Index := Scalar.indexCast arg0
  let c0_65 : Index := 0#32
  ![v235.toNat, 0]
def k0_off8 (i : grid0.Coords) : Fin 2 → Nat :=
  let arg0 : BitVec 32 := BitVec.ofNat 32 (i 0).val
  let v237 : Index := Scalar.indexCast arg0
  let c1_66 : Index := 1#32
  ![v237.toNat, 1]
def k0_cond6 (i : grid0.Coords) : BitVec 1 :=
  let arg0 : BitVec 32 := BitVec.ofNat 32 (i 0).val
  let c12_i32 : BitVec 32 := 12#32
  let v244 : BitVec 1 := Scalar.cmpi .eq arg0 c12_i32
  let v245 : BitVec 32 := Scalar.extui v244
  let c0_i32_69 : BitVec 32 := 0#32
  let v246 : BitVec 1 := Scalar.cmpi .ne v245 c0_i32_69
  v246

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x96 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![13], ![false]⟩

abbrev pre1 : Pipeline.Prefetch sig := ⟨1, ![main_v68.idx], fun | 0 => main_v68.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 2 → Nat :=
  let arg0 : BitVec 32 := BitVec.ofNat 32 (i 0).val
  let v18 : Index := Scalar.indexCast arg0
  let c0_2 : Index := 0#32
  ![v18.toNat, 0]
def k1_off2 (i : grid1.Coords) : Fin 2 → Nat :=
  let arg0 : BitVec 32 := BitVec.ofNat 32 (i 0).val
  let v20 : Index := Scalar.indexCast arg0
  let c1 : Index := 1#32
  ![v20.toNat, 1]
def k1_off3 (i : grid1.Coords) : Fin 2 → Nat :=
  let arg0 : BitVec 32 := BitVec.ofNat 32 (i 0).val
  let v27 : Index := Scalar.indexCast arg0
  let c0_5 : Index := 0#32
  ![v27.toNat, 0]
def k1_off4 (i : grid1.Coords) : Fin 2 → Nat :=
  let arg0 : BitVec 32 := BitVec.ofNat 32 (i 0).val
  let v29 : Index := Scalar.indexCast arg0
  let c1_6 : Index := 1#32
  ![v29.toNat, 1]
def k1_off5 (i : grid1.Coords) : Fin 2 → Nat :=
  let arg0 : BitVec 32 := BitVec.ofNat 32 (i 0).val
  let v36 : Index := Scalar.indexCast arg0
  let c0_9 : Index := 0#32
  ![v36.toNat, 0]
def k1_off6 (i : grid1.Coords) : Fin 2 → Nat :=
  let arg0 : BitVec 32 := BitVec.ofNat 32 (i 0).val
  let v38 : Index := Scalar.indexCast arg0
  let c1_10 : Index := 1#32
  ![v38.toNat, 1]
def k1_off7 (i : grid1.Coords) : Fin 2 → Nat :=
  let arg0 : BitVec 32 := BitVec.ofNat 32 (i 0).val
  let v45 : Index := Scalar.indexCast arg0
  let c0_13 : Index := 0#32
  ![v45.toNat, 0]
def k1_off8 (i : grid1.Coords) : Fin 2 → Nat :=
  let arg0 : BitVec 32 := BitVec.ofNat 32 (i 0).val
  let v47 : Index := Scalar.indexCast arg0
  let c1_14 : Index := 1#32
  ![v47.toNat, 1]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x8192 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8192x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S100000 : Shape := ⟨1, ![100000]⟩
abbrev S100000x2 : Shape := ⟨2, ![100000, 2]⟩
abbrev S1000x64 : Shape := ⟨2, ![1000, 64]⟩
abbrev S500x64 : Shape := ⟨2, ![500, 64]⟩
abbrev S50x64 : Shape := ⟨2, ![50, 64]⟩
abbrev S2x64 : Shape := ⟨2, ![2, 64]⟩
abbrev S16x64 : Shape := ⟨2, ![16, 64]⟩
abbrev S64 : Shape := ⟨1, ![64]⟩
abbrev S1x64 : Shape := ⟨2, ![1, 64]⟩
abbrev S100000x1 : Shape := ⟨2, ![100000, 1]⟩
abbrev S100000x64 : Shape := ⟨2, ![100000, 64]⟩
abbrev S_ : Shape := ⟨0, ![]⟩
abbrev S1 : Shape := ⟨1, ![1]⟩
abbrev S1x1 : Shape := ⟨2, ![1, 1]⟩
abbrev S512 : Shape := ⟨1, ![512]⟩
abbrev S512x1 : Shape := ⟨2, ![512, 1]⟩
abbrev S512x64 : Shape := ⟨2, ![512, 64]⟩

abbrev nBuf : Space → Nat
  | .hbm => 215
  | .vmem => 0
  | .smem => 0
  | _ => 0

abbrev hbmTy0_0 (i : Nat) : BufTy := match i % 128 with
  | 0 => ⟨S100000, .f32⟩
  | 1 => ⟨S100000, .f32⟩
  | 2 => ⟨S100000, .i32⟩
  | 3 => ⟨S100000, .i32⟩
  | 4 => ⟨S100000, .i32⟩
  | 5 => ⟨S100000, .i32⟩
  | 6 => ⟨S100000x2, .f32⟩
  | 7 => ⟨S100000, .i32⟩
  | 8 => ⟨S100000, .i32⟩
  | 9 => ⟨S1000x64, .f32⟩
  | 10 => ⟨S500x64, .f32⟩
  | 11 => ⟨S50x64, .f32⟩
  | 12 => ⟨S2x64, .f32⟩
  | 13 => ⟨S16x64, .f32⟩
  | 14 => ⟨S2x64, .f32⟩
  | 15 => ⟨S64, .f32⟩
  | 16 => ⟨S1x64, .f32⟩
  | 17 => ⟨S64, .f32⟩
  | 18 => ⟨S1x64, .f32⟩
  | 19 => ⟨S64, .f32⟩
  | 20 => ⟨S64, .f32⟩
  | 21 => ⟨S64, .f32⟩
  | 22 => ⟨S64, .f32⟩
  | 23 => ⟨S100000x1, .f32⟩
  | 24 => ⟨S100000x64, .f32⟩
  | 25 => ⟨S1x64, .f32⟩
  | 26 => ⟨S100000x64, .f32⟩
  | 27 => ⟨S100000x64, .f32⟩
  | 28 => ⟨S100000x1, .f32⟩
  | 29 => ⟨S100000x64, .f32⟩
  | 30 => ⟨S1x64, .f32⟩
  | 31 => ⟨S100000x64, .f32⟩
  | 32 => ⟨S100000x64, .f32⟩
  | 33 => ⟨S_, .i32⟩
  | 34 => ⟨S100000, .i32⟩
  | 35 => ⟨S100000, .i1⟩
  | 36 => ⟨S_, .i32⟩
  | 37 => ⟨S100000, .i32⟩
  | 38 => ⟨S100000, .i32⟩
  | 39 => ⟨S100000, .i32⟩
  | 40 => ⟨S100000x1, .i32⟩
  | 41 => ⟨S1, .i32⟩
  | 42 => ⟨S_, .i32⟩
  | 43 => ⟨S100000x1, .i32⟩
  | 44 => ⟨S100000x1, .i1⟩
  | 45 => ⟨S1x1, .i32⟩
  | 46 => ⟨S100000x1, .i32⟩
  | 47 => ⟨S100000x1, .i1⟩
  | 48 => ⟨S100000x1, .i1⟩
  | 49 => ⟨S_, .i1⟩
  | 50 => ⟨S100000, .i1⟩
  | 51 => ⟨S100000x64, .f32⟩
  | 52 => ⟨S100000x64, .i1⟩
  | 53 => ⟨S_, .f32⟩
  | 54 => ⟨S100000x64, .f32⟩
  | 55 => ⟨S100000x64, .f32⟩
  | 56 => ⟨S_, .i32⟩
  | 57 => ⟨S100000, .i32⟩
  | 58 => ⟨S100000, .i1⟩
  | 59 => ⟨S_, .i32⟩
  | 60 => ⟨S100000, .i32⟩
  | 61 => ⟨S100000, .i32⟩
  | 62 => ⟨S100000, .i32⟩
  | 63 => ⟨S100000x1, .i32⟩
  | 64 => ⟨S1, .i32⟩
  | 65 => ⟨S_, .i32⟩
  | 66 => ⟨S100000x1, .i32⟩
  | 67 => ⟨S100000x1, .i1⟩
  | 68 => ⟨S1x1, .i32⟩
  | 69 => ⟨S100000x1, .i32⟩
  | 70 => ⟨S100000x1, .i1⟩
  | 71 => ⟨S100000x1, .i1⟩
  | 72 => ⟨S_, .i1⟩
  | 73 => ⟨S100000, .i1⟩
  | 74 => ⟨S100000x64, .f32⟩
  | 75 => ⟨S100000x64, .i1⟩
  | 76 => ⟨S_, .f32⟩
  | 77 => ⟨S100000x64, .f32⟩
  | 78 => ⟨S100000x64, .f32⟩
  | 79 => ⟨S_, .i32⟩
  | 80 => ⟨S100000, .i32⟩
  | 81 => ⟨S100000, .i1⟩
  | 82 => ⟨S_, .i32⟩
  | 83 => ⟨S100000, .i32⟩
  | 84 => ⟨S100000, .i32⟩
  | 85 => ⟨S100000, .i32⟩
  | 86 => ⟨S100000x1, .i32⟩
  | 87 => ⟨S1, .i32⟩
  | 88 => ⟨S_, .i32⟩
  | 89 => ⟨S100000x1, .i32⟩
  | 90 => ⟨S100000x1, .i1⟩
  | 91 => ⟨S1x1, .i32⟩
  | 92 => ⟨S100000x1, .i32⟩
  | 93 => ⟨S100000x1, .i1⟩
  | 94 => ⟨S100000x1, .i1⟩
  | 95 => ⟨S_, .i1⟩
  | 96 => ⟨S100000, .i1⟩
  | 97 => ⟨S100000x64, .f32⟩
  | 98 => ⟨S100000x64, .i1⟩
  | 99 => ⟨S_, .f32⟩
  | 100 => ⟨S100000x64, .f32⟩
  | 101 => ⟨S100000x64, .f32⟩
  | 102 => ⟨S_, .i32⟩
  | 103 => ⟨S100000, .i32⟩
  | 104 => ⟨S100000, .i1⟩
  | 105 => ⟨S_, .i32⟩
  | 106 => ⟨S100000, .i32⟩
  | 107 => ⟨S100000, .i32⟩
  | 108 => ⟨S100000, .i32⟩
  | 109 => ⟨S100000x1, .i32⟩
  | 110 => ⟨S1, .i32⟩
  | 111 => ⟨S_, .i32⟩
  | 112 => ⟨S100000x1, .i32⟩
  | 113 => ⟨S100000x1, .i1⟩
  | 114 => ⟨S1x1, .i32⟩
  | 115 => ⟨S100000x1, .i32⟩
  | 116 => ⟨S100000x1, .i1⟩
  | 117 => ⟨S100000x1, .i1⟩
  | 118 => ⟨S_, .i1⟩
  | 119 => ⟨S100000, .i1⟩
  | 120 => ⟨S100000x64, .f32⟩
  | 121 => ⟨S100000x64, .i1⟩
  | 122 => ⟨S_, .f32⟩
  | 123 => ⟨S100000x64, .f32⟩
  | 124 => ⟨S100000x64, .f32⟩
  | 125 => ⟨S100000x64, .f32⟩
  | 126 => ⟨S1x64, .f32⟩
  | 127 => ⟨S100000x64, .f32⟩
  | _ => ⟨S100000, .f32⟩

abbrev hbmTy0_1 (i : Nat) : BufTy := match i % 128 with
  | 0 => ⟨S100000x64, .f32⟩
  | 1 => ⟨S_, .i32⟩
  | 2 => ⟨S100000, .i32⟩
  | 3 => ⟨S100000, .i1⟩
  | 4 => ⟨S_, .i32⟩
  | 5 => ⟨S100000, .i32⟩
  | 6 => ⟨S100000, .i32⟩
  | 7 => ⟨S100000, .i32⟩
  | 8 => ⟨S100000x1, .i32⟩
  | 9 => ⟨S1, .i32⟩
  | 10 => ⟨S_, .i32⟩
  | 11 => ⟨S100000x1, .i32⟩
  | 12 => ⟨S100000x1, .i1⟩
  | 13 => ⟨S1x1, .i32⟩
  | 14 => ⟨S100000x1, .i32⟩
  | 15 => ⟨S100000x1, .i1⟩
  | 16 => ⟨S100000x1, .i1⟩
  | 17 => ⟨S_, .i1⟩
  | 18 => ⟨S100000, .i1⟩
  | 19 => ⟨S100000x64, .f32⟩
  | 20 => ⟨S100000x64, .i1⟩
  | 21 => ⟨S_, .f32⟩
  | 22 => ⟨S100000x64, .f32⟩
  | 23 => ⟨S100000x64, .f32⟩
  | 24 => ⟨S100000x64, .f32⟩
  | 25 => ⟨S100000x64, .f32⟩
  | 26 => ⟨S100000x64, .f32⟩
  | 27 => ⟨S100000x64, .f32⟩
  | 28 => ⟨S100000x64, .f32⟩
  | 29 => ⟨S100000x64, .f32⟩
  | 30 => ⟨S100000x64, .f32⟩
  | 31 => ⟨S_, .f32⟩
  | 32 => ⟨S100000, .f32⟩
  | 33 => ⟨S_, .f32⟩
  | 34 => ⟨S512, .f32⟩
  | 35 => ⟨S100000x1, .i32⟩
  | 36 => ⟨S512, .f32⟩
  | 37 => ⟨S_, .f32⟩
  | 38 => ⟨S512, .f32⟩
  | 39 => ⟨S512, .f32⟩
  | 40 => ⟨S512x1, .f32⟩
  | 41 => ⟨S_, .f32⟩
  | 42 => ⟨S512x64, .f32⟩
  | 43 => ⟨S100000x1, .i32⟩
  | 44 => ⟨S512x64, .f32⟩
  | 45 => ⟨S512x64, .f32⟩
  | 46 => ⟨S512x64, .f32⟩
  | 47 => ⟨S_, .i32⟩
  | 48 => ⟨S100000, .i32⟩
  | 49 => ⟨S100000, .i1⟩
  | 50 => ⟨S_, .i32⟩
  | 51 => ⟨S100000, .i32⟩
  | 52 => ⟨S100000, .i32⟩
  | 53 => ⟨S100000, .i32⟩
  | 54 => ⟨S100000x1, .i32⟩
  | 55 => ⟨S100000x64, .f32⟩
  | 56 => ⟨S1x64, .f32⟩
  | 57 => ⟨S100000x64, .f32⟩
  | 58 => ⟨S100000x64, .f32⟩
  | 59 => ⟨S100000x64, .f32⟩
  | 60 => ⟨S100000x64, .f32⟩
  | 61 => ⟨S_, .f32⟩
  | 62 => ⟨S512x64, .f32⟩
  | 63 => ⟨S100000x1, .i32⟩
  | 64 => ⟨S512x64, .f32⟩
  | 65 => ⟨S512x64, .f32⟩
  | 66 => ⟨S512x64, .f32⟩
  | 67 => ⟨S_, .f32⟩
  | 68 => ⟨S512x64, .f32⟩
  | 69 => ⟨S512x64, .f32⟩
  | 70 => ⟨S512x64, .f32⟩
  | 71 => ⟨S1x64, .f32⟩
  | 72 => ⟨S100000x64, .f32⟩
  | 73 => ⟨S100000x64, .f32⟩
  | 74 => ⟨S_, .i32⟩
  | 75 => ⟨S100000, .i32⟩
  | 76 => ⟨S100000, .i1⟩
  | 77 => ⟨S_, .i32⟩
  | 78 => ⟨S100000, .i32⟩
  | 79 => ⟨S100000, .i32⟩
  | 80 => ⟨S100000, .i32⟩
  | 81 => ⟨S100000x1, .i32⟩
  | 82 => ⟨S100000x64, .f32⟩
  | 83 => ⟨S100000x64, .f32⟩
  | 84 => ⟨S1x64, .f32⟩
  | 85 => ⟨S100000x64, .f32⟩
  | 86 => ⟨S100000x64, .f32⟩
  | _ => ⟨S100000, .f32⟩

abbrev hbmTy (i : Nat) : BufTy := match i / 128 with
  | 0 => hbmTy0_0 i
  | 1 => hbmTy0_1 i
  | _ => ⟨S100000, .f32⟩

abbrev bufTy : (tb : Table) → Fin (tcTables nBuf tb) → BufTy
  | .hbm, ⟨i, _⟩ => hbmTy i
  | _, _ => ⟨S100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_call0_cst : Ref sig .tc := ⟨.hbm, 53, rfl⟩
abbrev main_call0_v15 : Ref sig .tc := ⟨.hbm, 54, rfl⟩
abbrev main_v10 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_c_1 : Ref sig .tc := ⟨.hbm, 64, rfl⟩
abbrev main_call1_c_2 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_3 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_call1_cst : Ref sig .tc := ⟨.hbm, 76, rfl⟩
abbrev main_call1_v15 : Ref sig .tc := ⟨.hbm, 77, rfl⟩
abbrev main_v11 : Ref sig .tc := ⟨.hbm, 78, rfl⟩
abbrev main_call2_c : Ref sig .tc := ⟨.hbm, 79, rfl⟩
abbrev main_call2_v0 : Ref sig .tc := ⟨.hbm, 80, rfl⟩
abbrev main_call2_v1 : Ref sig .tc := ⟨.hbm, 81, rfl⟩
abbrev main_call2_c_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_c_1 : Ref sig .tc := ⟨.hbm, 87, rfl⟩
abbrev main_call2_c_2 : Ref sig .tc := ⟨.hbm, 88, rfl⟩
abbrev main_call2_v6 : Ref sig .tc := ⟨.hbm, 89, rfl⟩
abbrev main_call2_v7 : Ref sig .tc := ⟨.hbm, 90, rfl⟩
abbrev main_call2_v8 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_c_3 : Ref sig .tc := ⟨.hbm, 95, rfl⟩
abbrev main_call2_v12 : Ref sig .tc := ⟨.hbm, 96, rfl⟩
abbrev main_call2_v13 : Ref sig .tc := ⟨.hbm, 97, rfl⟩
abbrev main_call2_v14 : Ref sig .tc := ⟨.hbm, 98, rfl⟩
abbrev main_call2_cst : Ref sig .tc := ⟨.hbm, 99, rfl⟩
abbrev main_call2_v15 : Ref sig .tc := ⟨.hbm, 100, rfl⟩
abbrev main_v12 : Ref sig .tc := ⟨.hbm, 101, rfl⟩
abbrev main_call3_c : Ref sig .tc := ⟨.hbm, 102, rfl⟩
abbrev main_call3_v0 : Ref sig .tc := ⟨.hbm, 103, rfl⟩
abbrev main_call3_v1 : Ref sig .tc := ⟨.hbm, 104, rfl⟩
abbrev main_call3_c_0 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_call3_v5 : Ref sig .tc := ⟨.hbm, 109, rfl⟩
abbrev main_call3_c_1 : Ref sig .tc := ⟨.hbm, 110, rfl⟩
abbrev main_call3_c_2 : Ref sig .tc := ⟨.hbm, 111, rfl⟩
abbrev main_call3_v6 : Ref sig .tc := ⟨.hbm, 112, rfl⟩
abbrev main_call3_v7 : Ref sig .tc := ⟨.hbm, 113, rfl⟩
abbrev main_call3_v8 : Ref sig .tc := ⟨.hbm, 114, rfl⟩
abbrev main_call3_v9 : Ref sig .tc := ⟨.hbm, 115, rfl⟩
abbrev main_call3_v10 : Ref sig .tc := ⟨.hbm, 116, rfl⟩
abbrev main_call3_v11 : Ref sig .tc := ⟨.hbm, 117, rfl⟩
abbrev main_call3_c_3 : Ref sig .tc := ⟨.hbm, 118, rfl⟩
abbrev main_call3_v12 : Ref sig .tc := ⟨.hbm, 119, rfl⟩
abbrev main_call3_v13 : Ref sig .tc := ⟨.hbm, 120, rfl⟩
abbrev main_call3_v14 : Ref sig .tc := ⟨.hbm, 121, rfl⟩
abbrev main_call3_cst : Ref sig .tc := ⟨.hbm, 122, rfl⟩
abbrev main_call3_v15 : Ref sig .tc := ⟨.hbm, 123, rfl⟩
abbrev main_v13 : Ref sig .tc := ⟨.hbm, 124, rfl⟩
abbrev main_v14 : Ref sig .tc := ⟨.hbm, 125, rfl⟩
abbrev main_v15 : Ref sig .tc := ⟨.hbm, 126, rfl⟩
abbrev main_v16 : Ref sig .tc := ⟨.hbm, 127, rfl⟩
abbrev main_v17 : Ref sig .tc := ⟨.hbm, 128, rfl⟩
abbrev main_call4_c : Ref sig .tc := ⟨.hbm, 129, rfl⟩
abbrev main_call4_v0 : Ref sig .tc := ⟨.hbm, 130, rfl⟩
abbrev main_call4_v1 : Ref sig .tc := ⟨.hbm, 131, rfl⟩
abbrev main_call4_c_0 : Ref sig .tc := ⟨.hbm, 132, rfl⟩
abbrev main_call4_v2 : Ref sig .tc := ⟨.hbm, 133, rfl⟩
abbrev main_call4_v3 : Ref sig .tc := ⟨.hbm, 134, rfl⟩
abbrev main_call4_v4 : Ref sig .tc := ⟨.hbm, 135, rfl⟩
abbrev main_call4_v5 : Ref sig .tc := ⟨.hbm, 136, rfl⟩
abbrev main_call4_c_1 : Ref sig .tc := ⟨.hbm, 137, rfl⟩
abbrev main_call4_c_2 : Ref sig .tc := ⟨.hbm, 138, rfl⟩
abbrev main_call4_v6 : Ref sig .tc := ⟨.hbm, 139, rfl⟩
abbrev main_call4_v7 : Ref sig .tc := ⟨.hbm, 140, rfl⟩
abbrev main_call4_v8 : Ref sig .tc := ⟨.hbm, 141, rfl⟩
abbrev main_call4_v9 : Ref sig .tc := ⟨.hbm, 142, rfl⟩
abbrev main_call4_v10 : Ref sig .tc := ⟨.hbm, 143, rfl⟩
abbrev main_call4_v11 : Ref sig .tc := ⟨.hbm, 144, rfl⟩
abbrev main_call4_c_3 : Ref sig .tc := ⟨.hbm, 145, rfl⟩
abbrev main_call4_v12 : Ref sig .tc := ⟨.hbm, 146, rfl⟩
abbrev main_call4_v13 : Ref sig .tc := ⟨.hbm, 147, rfl⟩
abbrev main_call4_v14 : Ref sig .tc := ⟨.hbm, 148, rfl⟩
abbrev main_call4_cst : Ref sig .tc := ⟨.hbm, 149, rfl⟩
abbrev main_call4_v15 : Ref sig .tc := ⟨.hbm, 150, rfl⟩
abbrev main_v18 : Ref sig .tc := ⟨.hbm, 151, rfl⟩
abbrev main_v19 : Ref sig .tc := ⟨.hbm, 152, rfl⟩
abbrev main_v20 : Ref sig .tc := ⟨.hbm, 153, rfl⟩
abbrev main_v21 : Ref sig .tc := ⟨.hbm, 154, rfl⟩
abbrev main_v22 : Ref sig .tc := ⟨.hbm, 155, rfl⟩
abbrev main_v23 : Ref sig .tc := ⟨.hbm, 156, rfl⟩
abbrev main_v24 : Ref sig .tc := ⟨.hbm, 157, rfl⟩
abbrev main_v25 : Ref sig .tc := ⟨.hbm, 158, rfl⟩
abbrev main_cst : Ref sig .tc := ⟨.hbm, 159, rfl⟩
abbrev main_v26 : Ref sig .tc := ⟨.hbm, 160, rfl⟩
abbrev main_cst_0 : Ref sig .tc := ⟨.hbm, 161, rfl⟩
abbrev main_v27 : Ref sig .tc := ⟨.hbm, 162, rfl⟩
abbrev main_v28 : Ref sig .tc := ⟨.hbm, 163, rfl⟩
abbrev main_v29 : Ref sig .tc := ⟨.hbm, 164, rfl⟩
abbrev main_cst_1 : Ref sig .tc := ⟨.hbm, 165, rfl⟩
abbrev main_v30 : Ref sig .tc := ⟨.hbm, 166, rfl⟩
abbrev main_v31 : Ref sig .tc := ⟨.hbm, 167, rfl⟩
abbrev main_v32 : Ref sig .tc := ⟨.hbm, 168, rfl⟩
abbrev main_cst_2 : Ref sig .tc := ⟨.hbm, 169, rfl⟩
abbrev main_v33 : Ref sig .tc := ⟨.hbm, 170, rfl⟩
abbrev main_v34 : Ref sig .tc := ⟨.hbm, 171, rfl⟩
abbrev main_v35 : Ref sig .tc := ⟨.hbm, 172, rfl⟩
abbrev main_v36 : Ref sig .tc := ⟨.hbm, 173, rfl⟩
abbrev main_v37 : Ref sig .tc := ⟨.hbm, 174, rfl⟩
abbrev main_c : Ref sig .tc := ⟨.hbm, 175, rfl⟩
abbrev main_v38 : Ref sig .tc := ⟨.hbm, 176, rfl⟩
abbrev main_v39 : Ref sig .tc := ⟨.hbm, 177, rfl⟩
abbrev main_c_3 : Ref sig .tc := ⟨.hbm, 178, rfl⟩
abbrev main_v40 : Ref sig .tc := ⟨.hbm, 179, rfl⟩
abbrev main_v41 : Ref sig .tc := ⟨.hbm, 180, rfl⟩
abbrev main_v42 : Ref sig .tc := ⟨.hbm, 181, rfl⟩
abbrev main_v43 : Ref sig .tc := ⟨.hbm, 182, rfl⟩
abbrev main_v44 : Ref sig .tc := ⟨.hbm, 183, rfl⟩
abbrev main_v45 : Ref sig .tc := ⟨.hbm, 184, rfl⟩
abbrev main_v46 : Ref sig .tc := ⟨.hbm, 185, rfl⟩
abbrev main_v47 : Ref sig .tc := ⟨.hbm, 186, rfl⟩
abbrev main_v48 : Ref sig .tc := ⟨.hbm, 187, rfl⟩
abbrev main_v49 : Ref sig .tc := ⟨.hbm, 188, rfl⟩
abbrev main_cst_4 : Ref sig .tc := ⟨.hbm, 189, rfl⟩
abbrev main_v50 : Ref sig .tc := ⟨.hbm, 190, rfl⟩
abbrev main_v51 : Ref sig .tc := ⟨.hbm, 191, rfl⟩
abbrev main_v52 : Ref sig .tc := ⟨.hbm, 192, rfl⟩
abbrev main_v53 : Ref sig .tc := ⟨.hbm, 193, rfl⟩
abbrev main_v54 : Ref sig .tc := ⟨.hbm, 194, rfl⟩
abbrev main_cst_5 : Ref sig .tc := ⟨.hbm, 195, rfl⟩
abbrev main_v55 : Ref sig .tc := ⟨.hbm, 196, rfl⟩
abbrev main_v56 : Ref sig .tc := ⟨.hbm, 197, rfl⟩
abbrev main_v57 : Ref sig .tc := ⟨.hbm, 198, rfl⟩
abbrev main_v58 : Ref sig .tc := ⟨.hbm, 199, rfl⟩
abbrev main_v59 : Ref sig .tc := ⟨.hbm, 200, rfl⟩
abbrev main_v60 : Ref sig .tc := ⟨.hbm, 201, rfl⟩
abbrev main_c_6 : Ref sig .tc := ⟨.hbm, 202, rfl⟩
abbrev main_v61 : Ref sig .tc := ⟨.hbm, 203, rfl⟩
abbrev main_v62 : Ref sig .tc := ⟨.hbm, 204, rfl⟩
abbrev main_c_7 : Ref sig .tc := ⟨.hbm, 205, rfl⟩
abbrev main_v63 : Ref sig .tc := ⟨.hbm, 206, rfl⟩
abbrev main_v64 : Ref sig .tc := ⟨.hbm, 207, rfl⟩
abbrev main_v65 : Ref sig .tc := ⟨.hbm, 208, rfl⟩
abbrev main_v66 : Ref sig .tc := ⟨.hbm, 209, rfl⟩
abbrev main_v67 : Ref sig .tc := ⟨.hbm, 210, rfl⟩
abbrev main_v68 : Ref sig .tc := ⟨.hbm, 211, rfl⟩
abbrev main_v69 : Ref sig .tc := ⟨.hbm, 212, rfl⟩
abbrev main_v70 : Ref sig .tc := ⟨.hbm, 213, rfl⟩
abbrev main_v71 : Ref sig .tc := ⟨.hbm, 214, rfl⟩

abbrev nD : Nat := 1
abbrev τ : Topo := Topo.v7x

variable {F : FTy → Type} [FloatOps F]
-- ==== Proof.Steps.lean ====
/-
  The kernels' steps stated over values: a buffer is owned at the array it holds, a load reads that array at the load's rectangle, a store puts the
  payload there. The last lemma is the step both kernels repeat: under a condition, add one slab's contribution to the accumulator.
-/
module

public import Idealize.ShloMosaic.Lib.Pipeline.RegionArraysTS
public import Idealize.ShloMosaic.Lib.VecWindow
public import Idealize.ShloMosaic.Lib.Tactic

@[expose] public section

noncomputable section

namespace Cert.Steps

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name] {U : Type} [URA U]
variable {Lvl : Type} {Λ : Labels} [Preorder Lvl] {defs : Defs nD τ sig Val Λ} (𝒱 : Variants) (c : Thread nD τ)

local notation "𝕄" => MT nD τ sig Ix Val Name U Lvl

variable {α : Type} {Q : α → sProp (MT nD τ sig Ix Val Name U Lvl)}
variable {sp : CoreSpace} {s : Shape} {e : EltTy} {E : Set Name} {Γ : PendingWaitsCtx sig Ix} {bd : Option 𝒱.V}

/-- A load of a buffer owned at `X` reads `X` at the rectangle. -/
theorem load_step {m : Memref sig c.2.kind sp s e} {r : Rect s} {hl : m.view.LoadsAt r.toLoadRect}
    {k : (r.shape.Idx → Val e) → Prog (TpuEff nD τ sig Val Λ c.2) α} {q : PosShare TreeShare} {X : s.Idx → Val e} :
    (owns c m q X : sProp 𝕄)
      ⊢ iprop((owns c m q X -∗ wp frame (wpE' defs 𝒱 c bd Γ) E (k (View.ld X r)) Q)
          -∗ wp frame (wpE' defs 𝒱 c bd Γ) E (.op (.load m r.toLoadRect hl) k) Q) := by
  unfold owns
  iintro ⟨%f, %hf, H⟩ HQ
  iapply (wp_load 𝒱 c bd E (View.setOn_subset_set m.view _)) $$ H
  iintro H
  rw [View.readAt_eq_ld, hf]
  iapply HQ
  iexists f; isplitr; · ipureintro; exact hf
  iexact H

/-- A load of one table word reads the word of the table's array. -/
theorem word_step {m : Memref sig c.2.kind .smem s e} {r : Rect s} {h1 : r.shape.numel = 1} {hp : e.packing = 1}
    {k : Val e → Prog (TpuEff nD τ sig Val Λ c.2) α} {q : PosShare TreeShare} {X : s.Idx → Val e} :
    (owns c m q X : sProp 𝕄)
      ⊢ iprop((owns c m q X -∗ wp frame (wpE' defs 𝒱 c bd Γ) E (k (X (r.emb (Shape.Idx.first (h1.symm ▸ Nat.one_pos))))) Q)
          -∗ wp frame (wpE' defs 𝒱 c bd Γ) E (smemLoad m r h1 hp >>= k) Q) := by
  unfold owns
  iintro ⟨%f, %hf, H⟩ HQ
  have hb : (smemLoad (nD := nD) (τ := τ) (Val := Val) (Λ := Λ) m r h1 hp >>= k)
      = smemLoadElt m r (View.loads_smem_one hp h1) (Shape.Idx.first (h1.symm ▸ Nat.one_pos)) k := rfl
  rw [hb]
  iapply (wp_smemLoadElt 𝒱 c bd E (View.set_slice_subset m.view r)) $$ H
  iintro H
  have hv : (m.access r).read Val f (Shape.Idx.first (h1.symm ▸ Nat.one_pos)) = X (r.emb (Shape.Idx.first (h1.symm ▸ Nat.one_pos))) := by
    subst hf; rfl
  rw [hv]
  iapply HQ
  iexists f; isplitr; · ipureintro; exact hf
  iexact H

/-- A store of the buffer's own sizes leaves the payload, whatever the buffer held. -/
theorem store_step {m : Memref sig c.2.kind sp s e} {off : Fin s.rank → ℕ} {inb : ∀ a, off a + s.size a ≤ s.size a}
    {w : (Rect.unit off s.size inb).shape.Idx → Val e} {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig Val Λ c.2) α} {X : s.Idx → Val e} :
    (owns c m fullShare X : sProp 𝕄)
      ⊢ iprop((owns c m fullShare (w : s.Idx → Val e) -∗ wp frame (wpE' defs 𝒱 c bd Γ) E (k ⟨⟩) Q)
          -∗ wp frame (wpE' defs 𝒱 c bd Γ) E (.op (.store m (Rect.unit off s.size inb) w Finset.univ hx hm) k) Q) := by
  unfold owns
  iintro ⟨%f, %hf, H⟩ HQ
  iapply (wp_store 𝒱 c bd E (m := m) (r := Rect.unit off s.size inb) (S := m.view.set) (f := f) ((View.setOn_subset_set _ _).trans (View.set_slice_subset m.view _))) $$ H
  iintro H
  iapply HQ
  iexists _; isplitr; rotate_left; · iexact H
  ipureintro
  exact View.read_writes_full m.view f inb w []

/-- A store at a rectangle of its own sizes puts the payload there. -/
theorem put_step {m : Memref sig c.2.kind sp s e} {off size : Fin s.rank → ℕ} {inb : ∀ a, off a + size a ≤ s.size a}
    {w : (Rect.unit off size inb).shape.Idx → Val e} {hx : (m.access (Rect.unit off size inb)).Stores Finset.univ}
    {hm : (Finset.univ : Finset (Rect.unit off size inb).shape.Idx) = Finset.univ ∨ ∀ a, (Rect.unit off size inb).stride a = 1}
    {k : PUnit → Prog (TpuEff nD τ sig Val Λ c.2) α} {X : s.Idx → Val e} :
    (owns c m fullShare X : sProp 𝕄)
      ⊢ iprop((owns c m fullShare (VecWindow.put X off size w) -∗ wp frame (wpE' defs 𝒱 c bd Γ) E (k ⟨⟩) Q)
          -∗ wp frame (wpE' defs 𝒱 c bd Γ) E (.op (.store m (Rect.unit off size inb) w Finset.univ hx hm) k) Q) := by
  unfold owns
  iintro ⟨%f, %hf, H⟩ HQ
  iapply (wp_store 𝒱 c bd E (m := m) (r := Rect.unit off size inb) (S := m.view.set) (f := f) ((View.setOn_subset_set _ _).trans (View.set_slice_subset m.view _))) $$ H
  iintro H
  iapply HQ
  iexists _; isplitr; rotate_left; · iexact H
  ipureintro
  have h := View.read_writes_cons_put m.view f inb w [] rfl
  rw [View.writes_nil, hf] at h
  exact h

/-- One guarded addition. Under the condition `C` the accumulator's rectangle `ra` is loaded, then the operand's rectangle `ro`, then the
    accumulator's rectangle again, and `pay` of the two is stored over it; otherwise nothing happens. Either way the program goes on at `J`. -/
theorem guarded_step {C : Prop} [Decidable C] {acc : Memref sig c.2.kind sp s e} {off size : Fin s.rank → ℕ} {inb : ∀ a, off a + size a ≤ s.size a}
    {hl hl' : acc.view.LoadsAt (Rect.unit off size inb).toLoadRect}
    {pay : ((Rect.unit off size inb).shape.Idx → Val e) → (Rect.unit off size inb).shape.Idx → Val e}
    {hx : (acc.access (Rect.unit off size inb)).Stores Finset.univ}
    {hm : (Finset.univ : Finset (Rect.unit off size inb).shape.Idx) = Finset.univ ∨ ∀ a, (Rect.unit off size inb).stride a = 1}
    {J : Prog (TpuEff nD τ sig Val Λ c.2) α} {X : s.Idx → Val e} :
    (owns c acc fullShare X : sProp 𝕄)
      ⊢ iprop((owns c acc fullShare (if C then VecWindow.put X off size (pay (View.ld X (Rect.unit off size inb))) else X)
            -∗ wp frame (wpE' defs 𝒱 c bd Γ) E J Q)
          -∗ wp frame (wpE' defs 𝒱 c bd Γ) E
            (if C then do
              let v ← Prog.lift (TpuEff.load acc (Rect.unit off size inb).toLoadRect hl)
              let _ ← Prog.lift (TpuEff.load acc (Rect.unit off size inb).toLoadRect hl')
              Prog.lift (TpuEff.store acc (Rect.unit off size inb) (pay v) Finset.univ hx hm)
              J
            else J) Q) := by
  iintro H HQ
  by_cases hC : C
  · simp only [if_pos hC]
    iapply (load_step 𝒱 c) $$ H
    iintro H
    iapply (load_step 𝒱 c) $$ H
    iintro H
    iapply (put_step 𝒱 c) $$ H
    iintro H
    iapply HQ
    iexact H
  · simp only [if_neg hC]
    iapply HQ
    iexact H

/-- A program that has returned. -/
theorem ret_step {a : α} : Q a ⊢ wp frame (wpE' defs 𝒱 c bd Γ) E (.ret a : Prog (TpuEff nD τ sig Val Λ c.2) α) Q :=
  fupd_intro (PROP := sProp 𝕄)

/-- A load of the array's own sizes reads the array. -/
theorem ld_whole {s : Shape} {e : EltTy} (X : s.Idx → Val e) (off : Fin s.rank → ℕ) (inb : ∀ a, off a + s.size a ≤ s.size a) :
    View.ld X (Rect.unit off s.size inb) = X := by
  funext y
  exact congrArg X (Rect.emb_unit_full inb y)

/-- One guarded store. Under the condition `C` the buffer is loaded and then `w` is stored over all of it; otherwise nothing happens. -/
theorem guarded_store_step {C : Prop} [Decidable C] {m : Memref sig c.2.kind sp s e} {off : Fin s.rank → ℕ} {inb : ∀ a, off a + s.size a ≤ s.size a}
    {hl : m.view.LoadsAt (Rect.unit off s.size inb).toLoadRect} {w : s.Idx → Val e}
    {hx : (m.access (Rect.unit off s.size inb)).Stores Finset.univ}
    {hm : (Finset.univ : Finset (Rect.unit off s.size inb).shape.Idx) = Finset.univ ∨ ∀ a, (Rect.unit off s.size inb).stride a = 1}
    {J : Prog (TpuEff nD τ sig Val Λ c.2) α} {X : s.Idx → Val e} :
    (owns c m fullShare X : sProp 𝕄)
      ⊢ iprop((owns c m fullShare (if C then w else X) -∗ wp frame (wpE' defs 𝒱 c bd Γ) E J Q)
          -∗ wp frame (wpE' defs 𝒱 c bd Γ) E
            (if _h : C then do
              let _ ← Prog.lift (TpuEff.load m (Rect.unit off s.size inb).toLoadRect hl)
              Prog.lift (TpuEff.store m (Rect.unit off s.size inb) w Finset.univ hx hm)
              J
            else J) Q) := by
  iintro H HQ
  by_cases hC : C
  · simp only [dif_pos hC, if_pos hC]
    iapply (load_step 𝒱 c) $$ H
    iintro H
    iapply (store_step 𝒱 c) $$ H
    iintro H
    iapply HQ
    iexact H
  · simp only [dif_neg hC, if_neg hC]
    iapply HQ
    iexact H

variable {s' : Shape} {e' : EltTy}

/-- One guarded addition over the whole accumulator, the operand a slab of a second buffer. -/
theorem guarded_slab_step {C : Prop} [Decidable C] {acc : Memref sig c.2.kind sp s e} {op : Memref sig c.2.kind sp s' e'} {off : Fin s.rank → ℕ}
    {inb : ∀ a, off a + s.size a ≤ s.size a} {ro : Rect s'}
    {hl hl' : acc.view.LoadsAt (Rect.unit off s.size inb).toLoadRect} {ho : op.view.LoadsAt ro.toLoadRect}
    {pay : (s.Idx → Val e) → (ro.shape.Idx → Val e') → s.Idx → Val e}
    {hx : (acc.access (Rect.unit off s.size inb)).Stores Finset.univ}
    {hm : (Finset.univ : Finset (Rect.unit off s.size inb).shape.Idx) = Finset.univ ∨ ∀ a, (Rect.unit off s.size inb).stride a = 1}
    {J : Prog (TpuEff nD τ sig Val Λ c.2) α} {X : s.Idx → Val e} {Y : s'.Idx → Val e'} {q : PosShare TreeShare} :
    (iprop(owns c acc fullShare X ∗ owns c op q Y) : sProp 𝕄)
      ⊢ iprop((iprop(owns c acc fullShare (if C then pay X (View.ld Y ro) else X) ∗ owns c op q Y)
            -∗ wp frame (wpE' defs 𝒱 c bd Γ) E J Q)
          -∗ wp frame (wpE' defs 𝒱 c bd Γ) E
            (if C then do
              let v ← Prog.lift (TpuEff.load acc (Rect.unit off s.size inb).toLoadRect hl)
              let w ← Prog.lift (TpuEff.load op ro.toLoadRect ho)
              let _ ← Prog.lift (TpuEff.load acc (Rect.unit off s.size inb).toLoadRect hl')
              Prog.lift (TpuEff.store acc (Rect.unit off s.size inb) (pay v w) Finset.univ hx hm)
              J
            else J) Q) := by
  iintro ⟨H, HO⟩ HQ
  by_cases hC : C
  · simp only [if_pos hC]
    iapply (load_step 𝒱 c) $$ H
    iintro H
    iapply (load_step 𝒱 c) $$ HO
    iintro HO
    iapply (load_step 𝒱 c) $$ H
    iintro H
    iapply (store_step 𝒱 c) $$ H
    iintro H
    rw [ld_whole X off inb]
    iapply HQ
    isplitl [H]; · iexact H
    iexact HO
  · simp only [if_neg hC]
    iapply HQ
    isplitl [H]; · iexact H
    iexact HO

end Cert.Steps
-- ==== Proof.BodyB.lean ====
/-
  Pass B's body at one grid point, over values: what it leaves in its output block, as a function of the table of block bounds and its three
  input blocks.
-/
module

public import proofs.«01_k».proof.Proof.Gen.KernelIdeal.Launch
public import proofs.«01_k».proof.Proof.Gen.KernelIdeal.Skeleton
public import proofs.«01_k».proof.Proof.Steps

@[expose] public section

noncomputable section

namespace Cert.KernelIdeal.PassB

open Cert.KernelIdeal Cert.KernelIdeal.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The certificate's ghost state: the pipeline library's rounds and the transfers' counters. -/
abbrev UU : Type := UR sig nD τ × Counters

local notation "𝕄" => MT nD τ sig Unit (Elt F) ℕ UU ℕ

/-- The table word at the offsets `off`. -/
def word (T : S13x2.Idx → Elt F .i32) (off : Fin 2 → ℕ) (inb : ∀ a, off a + S1x1.size a ≤ S13x2.size a) : BitVec 32 :=
  T ((Rect.unit (s := S13x2) off S1x1.size inb).emb (Shape.Idx.first (numel1_S1x1.symm ▸ Nat.one_pos)))

/-- The word of the program's condition "the block's batches, from `a` to `b`, meet the piece from `lo` up to `hi`". -/
def meets (a b lo hi : BitVec 32) : Prop :=
  Scalar.cmpi .ne (Scalar.extui (Scalar.andi (Scalar.cmpi .sge b lo) (Scalar.cmpi .slt a hi)) : BitVec 32) 0#32 = 1#1

instance (a b lo hi : BitVec 32) : Decidable (meets a b lo hi) := inferInstanceAs (Decidable (_ = _))

/-- The batch numbers of the block's rows: row 4 of the index block. -/
abbrev batchRow (X3 : S8x8192.Idx → Elt F .i32) : Vec F S1x8192 .i32 :=
  View.ld X3 (Rect.unit (s := S8x8192) ![4, 0] S1x8192.size inb_S8x8192_S1x8192_4_0)

/-- The first two pieces' sum. -/
def acc2 (i : grid1.Coords) (T : S13x2.Idx → Elt F .i32) (X3 : S8x8192.Idx → Elt F .i32) (X4 : S128x512.Idx → Elt F .bf16) : FVec F S128x8192 .f32 :=
  let v0 := batchRow X3
  let A0 : FVec F S128x8192 .f32 := k1_pay7
  let A1 := if meets (word T (k1_off1 i) (k1_off1_inb i)) (word T (k1_off2 i) (k1_off2_inb i)) 0#32 128#32 then
    k1_pay8 v0 A0 (View.ld X4 (Rect.unit (s := S128x512) ![0, 0] S128x128.size inb_S128x512_S128x128_0_0)) else A0
  if meets (word T (k1_off3 i) (k1_off3_inb i)) (word T (k1_off4 i) (k1_off4_inb i)) 128#32 256#32 then
    k1_pay9 v0 A1 (View.ld X4 (Rect.unit (s := S128x512) ![0, 128] S128x128.size inb_S128x512_S128x128_0_128)) else A1

/-- All four pieces' sum. -/
def acc4 (i : grid1.Coords) (T : S13x2.Idx → Elt F .i32) (X3 : S8x8192.Idx → Elt F .i32) (X4 : S128x512.Idx → Elt F .bf16) : FVec F S128x8192 .f32 :=
  let v5 := k1_pay5 (batchRow X3)
  let v13 := k1_pay6 (batchRow X3)
  let A2 := acc2 i T X3 X4
  let A3 := if meets (word T (k1_off5 i) (k1_off5_inb i)) (word T (k1_off6 i) (k1_off6_inb i)) 256#32 384#32 then
    k1_pay1 v5 v13 A2 (View.ld X4 (Rect.unit (s := S128x512) ![0, 256] S128x128.size inb_S128x512_S128x128_0_256)) else A2
  if meets (word T (k1_off7 i) (k1_off7_inb i)) (word T (k1_off8 i) (k1_off8_inb i)) 384#32 512#32 then
    k1_pay2 v5 v13 A3 (View.ld X4 (Rect.unit (s := S128x512) ![0, 384] S128x128.size inb_S128x512_S128x128_0_384)) else A3

/-- The output block. -/
def outB (i : grid1.Coords) (T : S13x2.Idx → Elt F .i32) (X2 : S64x8192.Idx → Elt F .bf16) (X3 : S8x8192.Idx → Elt F .i32)
    (X4 : S128x512.Idx → Elt F .bf16) : S8192x64.Idx → Elt F .f32 :=
  k1_pay3 (acc4 i T X3 X4) X2

section
variable (c : Dev nD) (i : grid1.Coords) (M1 : Memref sig .tc .smem S13x2 .i32) (h1 : M1.IsWhole) (M2 : Memref sig .tc .vmem S64x8192 .bf16) (h2 : M2.IsWhole)
    (M3 : Memref sig .tc .vmem S8x8192 .i32) (h3 : M3.IsWhole) (M4 : Memref sig .tc .vmem S128x512 .bf16) (h4 : M4.IsWhole)
    (M5 : Memref sig .tc .vmem S8192x64 .f32) (h5 : M5.IsWhole) (M6 : Memref sig .tc .vmem S128x8192 .f32) (h6 : M6.IsWhole)
    (T : S13x2.Idx → Elt F .i32) (X2 : S64x8192.Idx → Elt F .bf16) (X3 : S8x8192.Idx → Elt F .i32) (X4 : S128x512.Idx → Elt F .bf16)

/-- The first half: the scratch is cleared and the first two pieces are added. -/
theorem part1 (X6 : S128x8192.Idx → Elt F .f32) (E : Set ℕ)
    (Q : (Σ' (_ : BitVec 32) (_ : IVec S1x8192 32), FVec F S128x8192 .bf16) → sProp 𝕄) :
    iprop(owns (c : Thread nD τ) M1 fullShare T ∗ owns (c : Thread nD τ) M3 fullShare X3 ∗ owns (c : Thread nD τ) M4 fullShare X4 ∗ owns (c : Thread nD τ) M6 fullShare X6
      ∗ (iprop(owns (c : Thread nD τ) M1 fullShare T ∗ owns (c : Thread nD τ) M3 fullShare X3 ∗ owns (c : Thread nD τ) M4 fullShare X4
          ∗ owns (c : Thread nD τ) M6 fullShare (acc2 i T X3 X4)) -∗ Q ⟨BitVec.ofNat 32 (i 0).val, k1_pay5 (batchRow X3), k1_pay6 (batchRow X3)⟩))
      ⊢ wp frame (wpE (defs₀ (F := F)) Variants.none c none) E (k1_part1 i M1 h1 M2 h2 M3 h3 M4 h4 M5 h5 M6 h6) Q := by
  rw [k1_part1_eq_skeleton]
  unfold k1_part1_skel
  iintro ⟨H1, H3, H4, H6, HQ⟩
  iapply (load_step Variants.none (c : Thread nD τ)) $$ H3
  iintro H3
  iapply (load_step Variants.none (c : Thread nD τ)) $$ H6
  iintro H6
  iapply (store_step Variants.none (c : Thread nD τ)) $$ H6
  iintro H6
  iapply (word_step Variants.none (c : Thread nD τ) (h1 := numel1_S1x1) (hp := rfl)) $$ H1
  iintro H1
  iapply (word_step Variants.none (c : Thread nD τ) (h1 := numel1_S1x1) (hp := rfl)) $$ H1
  iintro H1
  icombine H6 H4 as H
  iapply (guarded_slab_step Variants.none (c : Thread nD τ)) $$ H
  iintro ⟨H6, H4⟩
  iapply (word_step Variants.none (c : Thread nD τ) (h1 := numel1_S1x1) (hp := rfl)) $$ H1
  iintro H1
  iapply (word_step Variants.none (c : Thread nD τ) (h1 := numel1_S1x1) (hp := rfl)) $$ H1
  iintro H1
  icombine H6 H4 as H
  iapply (guarded_slab_step Variants.none (c : Thread nD τ)) $$ H
  iintro ⟨H6, H4⟩
  iapply (ret_step Variants.none (c : Thread nD τ))
  iapply HQ
  isplitl [H1]; · iexact H1
  isplitl [H3]; · iexact H3
  isplitl [H4]; · iexact H4
  iexact H6

/-- The whole body at one grid point: the table and the inputs are handed back, the output block holds `outB`. -/
theorem body (X5 : S8192x64.Idx → Elt F .f32) (X6 : S128x8192.Idx → Elt F .f32) (E : Set ℕ) (Q : PUnit → sProp 𝕄) :
    iprop(owns (c : Thread nD τ) M1 fullShare T ∗ owns (c : Thread nD τ) M2 fullShare X2 ∗ owns (c : Thread nD τ) M3 fullShare X3
      ∗ owns (c : Thread nD τ) M4 fullShare X4 ∗ owns (c : Thread nD τ) M5 fullShare X5 ∗ owns (c : Thread nD τ) M6 fullShare X6
      ∗ (iprop(owns (c : Thread nD τ) M1 fullShare T ∗ owns (c : Thread nD τ) M2 fullShare X2 ∗ owns (c : Thread nD τ) M3 fullShare X3
          ∗ owns (c : Thread nD τ) M4 fullShare X4 ∗ owns (c : Thread nD τ) M5 fullShare (outB i T X2 X3 X4)
          ∗ owns (c : Thread nD τ) M6 fullShare (acc4 i T X3 X4)) -∗ Q ⟨⟩))
      ⊢ wp frame (wpE (defs₀ (F := F)) Variants.none c none) E (cc1__pass_b_kernel i M1 h1 M2 h2 M3 h3 M4 h4 M5 h5 M6 h6) Q := by
  rw [cc1__pass_b_kernel_eq_skeleton]
  unfold cc1__pass_b_kernel_skel
  rw [wp_bind]
  iintro ⟨H1, H2, H3, H4, H5, H6, HQ⟩
  iapply (part1 c i M1 h1 M2 h2 M3 h3 M4 h4 M5 h5 M6 h6 T X3 X4 X6 E _)
  isplitl [H1]; · iexact H1
  isplitl [H3]; · iexact H3
  isplitl [H4]; · iexact H4
  isplitl [H6]; · iexact H6
  iintro ⟨H1, H3, H4, H6⟩
  iapply (word_step Variants.none (c : Thread nD τ) (h1 := numel1_S1x1) (hp := rfl)) $$ H1
  iintro H1
  iapply (word_step Variants.none (c : Thread nD τ) (h1 := numel1_S1x1) (hp := rfl)) $$ H1
  iintro H1
  icombine H6 H4 as H
  iapply (guarded_slab_step Variants.none (c : Thread nD τ)) $$ H
  iintro ⟨H6, H4⟩
  iapply (word_step Variants.none (c : Thread nD τ) (h1 := numel1_S1x1) (hp := rfl)) $$ H1
  iintro H1
  iapply (word_step Variants.none (c : Thread nD τ) (h1 := numel1_S1x1) (hp := rfl)) $$ H1
  iintro H1
  icombine H6 H4 as H
  iapply (guarded_slab_step Variants.none (c : Thread nD τ)) $$ H
  iintro ⟨H6, H4⟩
  iapply (load_step Variants.none (c : Thread nD τ)) $$ H6
  iintro H6
  iapply (load_step Variants.none (c : Thread nD τ)) $$ H2
  iintro H2
  iapply (load_step Variants.none (c : Thread nD τ)) $$ H5
  iintro H5
  iapply (store_step Variants.none (c : Thread nD τ)) $$ H5
  iintro H5
  iapply (ret_step Variants.none (c : Thread nD τ))
  iapply HQ
  rw [ld_whole, ld_whole]
  isplitl [H1]; · iexact H1
  isplitl [H2]; · iexact H2
  isplitl [H3]; · iexact H3
  isplitl [H4]; · iexact H4
  isplitl [H5]; · iexact H5
  iexact H6

end
end Cert.KernelIdeal.PassB
-- ==== Proof.BodyA.lean ====
/-
  Pass A's body at one grid point, over values: the block of feature sums it writes, what it adds to the scratch sums, and, at the last point,
  the scale and shift it writes for every batch.
-/
module

public import proofs.«01_k».proof.Proof.BodyB

@[expose] public section

noncomputable section

namespace Cert.KernelIdeal.PassA

open Cert.KernelIdeal Cert.KernelIdeal.Gen Cert.Steps
open Cert.KernelIdeal.PassB (UU word meets)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The `j`-th slab of 128 columns of the 1024-wide table. -/
abbrev slab4 (X4 : S64x1024.Idx → Elt F .bf16) (off : Fin 2 → ℕ) (inb : ∀ a, off a + S64x128.size a ≤ S64x1024.size a) : Vec F S64x128 .bf16 :=
  View.ld X4 (Rect.unit (s := S64x1024) off S64x128.size inb)

/-- The `j`-th slab of 128 columns of the 512-wide table. -/
abbrev slab5 (X5 : S64x512.Idx → Elt F .bf16) (off : Fin 2 → ℕ) (inb : ∀ a, off a + S64x128.size a ≤ S64x512.size a) : Vec F S64x128 .bf16 :=
  View.ld X5 (Rect.unit (s := S64x512) off S64x128.size inb)

/-- The word of the program's condition "this is the first grid point". -/
def first (i : grid0.Coords) : Prop :=
  Scalar.cmpi .ne (Scalar.extui (Scalar.cmpi .eq (BitVec.ofNat 32 (i 0).val) 0#32) : BitVec 32) 0#32 = 1#1

instance (i : grid0.Coords) : Decidable (first i) := inferInstanceAs (Decidable (_ = _))

/-- The first table's rows, looked up and summed: slabs 0 to 3. -/
abbrev sum4a (X2 : S8x8192.Idx → Elt F .i32) (X4 : S64x1024.Idx → Elt F .bf16) : FVec F S64x8192 .f32 :=
  k0_pay23 (k0_pay15 X2) (k0_pay16 X2) (k0_pay17 X2) (k0_pay18 X2)
    (slab4 X4 ![0, 0] inb_S64x1024_S64x128_0_0) (slab4 X4 ![0, 128] inb_S64x1024_S64x128_0_128)
    (slab4 X4 ![0, 256] inb_S64x1024_S64x128_0_256) (slab4 X4 ![0, 384] inb_S64x1024_S64x128_0_384)

/-- The first table's rows, looked up and summed: all eight slabs. -/
abbrev sum4 (X2 : S8x8192.Idx → Elt F .i32) (X4 : S64x1024.Idx → Elt F .bf16) : FVec F S64x8192 .f32 :=
  k0_pay24 (k0_pay19 (k0_pay13 X2) (k0_pay14 X2) 4#32) (k0_pay20 (k0_pay13 X2) (k0_pay14 X2)) (k0_pay21 (k0_pay13 X2) (k0_pay14 X2))
    (k0_pay22 (k0_pay13 X2) (k0_pay14 X2)) (sum4a X2 X4)
    (slab4 X4 ![0, 512] inb_S64x1024_S64x128_0_512) (slab4 X4 ![0, 640] inb_S64x1024_S64x128_0_640)
    (slab4 X4 ![0, 768] inb_S64x1024_S64x128_0_768) (slab4 X4 ![0, 896] inb_S64x1024_S64x128_0_896)

/-- The first two tables' rows, looked up and summed. -/
abbrev sum45 (X2 : S8x8192.Idx → Elt F .i32) (X4 : S64x1024.Idx → Elt F .bf16) (X5 : S64x512.Idx → Elt F .bf16) : FVec F S64x8192 .f32 :=
  k0_pay31 (sum4 X2 X4) (k0_pay26 (k0_pay11 X2)) (k0_pay27 (F := F) (k0_pay11 X2)) (k0_pay28 (F := F) (k0_pay11 X2)) (k0_pay29 (F := F) (k0_pay11 X2)) k0_pay30
    (slab5 X5 ![0, 0] inb_S64x512_S64x128_0_0) (slab5 X5 ![0, 128] inb_S64x512_S64x128_0_128)
    (slab5 X5 ![0, 256] inb_S64x512_S64x128_0_256) (slab5 X5 ![0, 384] inb_S64x512_S64x128_0_384)

/-- The block of feature sums written to the first output. -/
abbrev outX (X2 : S8x8192.Idx → Elt F .i32) (X3 : S8x8192.Idx → Elt F .bf16) (X4 : S64x1024.Idx → Elt F .bf16) (X5 : S64x512.Idx → Elt F .bf16)
    (X6 : S64x96.Idx → Elt F .bf16) : S64x8192.Idx → Elt F .bf16 :=
  k0_pay35 (sum45 X2 X4 X5) (k0_pay32 (F := F) (k0_pay11 X2)) (k0_pay33 (k0_pay11 X2)) X3 X6

/-- The rows summed into the scratch: the features, their squares, and ones. -/
abbrev rows (X2 : S8x8192.Idx → Elt F .i32) (X3 : S8x8192.Idx → Elt F .bf16) (X4 : S64x1024.Idx → Elt F .bf16) (X5 : S64x512.Idx → Elt F .bf16)
    (X6 : S64x96.Idx → Elt F .bf16) : FVec F S136x8192 .bf16 :=
  k0_pay37 (sum45 X2 X4 X5) (k0_pay32 (F := F) (k0_pay11 X2)) (k0_pay33 (k0_pay11 X2)) X3 X6

/-- The scratch before anything is added at this grid point: cleared at the first one. -/
def scr0 (i : grid0.Coords) (X10 : S136x512.Idx → Elt F .f32) : S136x512.Idx → Elt F .f32 := if first i then k0_pay10 (F := F) else X10

/-- The scratch after the first piece. -/
def scr1 (i : grid0.Coords) (T : S13x2.Idx → Elt F .i32) (X2 : S8x8192.Idx → Elt F .i32) (X3 : S8x8192.Idx → Elt F .bf16) (X4 : S64x1024.Idx → Elt F .bf16)
    (X5 : S64x512.Idx → Elt F .bf16) (X6 : S64x96.Idx → Elt F .bf16) (X10 : S136x512.Idx → Elt F .f32) : S136x512.Idx → Elt F .f32 :=
  if meets (word T (k0_off1 i) (k0_off1_inb i)) (word T (k0_off2 i) (k0_off2_inb i)) 0#32 128#32 then
    VecWindow.put X10 ![0, 0] S136x128.size (k0_pay40 (k0_pay11 X2) (sum45 X2 X4 X5) (k0_pay32 (F := F) (k0_pay11 X2)) (k0_pay33 (k0_pay11 X2)) X3 X6
      (View.ld X10 (Rect.unit (s := S136x512) ![0, 0] S136x128.size inb_S136x512_S136x128_0_0))) else X10

/-- The scratch after the other three pieces. -/
def scr4 (i : grid0.Coords) (T : S13x2.Idx → Elt F .i32) (X2 : S8x8192.Idx → Elt F .i32) (X3 : S8x8192.Idx → Elt F .bf16) (X4 : S64x1024.Idx → Elt F .bf16)
    (X5 : S64x512.Idx → Elt F .bf16) (X6 : S64x96.Idx → Elt F .bf16) (X10 : S136x512.Idx → Elt F .f32) : S136x512.Idx → Elt F .f32 :=
  let v195 := rows X2 X3 X4 X5 X6
  let v199 := k0_pay38 (k0_pay11 X2)
  let v207 := k0_pay39 (F := F) (k0_pay11 X2)
  let A2 := if meets (word T (k0_off3 i) (k0_off3_inb i)) (word T (k0_off4 i) (k0_off4_inb i)) 128#32 256#32 then
    VecWindow.put X10 ![0, 128] S136x128.size (k0_pay1 v195 v199 v207
      (View.ld X10 (Rect.unit (s := S136x512) ![0, 128] S136x128.size inb_S136x512_S136x128_0_128))) else X10
  let A3 := if meets (word T (k0_off5 i) (k0_off5_inb i)) (word T (k0_off6 i) (k0_off6_inb i)) 256#32 384#32 then
    VecWindow.put A2 ![0, 256] S136x128.size (k0_pay2 v195 v199 v207
      (View.ld A2 (Rect.unit (s := S136x512) ![0, 256] S136x128.size inb_S136x512_S136x128_0_256))) else A2
  if meets (word T (k0_off7 i) (k0_off7_inb i)) (word T (k0_off8 i) (k0_off8_inb i)) 384#32 512#32 then
    VecWindow.put A3 ![0, 384] S136x128.size (k0_pay3 v195 v199 v207
      (View.ld A3 (Rect.unit (s := S136x512) ![0, 384] S136x128.size inb_S136x512_S136x128_0_384))) else A3

/-- The scratch after this grid point. -/
def scr (i : grid0.Coords) (T : S13x2.Idx → Elt F .i32) (X2 : S8x8192.Idx → Elt F .i32) (X3 : S8x8192.Idx → Elt F .bf16) (X4 : S64x1024.Idx → Elt F .bf16)
    (X5 : S64x512.Idx → Elt F .bf16) (X6 : S64x96.Idx → Elt F .bf16) (X10 : S136x512.Idx → Elt F .f32) : S136x512.Idx → Elt F .f32 :=
  scr4 i T X2 X3 X4 X5 X6 (scr1 i T X2 X3 X4 X5 X6 (scr0 i X10))

/-- The counts' row of the scratch. -/
abbrev cntRow (S : S136x512.Idx → Elt F .f32) : Vec F S1x512 .f32 := View.ld S (Rect.unit (s := S136x512) ![128, 0] S1x512.size inb_S136x512_S1x512_128_0)
/-- The sums' rows of the scratch. -/
abbrev sumRows (S : S136x512.Idx → Elt F .f32) : Vec F S64x512 .f32 := View.ld S (Rect.unit (s := S136x512) ![0, 0] S64x512.size inb_S136x512_S64x512_0_0)
/-- The squares' rows of the scratch. -/
abbrev sqRows (S : S136x512.Idx → Elt F .f32) : Vec F S64x512 .f32 := View.ld S (Rect.unit (s := S136x512) ![64, 0] S64x512.size inb_S136x512_S64x512_64_0)
/-- Column `j` of the norm's parameters. -/
abbrev gcol (X7 : S64x8.Idx → Elt F .f32) (off : Fin 2 → ℕ) (inb : ∀ a, off a + S64x1.size a ≤ S64x8.size a) : Vec F S64x1 .f32 :=
  View.ld X7 (Rect.unit (s := S64x8) off S64x1.size inb)

/-- The second output after the last grid point: the scales over the shifts. -/
def outAC (S : S136x512.Idx → Elt F .f32) (X7 : S64x8.Idx → Elt F .f32) (X9 : S128x512.Idx → Elt F .bf16) : S128x512.Idx → Elt F .bf16 :=
  VecWindow.put
    (VecWindow.put X9 ![0, 0] S64x512.size
      (k0_pay8 (cntRow S) (sumRows S) (gcol X7 ![0, 0] inb_S64x8_S64x1_0_0) (sqRows S) (gcol X7 ![0, 1] inb_S64x8_S64x1_0_1)))
    ![64, 0] S64x512.size
    (k0_pay9 (cntRow S) (sumRows S) (gcol X7 ![0, 0] inb_S64x8_S64x1_0_0) (sqRows S) (gcol X7 ![0, 1] inb_S64x8_S64x1_0_1)
      (gcol X7 ![0, 2] inb_S64x8_S64x1_0_2))

section
variable (c : Dev nD) (i : grid0.Coords) (M1 : Memref sig .tc .smem S13x2 .i32) (h1 : M1.IsWhole) (M2 : Memref sig .tc .vmem S8x8192 .i32) (h2 : M2.IsWhole)
    (M3 : Memref sig .tc .vmem S8x8192 .bf16) (h3 : M3.IsWhole) (M4 : Memref sig .tc .vmem S64x1024 .bf16) (h4 : M4.IsWhole)
    (M5 : Memref sig .tc .vmem S64x512 .bf16) (h5 : M5.IsWhole) (M6 : Memref sig .tc .vmem S64x96 .bf16) (h6 : M6.IsWhole)
    (M7 : Memref sig .tc .vmem S64x8 .f32) (h7 : M7.IsWhole) (M8 : Memref sig .tc .vmem S64x8192 .bf16) (h8 : M8.IsWhole)
    (M9 : Memref sig .tc .vmem S128x512 .bf16) (h9 : M9.IsWhole) (M10 : Memref sig .tc .vmem S136x512 .f32) (h10 : M10.IsWhole)
    (T : S13x2.Idx → Elt F .i32) (X2 : S8x8192.Idx → Elt F .i32) (X3 : S8x8192.Idx → Elt F .bf16) (X4 : S64x1024.Idx → Elt F .bf16)
    (X5 : S64x512.Idx → Elt F .bf16) (X6 : S64x96.Idx → Elt F .bf16) (X7 : S64x8.Idx → Elt F .f32)

/-- The finalizing loads and stores of the last grid point, up to the last store. -/
theorem part1 (S : S136x512.Idx → Elt F .f32) (X9 : S128x512.Idx → Elt F .bf16) (E : Set ℕ) (Q : FVec F S64x512 .bf16 → sProp 𝕄) :
    iprop(owns (c : Thread nD τ) M7 fullShare X7 ∗ owns (c : Thread nD τ) M9 fullShare X9 ∗ owns (c : Thread nD τ) M10 fullShare S
      ∗ (iprop(owns (c : Thread nD τ) M7 fullShare X7 ∗ owns (c : Thread nD τ) M9 fullShare (VecWindow.put X9 ![0, 0] S64x512.size (k0_pay8 (cntRow S) (sumRows S) (gcol X7 ![0, 0] inb_S64x8_S64x1_0_0) (sqRows S) (gcol X7 ![0, 1] inb_S64x8_S64x1_0_1))) ∗ owns (c : Thread nD τ) M10 fullShare S) -∗ Q (k0_pay9 (cntRow S) (sumRows S) (gcol X7 ![0, 0] inb_S64x8_S64x1_0_0) (sqRows S) (gcol X7 ![0, 1] inb_S64x8_S64x1_0_1) (gcol X7 ![0, 2] inb_S64x8_S64x1_0_2))))
      ⊢ wp frame (wpE (defs₀ (F := F)) Variants.none c none) E (k0_part1 i M1 h1 M2 h2 M3 h3 M4 h4 M5 h5 M6 h6 M7 h7 M8 h8 M9 h9 M10 h10) Q := by
  rw [k0_part1_eq_skeleton]
  unfold k0_part1_skel
  iintro ⟨H7, H9, H10, HQ⟩
  iapply (load_step Variants.none (c : Thread nD τ)) $$ H10
  iintro H10
  iapply (load_step Variants.none (c : Thread nD τ)) $$ H10
  iintro H10
  iapply (load_step Variants.none (c : Thread nD τ)) $$ H7
  iintro H7
  iapply (load_step Variants.none (c : Thread nD τ)) $$ H10
  iintro H10
  iapply (load_step Variants.none (c : Thread nD τ)) $$ H7
  iintro H7
  iapply (load_step Variants.none (c : Thread nD τ)) $$ H9
  iintro H9
  iapply (put_step Variants.none (c : Thread nD τ)) $$ H9
  iintro H9
  iapply (load_step Variants.none (c : Thread nD τ)) $$ H7
  iintro H7
  iapply (load_step Variants.none (c : Thread nD τ)) $$ H9
  iintro H9
  iapply (ret_step Variants.none (c : Thread nD τ))
  iapply HQ
  isplitl [H7]; · iexact H7
  isplitl [H9]; · iexact H9
  iexact H10

/-- The scratch is cleared at the first grid point and the indices are read. -/
theorem part2 (X10 : S136x512.Idx → Elt F .f32) (E : Set ℕ) (Q : (Σ' (_ : BitVec 32) (_ : IVec S8x8192 32) (_ : IVec S1x8192 32) (_ : FVec F S128x8192 .bf16) (_ : FVec F S128x8192 .bf16) (_ : FVec F S128x8192 .bf16) (_ : FVec F S128x8192 .bf16) (_ : FVec F S128x8192 .bf16), BitVec 32) → sProp 𝕄) :
    iprop(owns (c : Thread nD τ) M2 fullShare X2 ∗ owns (c : Thread nD τ) M10 fullShare X10
      ∗ (iprop(owns (c : Thread nD τ) M2 fullShare X2 ∗ owns (c : Thread nD τ) M10 fullShare (scr0 i X10)) -∗ Q ⟨BitVec.ofNat 32 (i 0).val, k0_pay11 X2, k0_pay13 X2, k0_pay14 X2, k0_pay15 X2, k0_pay16 X2, k0_pay17 X2, k0_pay18 X2, 4#32⟩))
      ⊢ wp frame (wpE (defs₀ (F := F)) Variants.none c none) E (k0_part2 i M1 h1 M2 h2 M3 h3 M4 h4 M5 h5 M6 h6 M7 h7 M8 h8 M9 h9 M10 h10) Q := by
  rw [k0_part2_eq_skeleton]
  unfold k0_part2_skel
  iintro ⟨H2, H10, HQ⟩
  iapply (guarded_store_step Variants.none (c : Thread nD τ)) $$ H10
  iintro H10
  iapply (load_step Variants.none (c : Thread nD τ)) $$ H2
  iintro H2
  iapply (ret_step Variants.none (c : Thread nD τ))
  rw [ld_whole]
  iapply HQ
  isplitl [H2]; · iexact H2
  iexact H10

/-- Slabs 0 to 3 of the first table. -/
theorem part3 (v9 : IVec S1x8192 32) (v17 v24 v31 v38 v45 : FVec F S128x8192 .bf16) (k : BitVec 32) (E : Set ℕ) (Q : (Σ' (_ : FVec F S128x8192 .bf16) (_ : FVec F S128x8192 .bf16) (_ : FVec F S128x8192 .bf16) (_ : FVec F S128x8192 .bf16) , FVec F S64x8192 .f32) → sProp 𝕄) :
    iprop(owns (c : Thread nD τ) M4 fullShare X4
      ∗ (iprop(owns (c : Thread nD τ) M4 fullShare X4) -∗ Q ⟨k0_pay19 v9 v17 k, k0_pay20 v9 v17, k0_pay21 v9 v17, k0_pay22 v9 v17, k0_pay23 v24 v31 v38 v45 (slab4 X4 ![0, 0] inb_S64x1024_S64x128_0_0) (slab4 X4 ![0, 128] inb_S64x1024_S64x128_0_128) (slab4 X4 ![0, 256] inb_S64x1024_S64x128_0_256) (slab4 X4 ![0, 384] inb_S64x1024_S64x128_0_384)⟩))
      ⊢ wp frame (wpE (defs₀ (F := F)) Variants.none c none) E (k0_part3 i M1 h1 M2 h2 M3 h3 M4 h4 M5 h5 M6 h6 M7 h7 M8 h8 M9 h9 M10 h10 v9 v17 v24 v31 v38 v45 k) Q := by
  rw [k0_part3_eq_skeleton]
  unfold k0_part3_skel
  iintro ⟨H4, HQ⟩
  iapply (load_step Variants.none (c : Thread nD τ)) $$ H4
  iintro H4
  iapply (load_step Variants.none (c : Thread nD τ)) $$ H4
  iintro H4
  iapply (load_step Variants.none (c : Thread nD τ)) $$ H4
  iintro H4
  iapply (load_step Variants.none (c : Thread nD τ)) $$ H4
  iintro H4
  iapply (ret_step Variants.none (c : Thread nD τ))
  iapply HQ
  iexact H4

/-- Slabs 4 to 7 of the first table. -/
theorem part4 (v4 : IVec S8x8192 32) (v52 v59 v66 v73 : FVec F S128x8192 .bf16) (v88 : FVec F S64x8192 .f32) (E : Set ℕ) (Q : (Σ' (_ : FVec F S64x8192 .f32) (_ : IVec S1x8192 32) (_ : FVec F S128x8192 .bf16) (_ : FVec F S128x8192 .bf16) (_ : FVec F S128x8192 .bf16) , IVec S1x8192 32) → sProp 𝕄) :
    iprop(owns (c : Thread nD τ) M4 fullShare X4
      ∗ (iprop(owns (c : Thread nD τ) M4 fullShare X4) -∗ Q ⟨k0_pay24 v52 v59 v66 v73 v88 (slab4 X4 ![0, 512] inb_S64x1024_S64x128_0_512) (slab4 X4 ![0, 640] inb_S64x1024_S64x128_0_640) (slab4 X4 ![0, 768] inb_S64x1024_S64x128_0_768) (slab4 X4 ![0, 896] inb_S64x1024_S64x128_0_896), k0_pay26 v4, k0_pay27 (F := F) v4, k0_pay28 (F := F) v4, k0_pay29 (F := F) v4, k0_pay30⟩))
      ⊢ wp frame (wpE (defs₀ (F := F)) Variants.none c none) E (k0_part4 i M1 h1 M2 h2 M3 h3 M4 h4 M5 h5 M6 h6 M7 h7 M8 h8 M9 h9 M10 h10 v4 v52 v59 v66 v73 v88) Q := by
  rw [k0_part4_eq_skeleton]
  unfold k0_part4_skel
  iintro ⟨H4, HQ⟩
  iapply (load_step Variants.none (c : Thread nD τ)) $$ H4
  iintro H4
  iapply (load_step Variants.none (c : Thread nD τ)) $$ H4
  iintro H4
  iapply (load_step Variants.none (c : Thread nD τ)) $$ H4
  iintro H4
  iapply (load_step Variants.none (c : Thread nD τ)) $$ H4
  iintro H4
  iapply (ret_step Variants.none (c : Thread nD τ))
  iapply HQ
  iexact H4

/-- The second table. -/
theorem part5 (v4 : IVec S8x8192 32) (v104 : FVec F S64x8192 .f32) (v109 : IVec S1x8192 32) (v117 v124 v131 : FVec F S128x8192 .bf16) (v132 : IVec S1x8192 32) (E : Set ℕ) (Q : (Σ' (_ : FVec F S64x8192 .f32) (_ : FVec F S64x8192 .bf16), IVec S16x8192 32) → sProp 𝕄) :
    iprop(owns (c : Thread nD τ) M5 fullShare X5
      ∗ (iprop(owns (c : Thread nD τ) M5 fullShare X5) -∗ Q ⟨k0_pay31 v104 v109 v117 v124 v131 v132 (slab5 X5 ![0, 0] inb_S64x512_S64x128_0_0) (slab5 X5 ![0, 128] inb_S64x512_S64x128_0_128) (slab5 X5 ![0, 256] inb_S64x512_S64x128_0_256) (slab5 X5 ![0, 384] inb_S64x512_S64x128_0_384), k0_pay32 (F := F) v4, k0_pay33 v4⟩))
      ⊢ wp frame (wpE (defs₀ (F := F)) Variants.none c none) E (k0_part5 i M1 h1 M2 h2 M3 h3 M4 h4 M5 h5 M6 h6 M7 h7 M8 h8 M9 h9 M10 h10 v4 v104 v109 v117 v124 v131 v132) Q := by
  rw [k0_part5_eq_skeleton]
  unfold k0_part5_skel
  iintro ⟨H5, HQ⟩
  iapply (load_step Variants.none (c : Thread nD τ)) $$ H5
  iintro H5
  iapply (load_step Variants.none (c : Thread nD τ)) $$ H5
  iintro H5
  iapply (load_step Variants.none (c : Thread nD τ)) $$ H5
  iintro H5
  iapply (load_step Variants.none (c : Thread nD τ)) $$ H5
  iintro H5
  iapply (ret_step Variants.none (c : Thread nD τ))
  iapply HQ
  iexact H5

/-- The rest of the features, their store, and the first piece. -/
theorem part6 (X8 : S64x8192.Idx → Elt F .bf16) (X10 : S136x512.Idx → Elt F .f32) (E : Set ℕ) (Q : (Σ' (_ : FVec F S136x8192 .bf16) (_ : IVec S1x8192 32), FVec F S128x8192 .bf16) → sProp 𝕄) :
    iprop(owns (c : Thread nD τ) M1 fullShare T ∗ owns (c : Thread nD τ) M3 fullShare X3 ∗ owns (c : Thread nD τ) M6 fullShare X6 ∗ owns (c : Thread nD τ) M8 fullShare X8 ∗ owns (c : Thread nD τ) M10 fullShare X10
      ∗ (iprop(owns (c : Thread nD τ) M1 fullShare T ∗ owns (c : Thread nD τ) M3 fullShare X3 ∗ owns (c : Thread nD τ) M6 fullShare X6 ∗ owns (c : Thread nD τ) M8 fullShare (outX X2 X3 X4 X5 X6) ∗ owns (c : Thread nD τ) M10 fullShare (scr1 i T X2 X3 X4 X5 X6 X10)) -∗ Q ⟨rows X2 X3 X4 X5 X6, k0_pay38 (k0_pay11 X2), k0_pay39 (F := F) (k0_pay11 X2)⟩))
      ⊢ wp frame (wpE (defs₀ (F := F)) Variants.none c none) E (k0_part6 i M1 h1 M2 h2 M3 h3 M4 h4 M5 h5 M6 h6 M7 h7 M8 h8 M9 h9 M10 h10 (BitVec.ofNat 32 (i 0).val) (k0_pay11 X2) (sum45 X2 X4 X5) (k0_pay32 (F := F) (k0_pay11 X2)) (k0_pay33 (k0_pay11 X2))) Q := by
  rw [k0_part6_eq_skeleton]
  unfold k0_part6_skel
  iintro ⟨H1, H3, H6, H8, H10, HQ⟩
  iapply (load_step Variants.none (c : Thread nD τ)) $$ H3
  iintro H3
  iapply (load_step Variants.none (c : Thread nD τ)) $$ H6
  iintro H6
  iapply (load_step Variants.none (c : Thread nD τ)) $$ H8
  iintro H8
  rw [ld_whole X3, ld_whole X6]
  iapply (store_step Variants.none (c : Thread nD τ)) $$ H8
  iintro H8
  iapply (word_step Variants.none (c : Thread nD τ) (h1 := numel1_S1x1) (hp := rfl)) $$ H1
  iintro H1
  iapply (word_step Variants.none (c : Thread nD τ) (h1 := numel1_S1x1) (hp := rfl)) $$ H1
  iintro H1
  iapply (guarded_step Variants.none (c : Thread nD τ)) $$ H10
  iintro H10
  iapply (ret_step Variants.none (c : Thread nD τ))
  iapply HQ
  isplitl [H1]; · iexact H1
  isplitl [H3]; · iexact H3
  isplitl [H6]; · iexact H6
  isplitl [H8]; · iexact H8
  iexact H10

/-- The whole body at one grid point. -/
theorem body (X8 : S64x8192.Idx → Elt F .bf16) (X9 : S128x512.Idx → Elt F .bf16) (X10 : S136x512.Idx → Elt F .f32) (E : Set ℕ) (Q : PUnit → sProp 𝕄) :
    iprop(owns (c : Thread nD τ) M1 fullShare T ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10
      ∗ (iprop(owns (c : Thread nD τ) M1 fullShare T ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare (outX X2 X3 X4 X5 X6) ∗ owns (c : Thread nD τ) M9 fullShare (if k0_cond6 i = 1#1 then outAC (scr i T X2 X3 X4 X5 X6 X10) X7 X9 else X9) ∗ owns (c : Thread nD τ) M10 fullShare (scr i T X2 X3 X4 X5 X6 X10)) -∗ Q ⟨⟩))
      ⊢ wp frame (wpE (defs₀ (F := F)) Variants.none c none) E (cc0__pass_a_kernel i M1 h1 M2 h2 M3 h3 M4 h4 M5 h5 M6 h6 M7 h7 M8 h8 M9 h9 M10 h10) Q := by
  rw [cc0__pass_a_kernel_eq_skeleton]
  unfold cc0__pass_a_kernel_skel
  iintro ⟨H1, H2, H3, H4, H5, H6, H7, H8, H9, H10, HQ⟩
  rw [wp_bind]
  iapply (part2 c i M1 h1 M2 h2 M3 h3 M4 h4 M5 h5 M6 h6 M7 h7 M8 h8 M9 h9 M10 h10 X2 X10 E _)
  isplitl [H2]; · iexact H2
  isplitl [H10]; · iexact H10
  iintro ⟨H2, H10⟩
  rw [wp_bind]
  iapply (part3 c i M1 h1 M2 h2 M3 h3 M4 h4 M5 h5 M6 h6 M7 h7 M8 h8 M9 h9 M10 h10 X4 _ _ _ _ _ _ _ E _)
  isplitl [H4]; · iexact H4
  iintro H4
  rw [wp_bind]
  iapply (part4 c i M1 h1 M2 h2 M3 h3 M4 h4 M5 h5 M6 h6 M7 h7 M8 h8 M9 h9 M10 h10 X4 _ _ _ _ _ _ E _)
  isplitl [H4]; · iexact H4
  iintro H4
  rw [wp_bind]
  iapply (part5 c i M1 h1 M2 h2 M3 h3 M4 h4 M5 h5 M6 h6 M7 h7 M8 h8 M9 h9 M10 h10 X5 _ _ _ _ _ _ _ E _)
  isplitl [H5]; · iexact H5
  iintro H5
  rw [wp_bind]
  iapply (part6 c i M1 h1 M2 h2 M3 h3 M4 h4 M5 h5 M6 h6 M7 h7 M8 h8 M9 h9 M10 h10 T X2 X3 X4 X5 X6 X8 _ E _)
  isplitl [H1]; · iexact H1
  isplitl [H3]; · iexact H3
  isplitl [H6]; · iexact H6
  isplitl [H8]; · iexact H8
  isplitl [H10]; · iexact H10
  iintro ⟨H1, H3, H6, H8, H10⟩
  iapply (word_step Variants.none (c : Thread nD τ) (h1 := numel1_S1x1) (hp := rfl)) $$ H1
  iintro H1
  iapply (word_step Variants.none (c : Thread nD τ) (h1 := numel1_S1x1) (hp := rfl)) $$ H1
  iintro H1
  iapply (guarded_step Variants.none (c : Thread nD τ)) $$ H10
  iintro H10
  iapply (word_step Variants.none (c : Thread nD τ) (h1 := numel1_S1x1) (hp := rfl)) $$ H1
  iintro H1
  iapply (word_step Variants.none (c : Thread nD τ) (h1 := numel1_S1x1) (hp := rfl)) $$ H1
  iintro H1
  iapply (guarded_step Variants.none (c : Thread nD τ)) $$ H10
  iintro H10
  iapply (word_step Variants.none (c : Thread nD τ) (h1 := numel1_S1x1) (hp := rfl)) $$ H1
  iintro H1
  iapply (word_step Variants.none (c : Thread nD τ) (h1 := numel1_S1x1) (hp := rfl)) $$ H1
  iintro H1
  iapply (guarded_step Variants.none (c : Thread nD τ)) $$ H10
  iintro H10
  by_cases hC : k0_cond6 i = 1#1
  · simp only [dif_pos hC, if_pos hC]
    rw [wp_bind]
    iapply (part1 c i M1 h1 M2 h2 M3 h3 M4 h4 M5 h5 M6 h6 M7 h7 M8 h8 M9 h9 M10 h10 X7 _ X9 E _)
    isplitl [H7]; · iexact H7
    isplitl [H9]; · iexact H9
    isplitl [H10]; · iexact H10
    iintro ⟨H7, H9, H10⟩
    iapply (put_step Variants.none (c : Thread nD τ)) $$ H9
    iintro H9
    iapply (ret_step Variants.none (c : Thread nD τ))
    iapply HQ
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · simp only [dif_neg hC, if_neg hC]
    iapply (ret_step Variants.none (c : Thread nD τ))
    iapply HQ
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end
end Cert.KernelIdeal.PassA
-- ==== Proof.RegionA.lean ====
/-
  Pass A as a region of the program: what its windows hold at every grid point, the invariant that carries the scratch sums, and its body
  obligation.
-/
module

public import proofs.«01_k».proof.Proof.BodyA
public import Idealize.ShloMosaic.Lib.Pipeline.RegionArraysTS

@[expose] public section

noncomputable section

namespace Cert.KernelIdeal.PassA

open Cert.KernelIdeal Cert.KernelIdeal.Gen Cert.Steps
open Cert.KernelIdeal.PassB (UU word meets)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation prefHeld)

variable {F : FTy → Type} [FloatOps F]

local notation "𝕄" => MT nD τ sig Unit (Elt F) ℕ UU ℕ

/-- A scoped buffer held at some contents. -/
abbrev some_ (c : Dev nD) (b : Ref sig .tc) : sProp (MT nD τ sig Unit (Elt F) ℕ UU ℕ) :=
  iprop(∃ f : Buf (Elt F) ((c : Thread nD τ).loc b), ((c : Thread nD τ).loc b) ↦{fullShare} f)

/-- The table, held whole, as its buffer owned at its contents. -/
theorem table_owned (c : Dev nD) (T : pre0.Contents (Elt F)) :
    (prefHeld pre0 c (fun _ => fullShare) T : sProp 𝕄) = owns (c : Thread nD τ) (Memref.whole main_v68) fullShare (T 0) := by
  refine Eq.trans ?_ (owns_whole_eq (c : Thread nD τ) main_v68 fullShare (T 0)).symm
  unfold prefHeld
  rw [BI.bigSep_univ_eq_bigSepL [(0 : Fin 1)] (by decide) (by decide)]
  refine Entails.antisymm ?_ ?_
  · show (((c : Thread nD τ).loc main_v68) ↦{fullShare} T 0 : sProp 𝕄) ⊢ iprop(∃ f : Buf (Elt F) ((c : Thread nD τ).loc main_v68), ⌜f = T 0⌝ ∗ (((c : Thread nD τ).loc main_v68) ↦{fullShare} f))
    iintro H; iexists T 0; isplitr
    · ipureintro; rfl
    · iexact H
  · show (iprop(∃ f : Buf (Elt F) ((c : Thread nD τ).loc main_v68), ⌜f = T 0⌝ ∗ (((c : Thread nD τ).loc main_v68) ↦{fullShare} f)) : sProp 𝕄) ⊢ ((c : Thread nD τ).loc main_v68) ↦{fullShare} T 0
    iintro ⟨%f, %hf, H⟩; subst hf; iexact H

section
variable (a : (pcfg0 (F := F)).Adm) (W : Valuation τ sig (Elt F))

/-- The table's contents. -/
def tab : S13x2.Idx → Elt F .i32 := a.1 0

/-- The block of window `w` at point `t`, read off the entry valuation. -/
abbrev blk (w : Fin 8) (t : Fin grid0.N) : ((cfg0 a).win w).block.Idx → Elt F ((cfg0 a).win w).elt :=
  (((cfg0 a).win w).blk t).view.read (Elt F) (W (Proc.devRef .tc (Pipeline.arrRef spec0 w)))

/-- The indices' block. -/
abbrev B0 (t : Fin grid0.N) : S8x8192.Idx → Elt F .i32 := blk a W 0 t
/-- The measured values' block. -/
abbrev B1 (t : Fin grid0.N) : S8x8192.Idx → Elt F .bf16 := blk a W 1 t
/-- The first table. -/
abbrev B2 (t : Fin grid0.N) : S64x1024.Idx → Elt F .bf16 := blk a W 2 t
/-- The second table. -/
abbrev B3 (t : Fin grid0.N) : S64x512.Idx → Elt F .bf16 := blk a W 3 t
/-- The third table. -/
abbrev B4 (t : Fin grid0.N) : S64x96.Idx → Elt F .bf16 := blk a W 4 t
/-- The norm's parameters. -/
abbrev B5 (t : Fin grid0.N) : S64x8.Idx → Elt F .f32 := blk a W 5 t

/-- The scratch after point `t`, from its contents before it. -/
def stepS (t : Fin grid0.N) (X : S136x512.Idx → Elt F .f32) : S136x512.Idx → Elt F .f32 :=
  scr (grid0.coords t) (tab a) (B0 a W t) (B1 a W t) (B2 a W t) (B3 a W t) (B4 a W t) X

/-- The scratch before point `n`, if it held `z` at the start. -/
def track (z : S136x512.Idx → Elt F .f32) : ℕ → S136x512.Idx → Elt F .f32
  | 0 => z
  | n + 1 => if h : n < grid0.N then stepS a W ⟨n, h⟩ (track z n) else track z n

theorem track_succ (z : S136x512.Idx → Elt F .f32) (t : Fin grid0.N) : track a W z (t.val + 1) = stepS a W t (track a W z t.val) := by
  rw [track, dif_pos t.isLt]

theorem first_zero : ∀ t : Fin grid0.N, t.val = 0 → first (grid0.coords t) := by decide

/-- The scratch after any point does not depend on what it held at the start. -/
theorem track_indep (z z' : S136x512.Idx → Elt F .f32) (n : ℕ) (hn : n < grid0.N) : track a W z (n + 1) = track a W z' (n + 1) := by
  induction n with
  | zero =>
    have h := first_zero ⟨0, hn⟩ rfl
    rw [track_succ a W z ⟨0, hn⟩, track_succ a W z' ⟨0, hn⟩]
    unfold stepS scr scr0
    rw [if_pos h, if_pos h]
  | succ n ih =>
    rw [track_succ a W z ⟨n + 1, hn⟩, track_succ a W z' ⟨n + 1, hn⟩]
    show stepS a W _ (track a W z (n + 1)) = stepS a W _ (track a W z' (n + 1))
    rw [ih (Nat.lt_of_succ_lt hn)]

/-- The scratch's contents before point `n`, started from zeros. -/
abbrev sums (n : ℕ) : S136x512.Idx → Elt F .f32 := track a W (k0_pay10 (F := F)) n

/-- The two halves cover the second output: what it held before does not matter. -/
theorem outAC_indep (S : S136x512.Idx → Elt F .f32) (X7 : S64x8.Idx → Elt F .f32) (X X' : S128x512.Idx → Elt F .bf16) :
    outAC S X7 X = outAC S X7 X' := by
  funext y
  unfold outAC VecWindow.put
  have h0 : (y 0).val < 128 := (y 0).isLt
  have h1 : (y 1).val < 512 := (y 1).isLt
  split_ifs with h h'
  · rfl
  · rfl
  · exfalso
    by_cases hy : (y 0).val < 64
    · exact h' fun k => by
        fin_cases k
        · exact ⟨Nat.zero_le _, by simpa using hy⟩
        · exact ⟨Nat.zero_le _, by simpa using h1⟩
    · exact h fun k => by
        fin_cases k
        · exact ⟨by simpa using hy, by simpa using h0⟩
        · exact ⟨Nat.zero_le _, by simpa using h1⟩

/-- The scoped buffers of pass B, idle during pass A. -/
abbrev rest (c : Dev nD) : sProp (MT nD τ sig Unit (Elt F) ℕ UU ℕ) :=
  iprop(some_ c cc1_stg0_0 ∗ some_ c cc1_stg0_1 ∗ some_ c cc1_stg1_0 ∗ some_ c cc1_stg1_1 ∗ some_ c cc1_stg2_0 ∗ some_ c cc1_stg3_0 ∗ some_ c cc1_stg3_1 ∗ some_ c cc1_scratch0)

/-- The invariant before point `n`: the scratch at what has been summed so far, the table, and the idle buffers. -/
def Φn (c : Dev nD) (n : ℕ) : sProp (MT nD τ sig Unit (Elt F) ℕ UU ℕ) :=
  iprop((∃ z, owns (c : Thread nD τ) (Memref.whole cc0_scratch0) fullShare (track a W z n)) ∗ owns (c : Thread nD τ) (Memref.whole main_v68) fullShare (tab a) ∗ rest c)

/-- The proof data of pass A entered at the valuation `W`. -/
def dat (c : Dev nD) : Dat τ (Elt F) Unit ℕ UU ℕ (cfg0 a) c where
  A w := W (Proc.devRef .tc (Pipeline.arrRef spec0 w))
  after w t := match w with
    | ⟨0, _⟩ => blk a W 0 t
    | ⟨1, _⟩ => blk a W 1 t
    | ⟨2, _⟩ => blk a W 2 t
    | ⟨3, _⟩ => blk a W 3 t
    | ⟨4, _⟩ => blk a W 4 t
    | ⟨5, _⟩ => blk a W 5 t
    | ⟨6, _⟩ => outX (B0 a W t) (B1 a W t) (B2 a W t) (B3 a W t) (B4 a W t)
    | ⟨7, _⟩ => outAC (sums a W (t.val + 1)) (B5 a W t) (fun _ => B4 a W t (fun k => ⟨0, by fin_cases k <;> decide⟩))
  Φ t := Φn a W c t.val
  q _ := fullShare
  owed _ := 0

variable (c : Dev nD) (t : Fin grid0.N)

theorem before0 (d) : (dat a W c).before 0 t d = B0 a W t :=
  ((dat a W c).before_in_eq_fetched 0 rfl (fun _ => rfl) (fun _ _ _ => rfl) (fun _ => rfl) t d).trans rfl
theorem before1 (d) : (dat a W c).before 1 t d = B1 a W t :=
  ((dat a W c).before_in_eq_fetched 1 rfl (fun _ => rfl) (fun _ _ _ => rfl) (fun _ => rfl) t d).trans rfl
theorem before2 (d) : (dat a W c).before 2 t d = B2 a W t :=
  ((dat a W c).before_in_eq_fetched 2 rfl (fun _ => rfl) (fun _ _ _ => rfl) (fun _ => rfl) t d).trans rfl
theorem before3 (d) : (dat a W c).before 3 t d = B3 a W t :=
  ((dat a W c).before_in_eq_fetched 3 rfl (fun _ => rfl) (fun _ _ _ => rfl) (fun _ => rfl) t d).trans rfl
theorem before4 (d) : (dat a W c).before 4 t d = B4 a W t :=
  ((dat a W c).before_in_eq_fetched 4 rfl (fun _ => rfl) (fun _ _ _ => rfl) (fun _ => rfl) t d).trans rfl
theorem before5 (d) : (dat a W c).before 5 t d = B5 a W t :=
  ((dat a W c).before_in_eq_fetched 5 rfl (fun _ => rfl) (fun _ _ _ => rfl) (fun _ => rfl) t d).trans rfl

/-- What the body leaves of the second output's buffer: the scales and shifts at the last point, as found at the others. -/
theorem leaves7 (d : ((cfg0 a).win 7).block.Idx → Elt F ((cfg0 a).win 7).elt) (S : S136x512.Idx → Elt F .f32) (hS : S = sums a W (t.val + 1))
    (X9 : S128x512.Idx → Elt F .bf16) (h9 : X9 = (dat a W c).before 7 t d) :
    (owns (c : Thread nD τ) (spec0_7.stage ((cfg0 a).slots t 7)) fullShare
        (if k0_cond6 (grid0.coords t) = 1#1 then outAC S (B5 a W t) X9 else X9) : sProp 𝕄)
      ⊢ (dat a W c).leavesExact 7 t := by
  have hflush : ∀ t : Fin grid0.N, k0_cond6 (grid0.coords t) ≠ 1#1 → ((cfg0 a).win 7).flush t = false := by
    intro t h
    rcases fin_N0 t with rfl | rfl | rfl | rfl | rfl | rfl | rfl | rfl | rfl | rfl | rfl | rfl | rfl
    all_goals first | rfl | exact absurd (by decide) h
  by_cases h : k0_cond6 (grid0.coords t) = 1#1
  · rw [if_pos h]
    unfold Dat.leavesExact
    rw [show (cfg0 a).idle 7 ((cfg0 a).grid.coords t) = false from by
      show (!(k0_cond6 (grid0.coords t) == 1#1)) = false
      rw [h]; rfl]
    dsimp only [dat]
    rw [hS, outAC_indep _ _ _ (fun _ => B4 a W t (fun k => ⟨0, by fin_cases k <;> decide⟩))]
    exact .rfl
  · rw [if_neg h]
    refine BIBase.Entails.trans ?_ (Entails.of_eq ((dat a W c).leavesExact_idle 7 t (by
      show (!(k0_cond6 (grid0.coords t) == 1#1)) = true
      simpa using h) (hflush t h)).symm)
    subst h9
    iintro H; iexists d; iexact H

/-- A window's buffer owned at what the body finds there, at an equal array. -/
theorem found_owned (w : Fin 8) (d) {X : ((cfg0 a).win w).block.Idx → Elt F ((cfg0 a).win w).elt} (h : (dat a W c).before w t d = X) :
    (owns (c : Thread nD τ) (((cfg0 a).win w).stage ((cfg0 a).slots t w)) fullShare ((dat a W c).before w t d) : sProp 𝕄)
      ⊢ owns (c : Thread nD τ) (((cfg0 a).win w).stage ((cfg0 a).slots t w)) fullShare X := by
  rw [h]

/-- The body obligation: the staging buffers, the table and the scratch go to the body, which hands back what the proof data says. -/
theorem body_obligation : BodyObligation (dat a W c) (defs₀ (F := F)) Variants.none () Set.univ := fun t => by
  rw [bigSep_W0, bigSep_W0]
  rw [show (dat a W c).Φ t.castSucc = Φn a W c t.val from rfl, show (dat a W c).Φ t.succ = Φn a W c (t.val + 1) from rfl,
    show (dat a W c).owesAt () t.succ = (dat a W c).owesAt () t.castSucc from rfl]
  unfold Φn
  iintro ⟨⟨⟨%z, H10⟩, H1, Hr⟩, Howes, ⟨%d0, H2⟩, ⟨%d1, H3⟩, ⟨%d2, H4⟩, ⟨%d3, H5⟩, ⟨%d4, H6⟩, ⟨%d5, H7⟩, ⟨%d6, H8⟩, ⟨%d7, H9⟩⟩
  ihave H2 := (found_owned a W c t 0 d0 (before0 a W c t d0)) $$ H2
  ihave H3 := (found_owned a W c t 1 d1 (before1 a W c t d1)) $$ H3
  ihave H4 := (found_owned a W c t 2 d2 (before2 a W c t d2)) $$ H4
  ihave H5 := (found_owned a W c t 3 d3 (before3 a W c t d3)) $$ H5
  ihave H6 := (found_owned a W c t 4 d4 (before4 a W c t d4)) $$ H6
  ihave H7 := (found_owned a W c t 5 d5 (before5 a W c t d5)) $$ H7
  iapply (body c (grid0.coords t) _ _ _ _ _ _ _ _ _ _ _ _ _ _ _ _ _ _ _ _ (a.1 0) (B0 a W t) (B1 a W t) (B2 a W t) (B3 a W t) (B4 a W t) (B5 a W t) _ _ _ Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H1, H2, H3, H4, H5, H6, H7, H8, H9, H10⟩
  isplitl [H10 H1 Hr]
  · isplitl [H10]
    · iexists z; rw [track_succ]; iexact H10
    isplitl [H1]; · iexact H1
    iexact Hr
  isplitl [Howes]; · iexact Howes
  isplitl [H2]; · iexact H2
  isplitl [H3]; · iexact H3
  isplitl [H4]; · iexact H4
  isplitl [H5]; · iexact H5
  isplitl [H6]; · iexact H6
  isplitl [H7]; · iexact H7
  isplitl [H8]; · iexact H8
  iapply (leaves7 a W c t d7 _ (((track_succ a W z t).symm).trans (track_indep a W z _ t.val t.isLt)) _ rfl)
  iexact H9

/-- A buffer owned at an array is its location held at something. -/
theorem owned_some (c : Dev nD) (b : Ref sig .tc) (X) :
    (owns (c : Thread nD τ) (Memref.whole b) fullShare X : sProp 𝕄) ⊢ some_ c b := by
  rw [owns_whole_eq]
  iintro ⟨%f, -, H⟩
  iexists f; iexact H

/-- The region's entry: the idle scoped buffers and the table make the invariant before the first point. -/
theorem enter : iprop(iprop(Pipeline.scopedRest (Ix := Unit) (Name := ℕ) (U := UU) (Lvl := ℕ) (Val := Elt F) spec0 c ∗ BI.emp) ∗ prefHeld pre0 c (fun _ => fullShare) a.1)
    ⊢ (dat a W c).Φ 0 := by
  rw [show (dat a W c).Φ 0 = Φn a W c 0 from rfl, scopedRest0_eq, table_owned]
  unfold Φn
  iintro ⟨⟨⟨⟨%f, HS⟩, Hr⟩, -⟩, HT⟩
  isplitl [HS]
  · iexists f
    rw [owns_whole_eq]
    iexists f; isplitr; · ipureintro; rfl
    iexact HS
  isplitl [HT]; · iexact HT
  iexact Hr

/-- The region's exit: the invariant after the last point gives them back. -/
theorem leave : (dat a W c).Φ (Fin.last grid0.N)
    ⊢ iprop(iprop(Pipeline.scopedRest (Ix := Unit) (Name := ℕ) (U := UU) (Lvl := ℕ) (Val := Elt F) spec0 c ∗ BI.emp) ∗ prefHeld pre0 c (fun _ => fullShare) a.1) := by
  rw [show (dat a W c).Φ (Fin.last grid0.N) = Φn a W c grid0.N from rfl, scopedRest0_eq, table_owned]
  unfold Φn
  iintro ⟨⟨%z, HS⟩, HT, Hr⟩
  isplitr [HT]
  · isplitl
    · isplitl [HS]
      · iapply (owned_some c cc0_scratch0 _) $$ HS
      iexact Hr
    iempintro
  iexact HT

end
end Cert.KernelIdeal.PassA
-- ==== Proof.RegionB.lean ====
/-
  Pass B as a region of the program: what its windows hold at every grid point, its invariant and its body obligation.
-/
module

public import proofs.«01_k».proof.Proof.RegionA

@[expose] public section

noncomputable section

namespace Cert.KernelIdeal.PassB

open Cert.KernelIdeal Cert.KernelIdeal.Gen Cert.Steps
open Cert.KernelIdeal.PassA (some_)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation prefHeld)

variable {F : FTy → Type} [FloatOps F]

local notation "𝕄" => MT nD τ sig Unit (Elt F) ℕ UU ℕ

variable (a : (pcfg1 (F := F)).Adm) (W : Valuation τ sig (Elt F))

/-- The table's contents. -/
def tab : S13x2.Idx → Elt F .i32 := a.1 0

/-- The part of window `w`'s block inside its array at point `t`, read off the entry valuation. -/
abbrev blk (w : Fin 4) (t : Fin grid1.N) : (((cfg1 a).win w).xblock (grid1.coords t)).Idx → Elt F ((cfg1 a).win w).elt :=
  (((cfg1 a).win w).blk t).view.read (Elt F) (W (Proc.devRef .tc (Pipeline.arrRef spec1 w)))

/-- The features' block. -/
abbrev B0 (t : Fin grid1.N) : S64x8192.Idx → Elt F .bf16 := blk a W 0 t
/-- The indices' block. -/
abbrev B1 (t : Fin grid1.N) : S8x8192.Idx → Elt F .i32 := blk a W 1 t
/-- The scales and shifts. -/
abbrev B2 (t : Fin grid1.N) : S128x512.Idx → Elt F .bf16 := blk a W 2 t

/-- The scoped buffers of pass A, idle during pass B. -/
abbrev rest (c : Dev nD) : sProp (MT nD τ sig Unit (Elt F) ℕ UU ℕ) :=
  iprop(some_ c cc0_stg0_0 ∗ some_ c cc0_stg0_1 ∗ some_ c cc0_stg1_0 ∗ some_ c cc0_stg1_1 ∗ some_ c cc0_stg2_0 ∗ some_ c cc0_stg3_0 ∗ some_ c cc0_stg4_0
    ∗ some_ c cc0_stg5_0 ∗ some_ c cc0_stg6_0 ∗ some_ c cc0_stg6_1 ∗ some_ c cc0_stg7_0 ∗ some_ c cc0_scratch0)

/-- The invariant: the scratch at something, the table, and the idle buffers. -/
def Φc (c : Dev nD) : sProp (MT nD τ sig Unit (Elt F) ℕ UU ℕ) :=
  iprop((∃ X, owns (c : Thread nD τ) (Memref.whole cc1_scratch0) fullShare X) ∗ owns (c : Thread nD τ) (Memref.whole main_v68) fullShare (tab a) ∗ rest c)

/-- The proof data of pass B entered at the valuation `W`. -/
def dat (c : Dev nD) : Dat τ (Elt F) Unit ℕ UU ℕ (cfg1 a) c where
  A w := W (Proc.devRef .tc (Pipeline.arrRef spec1 w))
  after w t := match w with
    | ⟨0, _⟩ => B0 a W t
    | ⟨1, _⟩ => B1 a W t
    | ⟨2, _⟩ => B2 a W t
    | ⟨3, _⟩ => outB (grid1.coords t) (tab a) (B0 a W t) (B1 a W t) (B2 a W t)
  Φ _ := Φc a c
  q _ := fullShare
  owed _ := 0

variable (c : Dev nD) (t : Fin grid1.N)

theorem before0 (d) : (dat a W c).before 0 t d = B0 a W t :=
  ((dat a W c).before_in_eq_fetched 0 rfl (fun _ => rfl) (fun _ _ _ => rfl) (fun _ => rfl) t d).trans rfl
theorem before1 (d) : (dat a W c).before 1 t d = B1 a W t :=
  ((dat a W c).before_in_eq_fetched 1 rfl (fun _ => rfl) (fun _ _ _ => rfl) (fun _ => rfl) t d).trans rfl
theorem before2 (d) : (dat a W c).before 2 t d = B2 a W t :=
  ((dat a W c).before_in_eq_fetched 2 rfl (fun _ => rfl) (fun _ _ _ => rfl) (fun _ => rfl) t d).trans rfl

/-- A window's buffer owned at what the body finds there, at an equal array. -/
theorem found_owned (w : Fin 4) (d) {X : ((cfg1 a).win w).block.Idx → Elt F ((cfg1 a).win w).elt} (h : (dat a W c).before w t d = X) :
    (owns (c : Thread nD τ) (((cfg1 a).win w).stage ((cfg1 a).slots t w)) fullShare ((dat a W c).before w t d) : sProp 𝕄)
      ⊢ owns (c : Thread nD τ) (((cfg1 a).win w).stage ((cfg1 a).slots t w)) fullShare X := by
  rw [h]

/-- The body obligation: the staging buffers, the table and the scratch go to the body, which hands back what the proof data says. -/
theorem body_obligation : BodyObligation (dat a W c) (defs₀ (F := F)) Variants.none () Set.univ := fun t => by
  rw [bigSep_W1, bigSep_W1]
  rw [show (dat a W c).Φ t.castSucc = Φc a c from rfl, show (dat a W c).Φ t.succ = Φc a c from rfl,
    show (dat a W c).owesAt () t.succ = (dat a W c).owesAt () t.castSucc from rfl]
  unfold Φc
  iintro ⟨⟨⟨%z, H6⟩, H1, Hr⟩, Howes, ⟨%d0, H2⟩, ⟨%d1, H3⟩, ⟨%d2, H4⟩, ⟨%d3, H5⟩⟩
  ihave H2 := (found_owned a W c t 0 d0 (before0 a W c t d0)) $$ H2
  ihave H3 := (found_owned a W c t 1 d1 (before1 a W c t d1)) $$ H3
  ihave H4 := (found_owned a W c t 2 d2 (before2 a W c t d2)) $$ H4
  iapply (body c (grid1.coords t) _ _ _ _ _ _ _ _ _ _ _ _ (tab a) (B0 a W t) (B1 a W t) (B2 a W t) _ _ Set.univ _)
  isplitl [H1]; · iexact H1
  isplitl [H2]; · iexact H2
  isplitl [H3]; · iexact H3
  isplitl [H4]; · iexact H4
  isplitl [H5]; · iexact H5
  isplitl [H6]; · iexact H6
  iintro ⟨H1, H2, H3, H4, H5, H6⟩
  isplitl [H6 H1 Hr]
  · isplitl [H6]
    · iexists _; iexact H6
    isplitl [H1]; · iexact H1
    iexact Hr
  isplitl [Howes]; · iexact Howes
  isplitl [H2]; · iexact H2
  isplitl [H3]; · iexact H3
  isplitl [H4]; · iexact H4
  iexact H5

/-- The table, held whole, as its buffer owned at its contents. -/
theorem table_owned' : (prefHeld pre1 c (fun _ => fullShare) a.1 : sProp 𝕄) = owns (c : Thread nD τ) (Memref.whole main_v68) fullShare (tab a) :=
  PassA.table_owned c a.1

/-- The region's entry: the idle scoped buffers and the table make the invariant. -/
theorem enter : iprop(iprop(Pipeline.scopedRest (Ix := Unit) (Name := ℕ) (U := UU) (Lvl := ℕ) (Val := Elt F) spec1 c ∗ BI.emp) ∗ prefHeld pre1 c (fun _ => fullShare) a.1)
    ⊢ (dat a W c).Φ 0 := by
  rw [show (dat a W c).Φ 0 = Φc a c from rfl, scopedRest1_eq, table_owned']
  unfold Φc
  iintro ⟨⟨⟨G1, G2, G3, G4, G5, G6, G7, G8, G9, G10, G11, G12, ⟨%f, HS⟩⟩, -⟩, HT⟩
  isplitl [HS]
  · iexists f
    rw [owns_whole_eq]
    iexists f; isplitr; · ipureintro; rfl
    iexact HS
  isplitl [HT]; · iexact HT
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  iexact G12

/-- The region's exit: the invariant gives them back. -/
theorem leave : (dat a W c).Φ (Fin.last grid1.N)
    ⊢ iprop(iprop(Pipeline.scopedRest (Ix := Unit) (Name := ℕ) (U := UU) (Lvl := ℕ) (Val := Elt F) spec1 c ∗ BI.emp) ∗ prefHeld pre1 c (fun _ => fullShare) a.1) := by
  rw [show (dat a W c).Φ (Fin.last grid1.N) = Φc a c from rfl, scopedRest1_eq, table_owned']
  unfold Φc
  rw [owns_whole_eq]
  iintro ⟨⟨%z, HS⟩, HT, G1, G2, G3, G4, G5, G6, G7, G8, G9, G10, G11, G12⟩
  isplitr [HT]
  · isplitl
    · isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      isplitl [G9]; · iexact G9
      isplitl [G10]; · iexact G10
      isplitl [G11]; · iexact G11
      isplitl [G12]; · iexact G12
      iapply (PassA.owned_some c cc1_scratch0 z) $$ HS
    iempintro
  iexact HT

end Cert.KernelIdeal.PassB
-- ==== Proof.Run.lean ====
/-
  The whole program's run: the host operations, pass A, pass B; every unscoped buffer's contents at the end.
-/
module

public import proofs.«01_k».proof.Proof.RegionB
public import proofs.«01_k».proof.Proof.Gen.KernelIdeal.Regions
public import Idealize.ShloMosaic.Lib.Pipeline.Regions

@[expose] public section

set_option maxRecDepth 1320

noncomputable section

namespace Cert.KernelIdeal.Run

open Cert.KernelIdeal Cert.KernelIdeal.Gen
open Cert.KernelIdeal.PassB (UU)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg Seg HostSeg afterRegion)

variable {F : FTy → Type} [FloatOps F]

local notation "𝕄" => MT nD τ sig Unit (Elt F) ℕ UU ℕ

variable (m : (ℓ : Loc nD τ sig) → Buf (Elt F) ℓ)

/-- The tables' contents: what the host operations leave in the table's buffer. -/
def adm : (p : Fin 2) → (pcfgs (F := F) p).Adm
  | ⟨0, _⟩ => ⟨fun k => V29 m 0 (Proc.devRef .tc (pre0.ref k)), trivial⟩
  | ⟨1, _⟩ => ⟨fun k => V29 m 0 (Proc.devRef .tc (pre1.ref k)), trivial⟩

/-- Pass A's table as its configuration takes it. -/
abbrev a0 : (pcfg0 (F := F)).Adm := adm m 0
/-- Pass B's table as its configuration takes it. -/
abbrev a1 : (pcfg1 (F := F)).Adm := adm m 1

/-- The buffers after pass A. -/
def W30 (c : Dev nD) : Valuation τ sig (Elt F) := afterRegion (PassA.dat (a0 m) (V29 m c) c) (V29 m c)
/-- The buffers after pass B. -/
def W31 (c : Dev nD) : Valuation τ sig (Elt F) := afterRegion (PassB.dat (a1 m) (W30 m c) c) (W30 m c)

/-- Both passes' proof data. -/
def pdats : (p : Fin 2) → (c : Dev nD) → Dat τ (Elt F) Unit ℕ UU ℕ (Pipeline.pin (pcfgs (F := F)) (adm m) p) c
  | ⟨0, _⟩, c => PassA.dat (a0 m) (V29 m c) c
  | ⟨1, _⟩, c => PassB.dat (a1 m) (W30 m c) c

abbrev 𝒱₀ : Variants := Variants.none
/-- One level on every TensorCore cell, none elsewhere. -/
abbrev L : GSem nD τ sig → Finset Unit := fun g => if g.1.2 = .tc then {()} else ∅
abbrev lv : GSem nD τ sig → Unit → ℕ := fun _ _ => 0

/-- What rides beside the buffers: the core owes nothing. -/
abbrev Rest (c : Dev nD) : sProp 𝕄 := iprop((∃ Wd, owes (c : Thread nD τ) (0 : CellTallies nD τ sig Unit) Wd) ∗ BI.emp ∗ BI.emp)

theorem cut (p : Fin 2) : Pipeline.LevelCut (nD := nD) (τ := τ) (pcfgs (F := F)) (adm m) () L lv p (fun _ => (0 : CellTallies nD τ sig Unit)) (fun _ => 0) where
  hι _ _ _ := by simp [L]
  hιb _ _ _ := le_rfl
  hD _ _ _ h := absurd h (Nat.not_lt_zero _)

theorem sub0 : Pipeline.arrRefs (τ := τ) (pcfgs (F := F) 0).spec ⊆ Pipeline.ucRefs τ sig := Pipeline.arrRefs_sub_ucRefs spec0 (by decide)
theorem sub1 : Pipeline.arrRefs (τ := τ) (pcfgs (F := F) 1).spec ⊆ Pipeline.ucRefs τ sig := Pipeline.arrRefs_sub_ucRefs spec1 (by decide)
theorem subT0 : Pipeline.tblRefs (τ := τ) (pcfgs (F := F) 0).pre ⊆ Pipeline.ucRefs τ sig := Pipeline.tblRefs_sub_ucRefs pre0 (by decide)
theorem subT1 : Pipeline.tblRefs (τ := τ) (pcfgs (F := F) 1).pre ⊆ Pipeline.ucRefs τ sig := Pipeline.tblRefs_sub_ucRefs pre1 (by decide)

/-- Pass A leaves the table as it was. -/
theorem W30_table (c : Dev nD) (k : Fin pre1.K) : W30 m c (Proc.devRef .tc (pre1.ref k)) = V29 m c (Proc.devRef .tc (pre1.ref k)) :=
  Pipeline.afterRegion_of_not_arr _ _ ((launch0 (F := F)).pre.disj k)

set_option backward.isDefEq.respectTransparency.types false in
/-- Pass A as a region. -/
def reg0 : RegionSeg (pcfgs (F := F)) (adm m) (pdats m) () defs₀ 𝒱₀ L lv 0 :=
  RegionSeg.ofHeldInT (pcfgs (F := F)) (adm m) (pdats m) () defs₀ 𝒱₀ L lv 0 (fun _ => 0) (Pipeline.ucRefs τ sig) (fun _ => BI.emp) (fun _ => BI.emp)
    launch0 (fun c => (PassA.body_obligation (a0 m) (V29 m c) c).loose) (fun _ _ => rfl) (fun _ => rfl)
    (fun c => (PassA.dat (a0 m) (V29 m c) c).share_full fun _ => rfl)
    (fun c => PassA.enter (a0 m) (V29 m c) c) (fun c => PassA.leave (a0 m) (V29 m c) c)
    (fun _ => 0) (cut m 0) (fun _ => BI.emp) (V29 m)
    (fun c w => rfl) (fun c k => by obtain rfl : c = 0 := Subsingleton.elim _ _; rfl)

set_option backward.isDefEq.respectTransparency.types false in
/-- Pass B as a region. -/
def reg1 : RegionSeg (pcfgs (F := F)) (adm m) (pdats m) () defs₀ 𝒱₀ L lv 1 :=
  RegionSeg.ofHeldInT (pcfgs (F := F)) (adm m) (pdats m) () defs₀ 𝒱₀ L lv 1 (fun _ => 0) (Pipeline.ucRefs τ sig) (fun _ => BI.emp) (fun _ => BI.emp)
    launch1 (fun c => (PassB.body_obligation (a1 m) (W30 m c) c).loose) (fun _ _ => rfl) (fun _ => rfl)
    (fun c => (PassB.dat (a1 m) (W30 m c) c).share_full fun _ => rfl)
    (fun c => PassB.enter (a1 m) (W30 m c) c) (fun c => PassB.leave (a1 m) (W30 m c) c)
    (fun _ => 0) (cut m 1) (fun _ => BI.emp) (W30 m)
    (fun c w => rfl) (fun c k => by obtain rfl : c = 0 := Subsingleton.elim _ _; exact (W30_table m 0 k).symm)

set_option backward.isDefEq.respectTransparency.types false in
theorem pre_reg0 (c : Dev nD) : iprop(StableHlo.held (c : Thread nD τ) (Pipeline.ucRefs τ sig) (V29 m c) ∗ Rest c) ⊢ (reg0 m).pre c :=
  by unfold reg0; exact RegionSeg.ofHeldInT_pre (pcs := pcfgs (F := F)) (a := adm m) (pdats := pdats m) (p := 0) (D := fun _ => 0) (S := Pipeline.ucRefs τ sig) (W := V29 m) (X := fun _ => BI.emp) (Y := fun _ => BI.emp) (R := fun _ => BI.emp) sub0 subT0 c
set_option backward.isDefEq.respectTransparency.types false in
theorem post_reg0 (c : Dev nD) : (reg0 m).post c ⊢ iprop(StableHlo.held (c : Thread nD τ) (Pipeline.ucRefs τ sig) (W30 m c) ∗ Rest c) :=
  by unfold reg0; exact RegionSeg.ofHeldInT_post (pcs := pcfgs (F := F)) (a := adm m) (pdats := pdats m) (p := 0) (D := fun _ => 0) (S := Pipeline.ucRefs τ sig) (W := V29 m) (X := fun _ => BI.emp) (Y := fun _ => BI.emp) (R := fun _ => BI.emp) sub0 subT0 c
set_option backward.isDefEq.respectTransparency.types false in
theorem pre_reg1 (c : Dev nD) : iprop(StableHlo.held (c : Thread nD τ) (Pipeline.ucRefs τ sig) (W30 m c) ∗ Rest c) ⊢ (reg1 m).pre c :=
  by unfold reg1; exact RegionSeg.ofHeldInT_pre (pcs := pcfgs (F := F)) (a := adm m) (pdats := pdats m) (p := 1) (D := fun _ => 0) (S := Pipeline.ucRefs τ sig) (W := W30 m) (X := fun _ => BI.emp) (Y := fun _ => BI.emp) (R := fun _ => BI.emp) sub1 subT1 c
set_option backward.isDefEq.respectTransparency.types false in
theorem post_reg1 (c : Dev nD) : (reg1 m).post c ⊢ iprop(StableHlo.held (c : Thread nD τ) (Pipeline.ucRefs τ sig) (W31 m c) ∗ Rest c) :=
  by unfold reg1; exact RegionSeg.ofHeldInT_post (pcs := pcfgs (F := F)) (a := adm m) (pdats := pdats m) (p := 1) (D := fun _ => 0) (S := Pipeline.ucRefs τ sig) (W := W30 m) (X := fun _ => BI.emp) (Y := fun _ => BI.emp) (R := fun _ => BI.emp) sub1 subT1 c

/-- The pipeline library's algebra is the left component. -/
abbrev EP : Emb (UR sig nD τ) 𝕄 := embL

/-- The launch's ghost element. -/
def u₀ : UU := (initOf (Pipeline.cells (Pipeline.pin (pcfgs (F := F)) (adm m)) (cellOf_inj (adm m))) (Pipeline.launchToks (Pipeline.pin (pcfgs (F := F)) (adm m)) (cellOf_inj (adm m))), 1)

variable (ρ : Dev nD → PrngReg)

set_option backward.isDefEq.respectTransparency.types false in
/-- Every weakly fair execution terminates; at the end every unscoped buffer holds what `W31` says and every counter is zero. -/
theorem run : θ_run defs (onTc (τ := τ) (main (F := F))) ⟨m, fun _ => 0, ρ⟩ (fun r =>
    (∀ c : Dev nD, ∀ b ∈ Pipeline.ucRefs τ sig, r.2.mem (c, b) = W31 m c b) ∧ r.2.sem = fun _ => 0) := by
  refine Pipeline.θ_run_regions_kit_dev_sems (pcfgs (F := F)) (adm m) (pdats m) () (cellOf_inj (adm m)) EP defs₀ 𝒱₀ L lv m ρ main
    (segs m 𝒱₀ L lv (fun _ => Rest) () (adm m) (pdats m) (reg0 m) (reg1 m))
    (fun c Q => by
      rewrite [main_chain c, Seg.run_eq_chain,
        show (segs m 𝒱₀ L lv (fun _ => Rest) () (adm m) (pdats m) (reg0 m) (reg1 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          StableHlo.seq hostOps0_16,
          StableHlo.seq hostOps0_17,
          StableHlo.seq hostOps0_18,
          StableHlo.seq hostOps0_19,
          StableHlo.seq hostOps0_20,
          StableHlo.seq hostOps0_21,
          StableHlo.seq hostOps0_22,
          StableHlo.seq hostOps0_23,
          StableHlo.seq hostOps0_24,
          StableHlo.seq hostOps0_25,
          StableHlo.seq hostOps0_26,
          StableHlo.seq hostOps0_27,
          StableHlo.seq hostOps0_28,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) 0
    (fun g hg => if_neg hg) (fun _ => iprop(emp)) (u₀ m)
    (by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c))
    (Tₙ := fun c => StableHlo.held (c : Thread nD τ) (Pipeline.ucRefs τ sig) (W31 m c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl,
      .rfl, .rfl, .rfl, .rfl, .rfl, .rfl, .rfl, pre_reg0 m c, (post_reg0 m c).trans (pre_reg1 m c),
      (post_reg1 m c).trans (sep_mono .rfl (by iintro ⟨H, -, -⟩; iexact H))⟩)
    (hinit := ?_) (QY := fun c s => ∀ b ∈ Pipeline.ucRefs τ sig, s.mem (c, b) = W31 m c b)
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (V0 m c) from
      Pipeline.unscopedBufs_held (Ix := Unit) (Name := ℕ) (U := UU) (Lvl := ℕ) c (V0 m c)]
    iintro ⟨⟨Hh, -, HO, -, -, -⟩, -⟩
    imodintro
    isplitl [Hh]; · iexact Hh
    isplitl [HO]; · iexists ∅; iexact HO
    isplitr <;> iempintro
  · unfold StableHlo.held
    iintro ⟨Hh, HSI⟩
    ihave Hr := (pointsTo_read_all (Pipeline.ucRefs τ sig) (fun b => ((c : Thread nD τ).1, b)) (W31 m c) s') $$ [Hh HSI]
    · isplitl [Hh] <;> iassumption
    icases Hr with ⟨%h, HSI⟩
    imodintro
    isplitr
    · ipureintro; exact h
    · iexact HSI

/-- Neither pass writes an array that is none of its windows'. -/
theorem W31_keeps (c : Dev nD) (r : Ref sig .tc) (h0 : ∀ w, r ≠ Pipeline.arrRef spec0 w) (h1 : ∀ w, r ≠ Pipeline.arrRef spec1 w) :
    W31 m c (Proc.devRef .tc r) = V29 m c (Proc.devRef .tc r) :=
  (Pipeline.afterRegion_of_not_arr _ _ h1).trans (Pipeline.afterRegion_of_not_arr _ _ h0)

/-- An unscoped reference is among those read at the end. -/
theorem mem_uc (r : Ref sig .tc) (h : ¬ (Proc.devRef (τ := τ) .tc r).isScoped) : Proc.devRef .tc r ∈ Pipeline.ucRefs τ sig :=
  Finset.mem_filter.mpr ⟨StableHlo.devRef_mem_tcRefs r, h⟩

end Cert.KernelIdeal.Run
-- ==== Proof.Frames.lean ====
/-
  The three programs' frames: they terminate, leave the arguments as they were and every counter at zero.
-/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Tactic

@[expose] public section

set_option maxRecDepth 1320

noncomputable section

namespace Cert.Frames

open Idealize.ShloMosaic Idealize.ShloMosaic.TcCoe Idealize.SL.Sem

section Ideal
open Cert.KernelIdeal Cert.KernelIdeal.Gen Cert.KernelIdeal.Run

variable {F : FTy → Type} [FloatOps F]
variable (m : (ℓ : Loc nD τ sig) → Buf (Elt F) ℓ)

/-- What neither pass writes is at the end what the host operations left there. -/
theorem kept (outs : Outs (F := F)) (c : Dev nD) (r : Ref sig .tc) (h0 : ∀ w, r ≠ Pipeline.arrRef spec0 w) (h1 : ∀ w, r ≠ Pipeline.arrRef spec1 w)
    (h : r ∉ ([main_v113_0, main_v113_1] : List (Ref sig .tc))) (h' : r ∉ ([main_v114] : List (Ref sig .tc))) :
    W31 m c (Proc.devRef .tc r) = V31 m outs c r :=
  (W31_keeps m c r h0 h1).trans ((V30_of m outs c r h).symm.trans (V31_of m outs c r h').symm)

/-- The contents left by the passes play no part in the arguments' preservation: any will do. -/
abbrev someOuts : Outs (F := F) := fun _ r c => m ((c : Thread nD τ).loc r)

/-- An argument read at the end holds what it held at launch. -/
theorem arg_kept (c : Dev nD) (r : Ref sig .tc) {mem : (ℓ : Loc nD τ sig) → Buf (Elt F) ℓ}
    (hm : ∀ b ∈ Pipeline.ucRefs τ sig, mem (c, b) = W31 m c b)
    (hv : V31 m (someOuts m) c r = m ((c : Thread nD τ).loc r))
    (hu : ¬ (Proc.devRef (τ := τ) .tc r).isScoped) (h0 : ∀ w, r ≠ Pipeline.arrRef spec0 w) (h1 : ∀ w, r ≠ Pipeline.arrRef spec1 w)
    (h : r ∉ ([main_v113_0, main_v113_1] : List (Ref sig .tc))) (h' : r ∉ ([main_v114] : List (Ref sig .tc))) :
    mem ((c.tc : Thread nD τ).loc r) = m ((c.tc : Thread nD τ).loc r) :=
  (hm _ (mem_uc r hu)).trans ((kept m (someOuts m) c r h0 h1 h h').trans hv)

/-- All arguments at once. -/
abbrev ArgsKept (mem : (ℓ : Loc nD τ sig) → Buf (Elt F) ℓ) (c : Dev nD) : Prop :=
  mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)
    ∧ mem ((c.tc : Thread nD τ).loc main_arg7) = m ((c.tc : Thread nD τ).loc main_arg7)
    ∧ mem ((c.tc : Thread nD τ).loc main_arg8) = m ((c.tc : Thread nD τ).loc main_arg8)
    ∧ mem ((c.tc : Thread nD τ).loc main_arg9) = m ((c.tc : Thread nD τ).loc main_arg9)
    ∧ mem ((c.tc : Thread nD τ).loc main_arg10) = m ((c.tc : Thread nD τ).loc main_arg10)
    ∧ mem ((c.tc : Thread nD τ).loc main_arg11) = m ((c.tc : Thread nD τ).loc main_arg11)
    ∧ mem ((c.tc : Thread nD τ).loc main_arg12) = m ((c.tc : Thread nD τ).loc main_arg12)
    ∧ mem ((c.tc : Thread nD τ).loc main_arg13) = m ((c.tc : Thread nD τ).loc main_arg13)
    ∧ mem ((c.tc : Thread nD τ).loc main_arg14) = m ((c.tc : Thread nD τ).loc main_arg14)
    ∧ mem ((c.tc : Thread nD τ).loc main_arg15) = m ((c.tc : Thread nD τ).loc main_arg15)
    ∧ mem ((c.tc : Thread nD τ).loc main_arg16) = m ((c.tc : Thread nD τ).loc main_arg16)
    ∧ mem ((c.tc : Thread nD τ).loc main_arg17) = m ((c.tc : Thread nD τ).loc main_arg17)
    ∧ mem ((c.tc : Thread nD τ).loc main_arg18) = m ((c.tc : Thread nD τ).loc main_arg18)
    ∧ mem ((c.tc : Thread nD τ).loc main_arg19) = m ((c.tc : Thread nD τ).loc main_arg19)
    ∧ mem ((c.tc : Thread nD τ).loc main_arg20) = m ((c.tc : Thread nD τ).loc main_arg20)
    ∧ mem ((c.tc : Thread nD τ).loc main_arg21) = m ((c.tc : Thread nD τ).loc main_arg21)
    ∧ mem ((c.tc : Thread nD τ).loc main_arg22) = m ((c.tc : Thread nD τ).loc main_arg22)

theorem args_kept (c : Dev nD) {mem : (ℓ : Loc nD τ sig) → Buf (Elt F) ℓ} (hm : ∀ b ∈ Pipeline.ucRefs τ sig, mem (c, b) = W31 m c b) :
    ArgsKept m mem c :=
  ⟨arg_kept m c main_arg0 hm (V31_main_arg0 m _ c) (by decide) (by decide) (by decide) (by decide) (by decide),
    arg_kept m c main_arg1 hm (V31_main_arg1 m _ c) (by decide) (by decide) (by decide) (by decide) (by decide),
    arg_kept m c main_arg2 hm (V31_main_arg2 m _ c) (by decide) (by decide) (by decide) (by decide) (by decide),
    arg_kept m c main_arg3 hm (V31_main_arg3 m _ c) (by decide) (by decide) (by decide) (by decide) (by decide),
    arg_kept m c main_arg4 hm (V31_main_arg4 m _ c) (by decide) (by decide) (by decide) (by decide) (by decide),
    arg_kept m c main_arg5 hm (V31_main_arg5 m _ c) (by decide) (by decide) (by decide) (by decide) (by decide),
    arg_kept m c main_arg6 hm (V31_main_arg6 m _ c) (by decide) (by decide) (by decide) (by decide) (by decide),
    arg_kept m c main_arg7 hm (V31_main_arg7 m _ c) (by decide) (by decide) (by decide) (by decide) (by decide),
    arg_kept m c main_arg8 hm (V31_main_arg8 m _ c) (by decide) (by decide) (by decide) (by decide) (by decide),
    arg_kept m c main_arg9 hm (V31_main_arg9 m _ c) (by decide) (by decide) (by decide) (by decide) (by decide),
    arg_kept m c main_arg10 hm (V31_main_arg10 m _ c) (by decide) (by decide) (by decide) (by decide) (by decide),
    arg_kept m c main_arg11 hm (V31_main_arg11 m _ c) (by decide) (by decide) (by decide) (by decide) (by decide),
    arg_kept m c main_arg12 hm (V31_main_arg12 m _ c) (by decide) (by decide) (by decide) (by decide) (by decide),
    arg_kept m c main_arg13 hm (V31_main_arg13 m _ c) (by decide) (by decide) (by decide) (by decide) (by decide),
    arg_kept m c main_arg14 hm (V31_main_arg14 m _ c) (by decide) (by decide) (by decide) (by decide) (by decide),
    arg_kept m c main_arg15 hm (V31_main_arg15 m _ c) (by decide) (by decide) (by decide) (by decide) (by decide),
    arg_kept m c main_arg16 hm (V31_main_arg16 m _ c) (by decide) (by decide) (by decide) (by decide) (by decide),
    arg_kept m c main_arg17 hm (V31_main_arg17 m _ c) (by decide) (by decide) (by decide) (by decide) (by decide),
    arg_kept m c main_arg18 hm (V31_main_arg18 m _ c) (by decide) (by decide) (by decide) (by decide) (by decide),
    arg_kept m c main_arg19 hm (V31_main_arg19 m _ c) (by decide) (by decide) (by decide) (by decide) (by decide),
    arg_kept m c main_arg20 hm (V31_main_arg20 m _ c) (by decide) (by decide) (by decide) (by decide) (by decide),
    arg_kept m c main_arg21 hm (V31_main_arg21 m _ c) (by decide) (by decide) (by decide) (by decide) (by decide),
    arg_kept m c main_arg22 hm (V31_main_arg22 m _ c) (by decide) (by decide) (by decide) (by decide) (by decide)⟩

/-- The frame of the kernel's text, at any reading of the floats. -/
theorem frame_ideal (ρ : Dev nD → PrngReg) :
    θ_run (defs (F := F)) (onTc (τ := τ) (main (F := F))) ⟨m, fun _ => 0, ρ⟩ (fun r => (∀ c : Dev nD, ArgsKept m r.2.mem c) ∧ r.2.sem = fun _ => 0) :=
  (θ_run defs _ _).mono (fun _ h => ⟨fun c => args_kept m c (h.1 c), h.2⟩) (run m ρ)

end Ideal

section Words
variable {F : FTy → Type} [FloatOps F]

/-- The kernel and its idealization are one text: their runs are the same proposition. -/
theorem run_eq [Cert.Kernel.Facts] [Cert.KernelIdeal.Facts] (m : (ℓ : Loc Cert.Kernel.nD Cert.Kernel.τ Cert.Kernel.sig) → Buf (Elt F) ℓ)
    (g : Dev Cert.Kernel.nD → PrngReg) (Q) :
    θ_run (Cert.Kernel.defs (F := F)) (onTc (τ := Cert.Kernel.τ) (Cert.Kernel.main (F := F))) ⟨m, fun _ => 0, g⟩ Q
    = θ_run (Cert.KernelIdeal.defs (F := F)) (onTc (τ := Cert.KernelIdeal.τ) (Cert.KernelIdeal.main (F := F))) ⟨m, fun _ => 0, g⟩ Q := by sl_kernel_rfl

end Words

/-- The kernel's frame. -/
theorem frame_kernel : Cert.quiescent_Kernel (hKernel := Cert.Kernel.Gen.facts) := fun m g _ => by
  rw [run_eq]
  exact frame_ideal m g

/-- The ideal kernel's frame. -/
theorem frame_kernelIdeal : Cert.quiescent_KernelIdeal (hKernelIdeal := Cert.KernelIdeal.Gen.facts) := fun m g _ => frame_ideal m g

/-- The reference has no semaphore. -/
theorem no_sem (g : GSem Cert.ReferenceIdeal.nD Cert.ReferenceIdeal.τ Cert.ReferenceIdeal.sig) : False := by
  rcases g with ⟨_, s | s⟩ <;> exact s.elim0

/-- The reference's frame. -/
theorem frame_referenceIdeal : Cert.quiescent_ReferenceIdeal (hReferenceIdeal := Cert.ReferenceIdeal.Gen.facts) := fun m g _ =>
  (θ_run (Cert.ReferenceIdeal.defs (F := Ideal)) _ _).mono (fun _ h => ⟨fun c => (h c).2, funext fun g => (no_sem g).elim⟩) (Cert.ReferenceIdeal.Value.run m g)

end Cert.Frames
-- ==== Proof.Model.lean ====
/-
  The problem's mathematics over the reals: the argument arrays, what they stand for, the features, and the group norm.
-/
module

public import Idealize.ShloMosaic.Lib.Pointwise
public import Mathlib.Tactic.FieldSimp

@[expose] public section

noncomputable section

namespace Cert.Model

open Idealize.ShloMosaic

/-- The rows. -/
abbrev Row := Fin 100000
/-- The feature columns. -/
abbrev Col := Fin 64
/-- The groups that the rows are normalised in. -/
abbrev Grp := Fin 512

/-- The argument arrays, in the order of the arguments. -/
structure Args where
  a0 : (⟨1, ![100000]⟩ : Shape).Idx → EReal
  a1 : (⟨1, ![100000]⟩ : Shape).Idx → EReal
  a2 : (⟨1, ![100000]⟩ : Shape).Idx → BitVec 32
  a3 : (⟨1, ![100000]⟩ : Shape).Idx → BitVec 32
  a4 : (⟨1, ![100000]⟩ : Shape).Idx → BitVec 32
  a5 : (⟨1, ![100000]⟩ : Shape).Idx → BitVec 32
  a6 : (⟨2, ![100000, 2]⟩ : Shape).Idx → EReal
  a7 : (⟨1, ![100000]⟩ : Shape).Idx → BitVec 32
  a8 : (⟨1, ![100000]⟩ : Shape).Idx → BitVec 32
  a9 : (⟨2, ![1000, 64]⟩ : Shape).Idx → EReal
  a10 : (⟨2, ![500, 64]⟩ : Shape).Idx → EReal
  a11 : (⟨2, ![50, 64]⟩ : Shape).Idx → EReal
  a12 : (⟨2, ![2, 64]⟩ : Shape).Idx → EReal
  a13 : (⟨2, ![16, 64]⟩ : Shape).Idx → EReal
  a14 : (⟨2, ![2, 64]⟩ : Shape).Idx → EReal
  a15 : (⟨1, ![64]⟩ : Shape).Idx → EReal
  a16 : (⟨2, ![1, 64]⟩ : Shape).Idx → EReal
  a17 : (⟨1, ![64]⟩ : Shape).Idx → EReal
  a18 : (⟨2, ![1, 64]⟩ : Shape).Idx → EReal
  a19 : (⟨1, ![64]⟩ : Shape).Idx → EReal
  a20 : (⟨1, ![64]⟩ : Shape).Idx → EReal
  a21 : (⟨1, ![64]⟩ : Shape).Idx → EReal
  a22 : (⟨1, ![64]⟩ : Shape).Idx → EReal

/-- The inputs as mathematics: real measurements, tables and weights, and indices into the tables. -/
structure Data where
  nc : Row → ℝ
  tm : Row → ℝ
  io : Row → Fin 1000
  oc : Row → Fin 500
  rt : Row → Fin 50
  sx : Row → Fin 2
  pp : Row → Fin 2 → ℝ
  ag : Row → Fin 16
  b : Row → Grp
  tio : Fin 1000 → Col → ℝ
  toc : Fin 500 → Col → ℝ
  trt : Fin 50 → Col → ℝ
  tsx : Fin 2 → Col → ℝ
  tag : Fin 16 → Col → ℝ
  wpos : Fin 2 → Col → ℝ
  bpos : Col → ℝ
  wtm : Col → ℝ
  btm : Col → ℝ
  wnc : Col → ℝ
  bnc : Col → ℝ
  w : Col → ℝ
  bias : Col → EReal
  ms : Col → EReal

/-- The arrays `A` hold the inputs `D`, and the rows are sorted by group. -/
structure Holds (A : Args) (D : Data) : Prop where
  a0 : ∀ n, A.a0 (ix1 n) = (D.nc n : EReal)
  a1 : ∀ n, A.a1 (ix1 n) = (D.tm n : EReal)
  a2 : ∀ n, A.a2 (ix1 n) = BitVec.ofNat 32 (D.io n).val
  a3 : ∀ n, A.a3 (ix1 n) = BitVec.ofNat 32 (D.oc n).val
  a4 : ∀ n, A.a4 (ix1 n) = BitVec.ofNat 32 (D.rt n).val
  a5 : ∀ n, A.a5 (ix1 n) = BitVec.ofNat 32 (D.sx n).val
  a6 : ∀ n k, A.a6 (ix2 n k) = (D.pp n k : EReal)
  a7 : ∀ n, A.a7 (ix1 n) = BitVec.ofNat 32 (D.ag n).val
  a8 : ∀ n, A.a8 (ix1 n) = BitVec.ofNat 32 (D.b n).val
  a9 : ∀ k d, A.a9 (ix2 k d) = (D.tio k d : EReal)
  a10 : ∀ k d, A.a10 (ix2 k d) = (D.toc k d : EReal)
  a11 : ∀ k d, A.a11 (ix2 k d) = (D.trt k d : EReal)
  a12 : ∀ k d, A.a12 (ix2 k d) = (D.tsx k d : EReal)
  a13 : ∀ k d, A.a13 (ix2 k d) = (D.tag k d : EReal)
  a14 : ∀ k d, A.a14 (ix2 k d) = (D.wpos k d : EReal)
  a15 : ∀ d, A.a15 (ix1 d) = (D.bpos d : EReal)
  a16 : ∀ d, A.a16 (ix2 0 d) = (D.wtm d : EReal)
  a17 : ∀ d, A.a17 (ix1 d) = (D.btm d : EReal)
  a18 : ∀ d, A.a18 (ix2 0 d) = (D.wnc d : EReal)
  a19 : ∀ d, A.a19 (ix1 d) = (D.bnc d : EReal)
  a20 : ∀ d, A.a20 (ix1 d) = (D.w d : EReal)
  a21 : ∀ d, A.a21 (ix1 d) = D.bias d
  a22 : ∀ d, A.a22 (ix1 d) = D.ms d
  sorted : Monotone D.b

variable (D : Data)

/-- Row `n`'s feature in column `d`. -/
def x (n : Row) (d : Col) : ℝ :=
  D.tio (D.io n) d + D.toc (D.oc n) d + D.trt (D.rt n) d + D.tsx (D.sx n) d
    + (D.pp n 0 * D.wpos 0 d + D.pp n 1 * D.wpos 1 d + D.bpos d) + (D.tm n * D.wtm d + D.btm d) + (D.nc n * D.wnc d + D.bnc d) + D.tag (D.ag n) d

/-- The number of rows of a group. -/
def cnt (g : Grp) : ℝ := ∑ n : Row, if D.b n = g then 1 else 0
/-- The sum of a column over a group. -/
def tot (g : Grp) (d : Col) : ℝ := ∑ n : Row, if D.b n = g then x D n d else 0
/-- The sum of a column's squares over a group. -/
def sq (g : Grp) (d : Col) : ℝ := ∑ n : Row, if D.b n = g then x D n d * x D n d else 0
/-- A column's mean over a group. -/
def mean (g : Grp) (d : Col) : ℝ := tot D g d * (1 / max (cnt D g) 1)
/-- A column's scale of the mean, an infinite one read as zero. -/
def msr (d : Col) : ℝ := (D.ms d).toReal
/-- A feature less the scaled mean of its group. -/
def dev (n : Row) (d : Col) : ℝ := x D n d - mean D (D.b n) d * msr D d
/-- The mean square of these over a group. -/
def var (g : Grp) (d : Col) : ℝ := (∑ n : Row, if D.b n = g then dev D n d * dev D n d else 0) * (1 / max (cnt D g) 1)
/-- The number added to the variance. -/
def eps : ℝ := 10995116 * (2 : ℝ) ^ (-40 : ℤ)
/-- The scale of the mean is infinite and the mean is not zero: the variance is then infinite, and the row normalises to zero. -/
def Lost (n : Row) (d : Col) : Prop := (D.ms d = ⊤ ∨ D.ms d = ⊥) ∧ mean D (D.b n) d ≠ 0
open Classical in
/-- The normalised row. -/
def out (n : Row) (d : Col) : EReal := if Lost D n d then D.bias d else ((D.w d * dev D n d * (1 / √(var D (D.b n) d + eps)) : ℝ) : EReal) + D.bias d

theorem eps_pos : 0 < eps := by unfold eps; positivity

theorem one_le_cnt (n : Row) : 1 ≤ cnt D (D.b n) := by
  unfold cnt
  refine (if_pos rfl : (if D.b n = D.b n then (1 : ℝ) else 0) = 1).symm.le.trans ?_
  exact Finset.single_le_sum (f := fun k : Row => if D.b k = D.b n then (1 : ℝ) else 0) (s := Finset.univ)
    (fun k _ => by split_ifs <;> norm_num) (Finset.mem_univ n)

theorem var_nonneg (g : Grp) (d : Col) : 0 ≤ var D g d := by
  unfold var
  refine mul_nonneg (Finset.sum_nonneg fun n _ => ?_) (by positivity)
  split_ifs
  · exact mul_self_nonneg _
  · exact le_refl _

/-- The variance from the two sums. -/
theorem var_eq (n : Row) (d : Col) :
    var D (D.b n) d = sq D (D.b n) d * (1 / max (cnt D (D.b n)) 1)
      - mean D (D.b n) d * mean D (D.b n) d * msr D d * (2 - msr D d) := by
  have hc : max (cnt D (D.b n)) 1 = cnt D (D.b n) := max_eq_left (one_le_cnt D n)
  have hpos : cnt D (D.b n) ≠ 0 := by have := one_le_cnt D n; positivity
  set g := D.b n
  have e : (∑ k : Row, if D.b k = g then dev D k d * dev D k d else 0)
      = sq D g d - 2 * (mean D g d * msr D d) * tot D g d + (mean D g d * msr D d) * (mean D g d * msr D d) * cnt D g := by
    unfold sq tot cnt
    rw [Finset.mul_sum, Finset.mul_sum, ← Finset.sum_sub_distrib, ← Finset.sum_add_distrib]
    refine Finset.sum_congr rfl fun k _ => ?_
    split_ifs with h
    · unfold dev; rw [h]; ring
    · ring
  have ht : tot D g d = mean D g d * cnt D g := by
    unfold mean; rw [hc]; field_simp
  unfold var
  rw [e, ht, hc]
  field_simp
  ring

/-- The number added to the variance, as its float word. -/
theorem eps_word : Ideal.ofBits .f32 0x3727C5AC#32 = (eps : EReal) := by
  unfold eps
  simp [Ideal.ofBits, Ideal.ieee, -EReal.coe_mul]

theorem two_word : Ideal.ofBits .f32 0x40000000#32 = ((2 : ℝ) : EReal) := by
  simp [Ideal.ofBits, Ideal.ieee, -EReal.coe_mul]
  try norm_num

theorem one_word : Ideal.ofBits .f32 0x3F800000#32 = ((1 : ℝ) : EReal) := by
  simp [Ideal.ofBits, Ideal.ieee, -EReal.coe_mul]
  try norm_num

theorem zero_word : Ideal.ofBits .f32 0x00000000#32 = ((0 : ℝ) : EReal) := by
  simp [Ideal.ofBits, Ideal.ieee, -EReal.coe_mul]

/-- A sum of reals, as a sum of extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (x y : ℝ) : ((max x y : ℝ) : EReal) = max (x : EReal) (y : EReal) := EReal.coe_strictMono.monotone.map_max

/-- A real times a truth value, as an extended real. -/
theorem coe_ite (p : Prop) [Decidable p] (r : ℝ) : (((if p then r else 0 : ℝ)) : EReal) = if p then (r : EReal) else 0 := by
  split_ifs <;> simp

theorem cnt_coe (g : Grp) : ((cnt D g : ℝ) : EReal) = ∑ n : Row, if D.b n = g then (1 : EReal) else 0 := by
  unfold cnt; rw [coe_sum]; exact Finset.sum_congr rfl fun n _ => coe_ite _ _
theorem tot_coe (g : Grp) (d : Col) : ((tot D g d : ℝ) : EReal) = ∑ n : Row, if D.b n = g then (x D n d : EReal) else 0 := by
  unfold tot; rw [coe_sum]; exact Finset.sum_congr rfl fun n _ => coe_ite _ _
theorem sq_coe (g : Grp) (d : Col) : ((sq D g d : ℝ) : EReal) = ∑ n : Row, if D.b n = g then (x D n d : EReal) * (x D n d : EReal) else 0 := by
  unfold sq; rw [coe_sum]; exact Finset.sum_congr rfl fun n _ => (coe_ite _ _).trans (by rw [EReal.coe_mul])
theorem dev_coe (g : Grp) (d : Col) : ((∑ n : Row, (if D.b n = g then dev D n d * dev D n d else 0) : ℝ) : EReal)
    = ∑ n : Row, if D.b n = g then (dev D n d : EReal) * (dev D n d : EReal) else 0 := by
  rw [coe_sum]; exact Finset.sum_congr rfl fun n _ => (coe_ite _ _).trans (by rw [EReal.coe_mul])

theorem max_pos (g : Grp) : max (cnt D g) 1 ≠ 0 := by positivity

/-- The quotient by a positive real. -/
theorem div_real (a : ℝ) {y : ℝ} (h : y ≠ 0) : Ideal.div (a : EReal) (y : EReal) = ((a * (1 / y) : ℝ) : EReal) := by
  rw [Ideal.div_coe h, EReal.coe_mul]

/-- The reciprocal root of a positive real. -/
theorem rsqrt_real {v : ℝ} (h : 0 < v) : Ideal.rsqrt (v : EReal) = ((1 / √v : ℝ) : EReal) := by
  have : Ideal.rsqrt (v : EReal) = if v < 0 then ⊥ else if v = 0 then ⊤ else (((√v)⁻¹ : ℝ) : EReal) := rfl
  rw [this, if_neg (not_lt.2 h.le), if_neg h.ne', one_div]

/-- Where the row is not lost, the scaled mean is a real. -/
theorem scaled_mean {n : Row} {d : Col} (h : ¬ Lost D n d) : (mean D (D.b n) d : EReal) * D.ms d = ((mean D (D.b n) d * msr D d : ℝ) : EReal) := by
  unfold Lost at h
  unfold msr
  induction hd : D.ms d with
  | coe r => rw [EReal.toReal_coe, EReal.coe_mul]
  | bot | top =>
    have : mean D (D.b n) d = 0 := by simpa [hd] using h
    simp [this]

/-- What the squares lose, where the row is not lost. -/
theorem loss_real {n : Row} {d : Col} (h : ¬ Lost D n d) : (mean D (D.b n) d : EReal) * (mean D (D.b n) d : EReal) * D.ms d * (((2 : ℝ) : EReal) - D.ms d)
    = ((mean D (D.b n) d * mean D (D.b n) d * msr D d * (2 - msr D d) : ℝ) : EReal) := by
  unfold Lost at h
  unfold msr
  induction hd : D.ms d with
  | coe r => rw [EReal.toReal_coe, ← EReal.coe_mul, ← EReal.coe_mul, ← EReal.coe_sub, ← EReal.coe_mul]
  | bot | top =>
    have : mean D (D.b n) d = 0 := by simpa [hd] using h
    simp [this]

/-- What the squares lose, where the row is lost. -/
theorem loss_lost {n : Row} {d : Col} (h : Lost D n d) : (mean D (D.b n) d : EReal) * (mean D (D.b n) d : EReal) * D.ms d * (((2 : ℝ) : EReal) - D.ms d) = ⊥ := by
  have hp : 0 < mean D (D.b n) d * mean D (D.b n) d := mul_self_pos.2 h.2
  rw [← EReal.coe_mul]
  rcases h.1 with h | h <;> rw [h]
  · rw [EReal.coe_mul_top_of_pos hp, sub_eq_add_neg, EReal.neg_top, EReal.add_bot, EReal.top_mul_bot]
  · rw [EReal.coe_mul_bot_of_pos hp, EReal.coe_sub_bot, EReal.bot_mul_top]

/-- The square of a lost row's deviation. -/
theorem dev_lost {n : Row} {d : Col} (h : Lost D n d) (k : Row) :
    ((x D k d : EReal) - (mean D (D.b n) d : EReal) * D.ms d) * ((x D k d : EReal) - (mean D (D.b n) d : EReal) * D.ms d) = ⊤ := by
  have e : (mean D (D.b n) d : EReal) * D.ms d = ⊤ ∨ (mean D (D.b n) d : EReal) * D.ms d = ⊥ := by
    rcases lt_or_gt_of_ne h.2 with hm | hm <;> rcases h.1 with h | h <;> rw [h]
    · exact .inr (EReal.coe_mul_top_of_neg hm)
    · exact .inl (EReal.coe_mul_bot_of_neg hm)
    · exact .inl (EReal.coe_mul_top_of_pos hm)
    · exact .inr (EReal.coe_mul_bot_of_pos hm)
  rcases e with e | e <;> rw [e]
  · rw [sub_eq_add_neg, EReal.neg_top, EReal.add_bot, EReal.bot_mul_bot]
  · rw [EReal.coe_sub_bot, EReal.top_mul_top]

/-- A sum over a row's group of infinities. -/
theorem sum_top (n : Row) : ∑ k : Row, (if D.b k = D.b n then (⊤ : EReal) else 0) = ⊤ := by
  rw [← Finset.add_sum_erase _ _ (Finset.mem_univ n), if_pos rfl]
  refine EReal.top_add_of_ne_bot (ne_of_gt (EReal.bot_lt_zero.trans_le (Finset.sum_nonneg fun k _ => ?_)))
  split_ifs
  · exact le_top
  · exact le_refl _

open Classical in
/-- The kernel's scale of a row's group. -/
def scl (n : Row) (d : Col) : ℝ := if Lost D n d then 0 else D.w d * (1 / √(var D (D.b n) d + eps))

open Classical in
/-- What the kernel's shift takes from the bias. -/
def shl (n : Row) (d : Col) : ℝ := if Lost D n d then 0 else mean D (D.b n) d * msr D d * (D.w d * (1 / √(var D (D.b n) d + eps)))

/-- Normalising by a scale and a shift is the group norm. -/
theorem scale_shift (n : Row) (d : Col) : ((scl D n d : ℝ) : EReal) * (x D n d : EReal) + (D.bias d - ((shl D n d : ℝ) : EReal)) = out D n d := by
  unfold out scl shl
  split_ifs with h
  · rw [EReal.coe_zero, zero_mul, sub_zero, zero_add]
  · unfold dev
    rw [sub_eq_add_neg, ← EReal.coe_neg, ← EReal.coe_mul, add_comm (D.bias d), ← add_assoc, ← EReal.coe_add]
    congr 2
    ring

end Cert.Model
-- ==== Proof.Blocks.lean ====
/-
  The blocks that the passes read, entry by entry of the arrays they are cut from, and the arrays they write, entry by entry.
-/
module

public import proofs.«01_k».proof.Proof.Run
public import proofs.«01_k».proof.Proof.Model
public import Idealize.ShloMosaic.Lib.Pointwise
public import Idealize.ShloMosaic.Lib.Pipeline.ValueKit
public import Idealize.ShloMosaic.Lib.Pipeline.Covers

@[expose] public section

set_option maxRecDepth 16384

noncomputable section

namespace Cert.Blocks

open Cert.KernelIdeal hiding ix1
open Idealize.ShloMosaic Idealize.ShloMosaic.TcCoe Idealize.SL.Sem
open Idealize.ShloMosaic.Pipeline (Dat afterRegion)

/-- The place of a block's column in its array. -/
abbrev at_ (t : Fin 13) (n : Fin 8192) : Fin 106496 := ⟨8192 * t.val + n.val, by omega⟩

/-- A grid point of either pass as its number. -/
abbrev pt (t : Fin 13) : Fin grid0.N := t
/-- A grid point of pass B. -/
abbrev pt1 (t : Fin 13) : Fin grid1.N := t

theorem along : ∀ t : Fin grid0.N, cc0_transform_0 (grid0.coords t) = ![0, t.val] := by decide
theorem along1 : ∀ t : Fin grid1.N, cc1_transform_0 (grid1.coords t) = ![0, t.val] := by decide
theorem across : ∀ t : Fin grid1.N, cc1_transform_3 (grid1.coords t) = ![t.val, 0] := by decide

/-- A row's place: the blocks are not cut along it. -/
theorem row_at {f : Fin 2 → ℕ} {t : ℕ} (h : f = ![0, t]) (s k : ℕ) : f 0 * s + k = k := by subst h; exact (congrArg (· + k) (Nat.zero_mul s)).trans (Nat.zero_add k)
/-- A column's place: the blocks are cut along it. -/
theorem col_at {f : Fin 2 → ℕ} {t : ℕ} (h : f = ![0, t]) (k : ℕ) : f 1 * 8192 + k = 8192 * t + k := by subst h; exact congrArg (· + k) (Nat.mul_comm t 8192)

/-- The same for the result, whose blocks are cut along the rows. -/
theorem at_0 {f : Fin 2 → ℕ} {t : ℕ} (h : f = ![t, 0]) (k : ℕ) : f 0 * 8192 + k = 8192 * t + k := by subst h; exact congrArg (· + k) (Nat.mul_comm t 8192)
theorem at_1 {f : Fin 2 → ℕ} {t : ℕ} (h : f = ![t, 0]) (s k : ℕ) : f 1 * s + k = k := by subst h; exact (congrArg (· + k) (Nat.zero_mul s)).trans (Nat.zero_add k)

section
variable (a : (pcfg0 (F := Ideal)).Adm) (W : Valuation τ sig (Elt Ideal)) (t : Fin 13)

theorem A0 (k : Fin 8) (n : Fin 8192) : PassA.B0 a W (pt t) (ix2 k n) = (W main_v14 : S8x106496.Idx → BitVec 32) (ix2 k (at_ t n)) := by
  refine congrArg (W main_v14 : S8x106496.Idx → BitVec 32) (funext fun i => Fin.ext ?_)
  refine (Pipeline.Window.rect_emb_val _ _ _ _).trans ?_
  fin_cases i
  · exact row_at (along t) _ k.val
  · exact col_at (along t) n.val

theorem A1 (k : Fin 8) (n : Fin 8192) : PassA.B1 a W (pt t) (ix2 k n) = (W main_v39 : S8x106496.Idx → EReal) (ix2 k (at_ t n)) := by
  refine congrArg (W main_v39 : S8x106496.Idx → EReal) (funext fun i => Fin.ext ?_)
  refine (Pipeline.Window.rect_emb_val _ _ _ _).trans ?_
  fin_cases i
  · exact row_at (along t) _ k.val
  · exact col_at (along t) n.val

theorem A2 : PassA.B2 a W (pt t) = (W main_v71 : S64x1024.Idx → EReal) := funext fun y => by
  refine congrArg (W main_v71 : S64x1024.Idx → EReal) (funext fun i => Fin.ext ?_)
  refine (Pipeline.Window.rect_emb_val _ _ _ _).trans ?_
  fin_cases i <;> exact Nat.zero_add _

theorem A3 : PassA.B3 a W (pt t) = (W main_v74 : S64x512.Idx → EReal) := funext fun y => by
  refine congrArg (W main_v74 : S64x512.Idx → EReal) (funext fun i => Fin.ext ?_)
  refine (Pipeline.Window.rect_emb_val _ _ _ _).trans ?_
  fin_cases i <;> exact Nat.zero_add _

theorem A4 : PassA.B4 a W (pt t) = (W main_v106 : S64x96.Idx → EReal) := funext fun y => by
  refine congrArg (W main_v106 : S64x96.Idx → EReal) (funext fun i => Fin.ext ?_)
  refine (Pipeline.Window.rect_emb_val _ _ _ _).trans ?_
  fin_cases i <;> exact Nat.zero_add _

theorem A5 : PassA.B5 a W (pt t) = (W main_v112 : S64x8.Idx → EReal) := funext fun y => by
  refine congrArg (W main_v112 : S64x8.Idx → EReal) (funext fun i => Fin.ext ?_)
  refine (Pipeline.Window.rect_emb_val _ _ _ _).trans ?_
  fin_cases i <;> exact Nat.zero_add _

end

section
variable (a : (pcfg1 (F := Ideal)).Adm) (W : Valuation τ sig (Elt Ideal)) (t : Fin 13)

theorem C0 (d : Fin 64) (n : Fin 8192) : PassB.B0 a W (pt1 t) (ix2 d n) = (W main_v113_0 : S64x106496.Idx → EReal) (ix2 d (at_ t n)) := by
  refine congrArg (W main_v113_0 : S64x106496.Idx → EReal) (funext fun i => Fin.ext ?_)
  refine (Pipeline.Window.rect_emb_val _ _ _ _).trans ?_
  fin_cases i
  · exact row_at (along1 t) _ d.val
  · exact col_at (along1 t) n.val

theorem C1 (k : Fin 8) (n : Fin 8192) : PassB.B1 a W (pt1 t) (ix2 k n) = (W main_v14 : S8x106496.Idx → BitVec 32) (ix2 k (at_ t n)) := by
  refine congrArg (W main_v14 : S8x106496.Idx → BitVec 32) (funext fun i => Fin.ext ?_)
  refine (Pipeline.Window.rect_emb_val _ _ _ _).trans ?_
  fin_cases i
  · exact row_at (along1 t) _ k.val
  · exact col_at (along1 t) n.val

theorem C2 : PassB.B2 a W (pt1 t) = (W main_v113_1 : S128x512.Idx → EReal) := funext fun y => by
  refine congrArg (W main_v113_1 : S128x512.Idx → EReal) (funext fun i => Fin.ext ?_)
  refine (Pipeline.Window.rect_emb_val _ _ _ _).trans ?_
  fin_cases i <;> exact Nat.zero_add _

end

section
variable (m : (ℓ : Loc nD τ sig) → Buf (Elt Ideal) ℓ) (c : Dev nD)

theorem flushes : ∀ t : Fin grid0.N, Pipeline.Window.flushOf grid0 true cc0_transform_0 t = true := by decide
theorem flushes6 (a : (pcfg0 (F := Ideal)).Adm) (t : Fin grid0.N) : ((cfg0 a).win 6).flush t = true :=
  (Pipeline.Window.flush_eq_flushOf _ t).trans (flushes t)

/-- The features that pass A leaves. -/
theorem features (t : Fin 13) (d : Fin 64) (n : Fin 8192) :
    (Run.W30 m c main_v113_0 : S64x106496.Idx → EReal) (ix2 d (at_ t n))
      = PassA.outX (PassA.B0 (Run.a0 m) (Gen.V29 m c) (pt t)) (PassA.B1 (Run.a0 m) (Gen.V29 m c) (pt t)) (PassA.B2 (Run.a0 m) (Gen.V29 m c) (pt t))
          (PassA.B3 (Run.a0 m) (Gen.V29 m c) (pt t)) (PassA.B4 (Run.a0 m) (Gen.V29 m c) (pt t)) (ix2 d n) := by
  have hd : ∀ t t' : Fin grid0.N, ((cfg0 (Run.a0 m)).win 6).flush t = true → ((cfg0 (Run.a0 m)).win 6).flush t' = true → t ≠ t' →
      Disjoint (((cfg0 (Run.a0 m)).win 6).blk t).view.set (((cfg0 (Run.a0 m)).win 6).blk t').view.set := by
    refine Pipeline.Window.hdisj_of_index_inj _ fun t t' _ _ he => Fin.ext ?_
    have h : cc0_transform_0 (grid0.coords t) = cc0_transform_0 (grid0.coords t') := he
    rw [along, along] at h
    exact congrFun h 1
  have h := (PassA.dat (Run.a0 m) (Gen.V29 m c) c).arrAt_emb_eq_flushed 6 hd (pt t) (flushes6 _ _) (ix2 d n)
  have e : Run.W30 m c main_v113_0 = (PassA.dat (Run.a0 m) (Gen.V29 m c) c).arrAt 6 grid0.N :=
    Pipeline.afterRegion_arr (PassA.dat (Run.a0 m) (Gen.V29 m c) c) (Gen.V29 m c) (Gen.launch0 (F := Ideal)).win.arr_inj 6
  rw [e]
  refine Eq.trans (congrArg ((PassA.dat (Run.a0 m) (Gen.V29 m c) c).arrAt 6 grid0.N) (funext fun i => Fin.ext ?_)) (h.trans rfl)
  refine Eq.symm ((Pipeline.Window.rect_emb_val _ _ _ _).trans ?_)
  fin_cases i
  · exact row_at (along t) _ d.val
  · exact col_at (along t) n.val

theorem whole7 (a : (pcfg0 (F := Ideal)).Adm) : ((cfg0 a).win 7).WholeAt (pt 12) := by
  refine ⟨rfl, fun t h => ?_, fun i => ?_⟩
  · have h' : Pipeline.Window.flushOf grid0 true cc0_transform_7 t = true := (Pipeline.Window.flush_eq_flushOf _ t).symm.trans h
    exact (by decide : ∀ t : Fin grid0.N, Pipeline.Window.flushOf grid0 true cc0_transform_7 t = true → t = pt 12) t h'
  · fin_cases i <;> exact ⟨rfl, rfl⟩

/-- The scales and shifts that pass A leaves. -/
theorem scales (y : S128x512.Idx) :
    (Run.W30 m c main_v113_1 : S128x512.Idx → EReal) y
      = PassA.outAC (PassA.sums (Run.a0 m) (Gen.V29 m c) 13) (PassA.B5 (Run.a0 m) (Gen.V29 m c) (pt 12))
          (fun _ => PassA.B4 (Run.a0 m) (Gen.V29 m c) (pt 12) (fun k => ⟨0, by fin_cases k <;> decide⟩)) y := by
  have h := (PassA.dat (Run.a0 m) (Gen.V29 m c) c).arrAt_emb_eq_after_last 7 (pt 12) (whole7 _) y
  have e : Run.W30 m c main_v113_1 = (PassA.dat (Run.a0 m) (Gen.V29 m c) c).arrAt 7 grid0.N :=
    Pipeline.afterRegion_arr (PassA.dat (Run.a0 m) (Gen.V29 m c) c) (Gen.V29 m c) (Gen.launch0 (F := Ideal)).win.arr_inj 7
  rw [e]
  exact h.trans rfl

theorem flushes3 (a : (pcfg1 (F := Ideal)).Adm) (t : Fin grid1.N) : ((cfg1 a).win 3).flush t = true :=
  (Pipeline.Window.flush_eq_flushOf _ t).trans ((by decide : ∀ t : Fin grid1.N, Pipeline.Window.flushOf grid1 true cc1_transform_3 t = true) t)

/-- The result's entries, as pass B leaves them. -/
theorem result (t : Fin 13) (n : Fin 8192) (hn : 8192 * t.val + n.val < 100000) (d : Fin 64) :
    (Run.W31 m c main_v114 : S100000x64.Idx → EReal) (ix2 ⟨8192 * t.val + n.val, hn⟩ d)
      = PassB.outB (grid1.coords (pt1 t)) (PassB.tab (Run.a1 m)) (PassB.B0 (Run.a1 m) (Run.W30 m c) (pt1 t)) (PassB.B1 (Run.a1 m) (Run.W30 m c) (pt1 t))
          (PassB.B2 (Run.a1 m) (Run.W30 m c) (pt1 t)) (ix2 n d) := by
  have hd : ∀ t t' : Fin grid1.N, ((cfg1 (Run.a1 m)).win 3).flush t = true → ((cfg1 (Run.a1 m)).win 3).flush t' = true → t ≠ t' →
      Disjoint (((cfg1 (Run.a1 m)).win 3).blk t).view.set (((cfg1 (Run.a1 m)).win 3).blk t').view.set := by
    refine Pipeline.Window.hdisj_of_index_inj _ fun t t' _ _ he => Fin.ext ?_
    have h : cc1_transform_3 (grid1.coords t) = cc1_transform_3 (grid1.coords t') := he
    rw [across, across] at h
    exact congrFun h 0
  have hx : ∀ k : Fin 2, ((ix2 n d : S8192x64.Idx) k).val < ((cfg1 (Run.a1 m)).win 3).xsize (grid1.coords (pt1 t)) k := by
    have e : ∀ k : Fin 2, ((cfg1 (Run.a1 m)).win 3).xsize (grid1.coords (pt1 t)) k = ![8192, 64] k
        ∨ ![100000, 64] k ≤ cc1_transform_3 (grid1.coords (pt1 t)) k * ![8192, 64] k + ((cfg1 (Run.a1 m)).win 3).xsize (grid1.coords (pt1 t)) k := by
      have h := Pipeline.Window.xsize_eq_or_end ((cfg1 (Run.a1 m)).win 3) rfl (grid1.coords (pt1 t))
      intro k
      fin_cases k
      · exact h (0 : Fin 2)
      · exact h (1 : Fin 2)
    rw [across] at e
    have e0 : _ = 8192 ∨ 100000 ≤ t.val * 8192 + _ := e 0
    have e1 : _ = 64 ∨ 64 ≤ 0 * 64 + _ := e 1
    intro k
    fin_cases k
    · change n.val < ((cfg1 (Run.a1 m)).win 3).xsize (grid1.coords (pt1 t)) (0 : Fin 2)
      have := n.isLt
      omega
    · change d.val < ((cfg1 (Run.a1 m)).win 3).xsize (grid1.coords (pt1 t)) (1 : Fin 2)
      have := d.isLt
      omega
  have h := (PassB.dat (Run.a1 m) (Run.W30 m c) c).arrAt_emb_eq_flushed 3 hd (pt1 t) (flushes3 _ _) (fun k => ⟨((ix2 n d : S8192x64.Idx) k).val, hx k⟩)
  have e : Run.W31 m c main_v114 = (PassB.dat (Run.a1 m) (Run.W30 m c) c).arrAt 3 grid1.N :=
    Pipeline.afterRegion_arr (PassB.dat (Run.a1 m) (Run.W30 m c) c) (Run.W30 m c) (Gen.launch1 (F := Ideal)).win.arr_inj 3
  rw [e]
  refine Eq.trans (congrArg ((PassB.dat (Run.a1 m) (Run.W30 m c) c).arrAt 3 grid1.N) (funext fun i => Fin.ext ?_)) (h.trans ?_)
  · refine Eq.symm ((Pipeline.Window.rect_emb_val _ _ _ _).trans ?_)
    fin_cases i
    · exact at_0 (across t) n.val
    · exact at_1 (across t) _ d.val
  · refine congrArg (PassB.outB (grid1.coords (pt1 t)) (PassB.tab (Run.a1 m)) (PassB.B0 (Run.a1 m) (Run.W30 m c) (pt1 t)) (PassB.B1 (Run.a1 m) (Run.W30 m c) (pt1 t))
          (PassB.B2 (Run.a1 m) (Run.W30 m c) (pt1 t))) (funext fun i => Fin.ext ?_)
    fin_cases i <;> rfl

/-- Pass A leaves the indices as they were. -/
theorem indices : Run.W30 m c main_v14 = Gen.V29 m c main_v14 := by
  have e : Run.W30 m c main_v14 = (PassA.dat (Run.a0 m) (Gen.V29 m c) c).arrAt 0 grid0.N :=
    Pipeline.afterRegion_arr (PassA.dat (Run.a0 m) (Gen.V29 m c) c) (Gen.V29 m c) (Gen.launch0 (F := Ideal)).win.arr_inj 0
  rw [e]
  exact Pipeline.Dat.arrAt_in _ 0 rfl grid0.N

end

end Cert.Blocks
-- ==== Proof.HostVal.lean ====
/-
  What the host operations before the two passes leave in the arrays that the passes read, entry by entry.
-/
module

public import proofs.«01_k».proof.Proof.Gen.KernelIdeal.Regions
public import proofs.«01_k».proof.Proof.Model
public import Idealize.ShloMosaic.Lib.Pointwise
public import Idealize.ShloMosaic.Lib.StableHlo.ReadAt
public import Idealize.ShloMosaic.Lib.Routing.OpsSearch

@[expose] public section

set_option maxRecDepth 16384

noncomputable section

namespace Cert.HostVal

open Cert.KernelIdeal hiding ix1
open Cert.KernelIdeal.Gen (V0 V1 V2 V3 V4 V5 V6 V7 V8 V9 V10 V11 V12 V13 V14 V15 V16 V17 V18 V19 V20 V21 V22 V23 V24 V25 V26 V27 V28 V29)
open Idealize.ShloMosaic Idealize.ShloMosaic.TcCoe Idealize.SL.Sem
open Cert.Model (Data Args Holds)

variable (m : (ℓ : Loc nD τ sig) → Buf (Elt Ideal) ℓ) (c : Dev nD)

/-- The argument arrays in the memory `m`. -/
def args : Args where
  a0 := V0 m c main_arg0
  a1 := V0 m c main_arg1
  a2 := V0 m c main_arg2
  a3 := V0 m c main_arg3
  a4 := V0 m c main_arg4
  a5 := V0 m c main_arg5
  a6 := V0 m c main_arg6
  a7 := V0 m c main_arg7
  a8 := V0 m c main_arg8
  a9 := V0 m c main_arg9
  a10 := V0 m c main_arg10
  a11 := V0 m c main_arg11
  a12 := V0 m c main_arg12
  a13 := V0 m c main_arg13
  a14 := V0 m c main_arg14
  a15 := V0 m c main_arg15
  a16 := V0 m c main_arg16
  a17 := V0 m c main_arg17
  a18 := V0 m c main_arg18
  a19 := V0 m c main_arg19
  a20 := V0 m c main_arg20
  a21 := V0 m c main_arg21
  a22 := V0 m c main_arg22

/-- The five index rows, padded: an index array's words, then the padding word. -/
abbrev padded (A : (⟨1, ![100000]⟩ : Shape).Idx → BitVec 32) (z : BitVec 32) (n : Fin 106496) : BitVec 32 :=
  if h : n.val < 100000 then A (ix1 ⟨n.val, h⟩) else z

theorem idx_0 (n : Fin 106496) : (V29 m c main_v14 : S8x106496.Idx → BitVec 32) (ix2 0 n) = padded (args m c).a2 0#32 n := by
  unfold V29 V28 V27 V26 V25 V24 V23 V22 V21 V20 V19 V18 V17 V16 V15 V14 V13 V12 V11 V10 V9 V8 V7 V6 V5 V4 V3 V2 V1
  repeat after_reads_at
  rfl
theorem idx_1 (n : Fin 106496) : (V29 m c main_v14 : S8x106496.Idx → BitVec 32) (ix2 1 n) = padded (args m c).a3 0#32 n := by
  unfold V29 V28 V27 V26 V25 V24 V23 V22 V21 V20 V19 V18 V17 V16 V15 V14 V13 V12 V11 V10 V9 V8 V7 V6 V5 V4 V3 V2 V1
  repeat after_reads_at
  rfl
theorem idx_2 (n : Fin 106496) : (V29 m c main_v14 : S8x106496.Idx → BitVec 32) (ix2 2 n) = padded (args m c).a4 0#32 n := by
  unfold V29 V28 V27 V26 V25 V24 V23 V22 V21 V20 V19 V18 V17 V16 V15 V14 V13 V12 V11 V10 V9 V8 V7 V6 V5 V4 V3 V2 V1
  repeat after_reads_at
  rfl
theorem idx_3 (n : Fin 106496) : (V29 m c main_v14 : S8x106496.Idx → BitVec 32) (ix2 3 n) = padded (args m c).a7 0#32 n := by
  unfold V29 V28 V27 V26 V25 V24 V23 V22 V21 V20 V19 V18 V17 V16 V15 V14 V13 V12 V11 V10 V9 V8 V7 V6 V5 V4 V3 V2 V1
  repeat after_reads_at
  rfl
theorem idx_4 (n : Fin 106496) : (V29 m c main_v14 : S8x106496.Idx → BitVec 32) (ix2 4 n) = padded (args m c).a8 512#32 n := by
  unfold V29 V28 V27 V26 V25 V24 V23 V22 V21 V20 V19 V18 V17 V16 V15 V14 V13 V12 V11 V10 V9 V8 V7 V6 V5 V4 V3 V2 V1
  repeat after_reads_at
  rfl

section
variable (n : Fin 106496) (h : n.val < 100000)
include h

theorem val_0 : (V29 m c main_v39 : S8x106496.Idx → EReal) (ix2 0 n) = (args m c).a0 (ix1 ⟨n.val, h⟩) := by
  unfold V29 V28 V27 V26 V25 V24 V23 V22 V21 V20 V19 V18 V17 V16 V15 V14 V13 V12 V11 V10 V9 V8 V7 V6 V5 V4 V3 V2 V1
  repeat after_reads_at
  rw [dif_pos h]; rfl
theorem val_1 : (V29 m c main_v39 : S8x106496.Idx → EReal) (ix2 1 n) = (args m c).a1 (ix1 ⟨n.val, h⟩) := by
  unfold V29 V28 V27 V26 V25 V24 V23 V22 V21 V20 V19 V18 V17 V16 V15 V14 V13 V12 V11 V10 V9 V8 V7 V6 V5 V4 V3 V2 V1
  repeat after_reads_at
  rw [dif_pos h]; rfl
theorem val_2 : (V29 m c main_v39 : S8x106496.Idx → EReal) (ix2 2 n) = (args m c).a6 (ix2 ⟨n.val, h⟩ 0) := by
  unfold V29 V28 V27 V26 V25 V24 V23 V22 V21 V20 V19 V18 V17 V16 V15 V14 V13 V12 V11 V10 V9 V8 V7 V6 V5 V4 V3 V2 V1
  repeat after_reads_at
  rw [dif_pos h]; rfl
theorem val_3 : (V29 m c main_v39 : S8x106496.Idx → EReal) (ix2 3 n) = (args m c).a6 (ix2 ⟨n.val, h⟩ 1) := by
  unfold V29 V28 V27 V26 V25 V24 V23 V22 V21 V20 V19 V18 V17 V16 V15 V14 V13 V12 V11 V10 V9 V8 V7 V6 V5 V4 V3 V2 V1
  repeat after_reads_at
  rw [dif_pos h]; rfl
theorem val_4 : (V29 m c main_v39 : S8x106496.Idx → EReal) (ix2 4 n) = (((((args m c).a5 (ix1 ⟨n.val, h⟩)).toInt : ℝ)) : EReal) := by
  unfold V29 V28 V27 V26 V25 V24 V23 V22 V21 V20 V19 V18 V17 V16 V15 V14 V13 V12 V11 V10 V9 V8 V7 V6 V5 V4 V3 V2 V1
  repeat after_reads_at
  rw [dif_pos h]; rfl
theorem val_5 : (V29 m c main_v39 : S8x106496.Idx → EReal) (ix2 5 n) = (1 : EReal) := by
  unfold V29 V28 V27 V26 V25 V24 V23 V22 V21 V20 V19 V18 V17 V16 V15 V14 V13 V12 V11 V10 V9 V8 V7 V6 V5 V4 V3 V2 V1
  repeat after_reads_at
theorem val_6 : (V29 m c main_v39 : S8x106496.Idx → EReal) (ix2 6 n) = (0 : EReal) := by
  unfold V29 V28 V27 V26 V25 V24 V23 V22 V21 V20 V19 V18 V17 V16 V15 V14 V13 V12 V11 V10 V9 V8 V7 V6 V5 V4 V3 V2 V1
  repeat after_reads_at
theorem val_7 : (V29 m c main_v39 : S8x106496.Idx → EReal) (ix2 7 n) = (0 : EReal) := by
  unfold V29 V28 V27 V26 V25 V24 V23 V22 V21 V20 V19 V18 V17 V16 V15 V14 V13 V12 V11 V10 V9 V8 V7 V6 V5 V4 V3 V2 V1
  repeat after_reads_at
end

variable (d : Fin 64)

theorem first_table (n : Fin 1024) (h : n.val < 1000) : (V29 m c main_v71 : S64x1024.Idx → EReal) (ix2 d n) = (args m c).a9 (ix2 ⟨n.val, h⟩ d) := by
  unfold V29 V28 V27 V26 V25 V24 V23 V22 V21 V20 V19 V18 V17 V16 V15 V14 V13 V12 V11 V10 V9 V8 V7 V6 V5 V4 V3 V2 V1
  repeat after_reads_at
  rw [dif_pos h]; rfl
theorem second_table (n : Fin 512) (h : n.val < 500) : (V29 m c main_v74 : S64x512.Idx → EReal) (ix2 d n) = (args m c).a10 (ix2 ⟨n.val, h⟩ d) := by
  unfold V29 V28 V27 V26 V25 V24 V23 V22 V21 V20 V19 V18 V17 V16 V15 V14 V13 V12 V11 V10 V9 V8 V7 V6 V5 V4 V3 V2 V1
  repeat after_reads_at
  rw [dif_pos h]; rfl
theorem third_table_route (n : Fin 64) (h : n.val < 50) : (V29 m c main_v106 : S64x96.Idx → EReal) (ix2 d ⟨n.val, by omega⟩) = (args m c).a11 (ix2 ⟨n.val, h⟩ d) := by
  unfold V29 V28 V27 V26 V25 V24 V23 V22 V21 V20 V19 V18 V17 V16 V15 V14 V13 V12 V11 V10 V9 V8 V7 V6 V5 V4 V3 V2 V1
  repeat after_reads_at
  rw [dif_pos h]; rfl
theorem third_table_age (n : Fin 16) : (V29 m c main_v106 : S64x96.Idx → EReal) (ix2 d ⟨64 + n.val, by omega⟩) = (args m c).a13 (ix2 n d) := by
  unfold V29 V28 V27 V26 V25 V24 V23 V22 V21 V20 V19 V18 V17 V16 V15 V14 V13 V12 V11 V10 V9 V8 V7 V6 V5 V4 V3 V2 V1
  repeat after_reads_at
  rfl
theorem third_table_80 : (V29 m c main_v106 : S64x96.Idx → EReal) (ix2 d 80) = (args m c).a18 (ix2 0 d) := by
  unfold V29 V28 V27 V26 V25 V24 V23 V22 V21 V20 V19 V18 V17 V16 V15 V14 V13 V12 V11 V10 V9 V8 V7 V6 V5 V4 V3 V2 V1
  repeat after_reads_at
  rfl
theorem third_table_81 : (V29 m c main_v106 : S64x96.Idx → EReal) (ix2 d 81) = (args m c).a16 (ix2 0 d) := by
  unfold V29 V28 V27 V26 V25 V24 V23 V22 V21 V20 V19 V18 V17 V16 V15 V14 V13 V12 V11 V10 V9 V8 V7 V6 V5 V4 V3 V2 V1
  repeat after_reads_at
  rfl
theorem third_table_82 : (V29 m c main_v106 : S64x96.Idx → EReal) (ix2 d 82) = (args m c).a14 (ix2 0 d) := by
  unfold V29 V28 V27 V26 V25 V24 V23 V22 V21 V20 V19 V18 V17 V16 V15 V14 V13 V12 V11 V10 V9 V8 V7 V6 V5 V4 V3 V2 V1
  repeat after_reads_at
  rfl
theorem third_table_83 : (V29 m c main_v106 : S64x96.Idx → EReal) (ix2 d 83) = (args m c).a14 (ix2 1 d) := by
  unfold V29 V28 V27 V26 V25 V24 V23 V22 V21 V20 V19 V18 V17 V16 V15 V14 V13 V12 V11 V10 V9 V8 V7 V6 V5 V4 V3 V2 V1
  repeat after_reads_at
  rfl
theorem third_table_84 : (V29 m c main_v106 : S64x96.Idx → EReal) (ix2 d 84) = (args m c).a12 (ix2 1 d) - (args m c).a12 (ix2 0 d) := by
  unfold V29 V28 V27 V26 V25 V24 V23 V22 V21 V20 V19 V18 V17 V16 V15 V14 V13 V12 V11 V10 V9 V8 V7 V6 V5 V4 V3 V2 V1
  repeat after_reads_at
  rfl
theorem third_table_85 : (V29 m c main_v106 : S64x96.Idx → EReal) (ix2 d 85)
    = (args m c).a19 (ix1 d) + (args m c).a17 (ix1 d) + (args m c).a15 (ix1 d) + (args m c).a12 (ix2 0 d) := by
  unfold V29 V28 V27 V26 V25 V24 V23 V22 V21 V20 V19 V18 V17 V16 V15 V14 V13 V12 V11 V10 V9 V8 V7 V6 V5 V4 V3 V2 V1
  repeat after_reads_at
  rfl
theorem third_table_86 : (V29 m c main_v106 : S64x96.Idx → EReal) (ix2 d 86) = (0 : EReal) := by
  unfold V29 V28 V27 V26 V25 V24 V23 V22 V21 V20 V19 V18 V17 V16 V15 V14 V13 V12 V11 V10 V9 V8 V7 V6 V5 V4 V3 V2 V1
  repeat after_reads_at
theorem third_table_87 : (V29 m c main_v106 : S64x96.Idx → EReal) (ix2 d 87) = (0 : EReal) := by
  unfold V29 V28 V27 V26 V25 V24 V23 V22 V21 V20 V19 V18 V17 V16 V15 V14 V13 V12 V11 V10 V9 V8 V7 V6 V5 V4 V3 V2 V1
  repeat after_reads_at
theorem params_0 : (V29 m c main_v112 : S64x8.Idx → EReal) (ix2 d 0) = (args m c).a22 (ix1 d) := by
  unfold V29 V28 V27 V26 V25 V24 V23 V22 V21 V20 V19 V18 V17 V16 V15 V14 V13 V12 V11 V10 V9 V8 V7 V6 V5 V4 V3 V2 V1
  repeat after_reads_at
  rfl
theorem params_1 : (V29 m c main_v112 : S64x8.Idx → EReal) (ix2 d 1) = (args m c).a20 (ix1 d) := by
  unfold V29 V28 V27 V26 V25 V24 V23 V22 V21 V20 V19 V18 V17 V16 V15 V14 V13 V12 V11 V10 V9 V8 V7 V6 V5 V4 V3 V2 V1
  repeat after_reads_at
  rfl
theorem params_2 : (V29 m c main_v112 : S64x8.Idx → EReal) (ix2 d 2) = (args m c).a21 (ix1 d) := by
  unfold V29 V28 V27 V26 V25 V24 V23 V22 V21 V20 V19 V18 V17 V16 V15 V14 V13 V12 V11 V10 V9 V8 V7 V6 V5 V4 V3 V2 V1
  repeat after_reads_at
  rfl

/-- The table's first word at a point: the group of the block's first row. -/
theorem bounds_0 (t : Fin 13) : (V29 m c main_v68 : S13x2.Idx → BitVec 32) (ix2 t 0) = (args m c).a8 (ix1 ⟨8192 * t.val, by omega⟩) := by
  unfold V29 V28 V27 V26 V25 V24 V23 V22 V21 V20 V19 V18 V17 V16 V15 V14 V13 V12 V11 V10 V9 V8 V7 V6 V5 V4 V3 V2 V1
  repeat after_reads_at
  refine (Routing.take_ap _ rfl rfl rfl rfl _ _ t (k := 8192 * t.val) (by omega) (by omega) ?_).trans rfl
  pointwise
  fin_cases t <;> rfl
/-- The table's second word at a point: the group of the block's last row. -/
theorem bounds_1 (t : Fin 13) : (V29 m c main_v68 : S13x2.Idx → BitVec 32) (ix2 t 1)
    = (args m c).a8 (ix1 ⟨min (8192 * t.val + 8191) 99999, by omega⟩) := by
  unfold V29 V28 V27 V26 V25 V24 V23 V22 V21 V20 V19 V18 V17 V16 V15 V14 V13 V12 V11 V10 V9 V8 V7 V6 V5 V4 V3 V2 V1
  repeat after_reads_at
  refine (Routing.take_ap _ rfl rfl rfl rfl _ _ t (k := min (8192 * t.val + 8191) 99999) (by omega) (by omega) ?_).trans rfl
  pointwise
  fin_cases t <;> rfl

end Cert.HostVal
-- ==== Proof.OneHot.lean ====
/-
  One-hot columns over index words: what a product of comparison bits picks out of a sum. Pure mathematics over the extended reals and
  32-bit words; no program appears here.
-/
module

public import Idealize.ShloMosaic.Lib.Pointwise
public import Idealize.ShloMosaic.Lib.IdealHost

@[expose] public section

noncomputable section

namespace Cert.OneHot

open Idealize.ShloMosaic

/-- A comparison's bit, widened to a word and read as a number: one where the words agree, zero elsewhere. -/
theorem bit (a b : BitVec 32) :
    (FloatOps.sitofp (F := Ideal) FTy.f32 (BitVec.setWidth 32 (IntOp.cmpi CmpIPredicate.eq a b)) : EReal) = if a = b then 1 else 0 := by
  by_cases h : a = b
  · simp [FloatOps.sitofp, IntOp.cmpi, h]
  · have e : (a == b) = false := by simpa using h
    simp [FloatOps.sitofp, IntOp.cmpi, h, e]

/-- The low seven bits of a word that is not negative are the remainder by 128. -/
theorem low (w : BitVec 32) (k : Fin 128) : IntOp.addi (BitVec.ofNat 32 ↑k) 0#32 = IntOp.andi w 127#32 ↔ w.toNat % 128 = k.val := by
  have hk := k.isLt
  have e : (IntOp.andi w 127#32).toNat = w.toNat % 128 := by
    simp only [IntOp.andi, BitVec.toNat_and]
    exact Nat.and_two_pow_sub_one_eq_mod w.toNat 7
  have e' : (IntOp.addi (BitVec.ofNat 32 ↑k) 0#32).toNat = k.val := by
    simp only [IntOp.addi, BitVec.add_zero, BitVec.toNat_ofNat]; omega
  rw [← BitVec.toNat_inj, e, e']; omega

/-- The high bits of a word that is not negative are the quotient by 128. -/
theorem high (w : BitVec 32) (hw : w.toNat < 2 ^ 31) (h : ℕ) (hh : h < 2 ^ 31) :
    IntOp.shrsi ArithUnit.vector w 7#32 = BitVec.ofNat 32 h ↔ w.toNat / 128 = h := by
  have e : (IntOp.shrsi ArithUnit.vector w 7#32).toNat = w.toNat / 128 := by
    have m : w.msb = false := by rw [BitVec.msb_eq_false_iff_two_mul_lt]; omega
    simp [IntOp.shrsi, BitVec.sshiftRight_eq_of_msb_false m, Nat.shiftRight_eq_div_pow]
  rw [← BitVec.toNat_inj, e, BitVec.toNat_ofNat, Nat.mod_eq_of_lt (by omega)]

/-- A small position's word equals a word exactly when the word holds the position. -/
theorem pos (w : BitVec 32) (k : ℕ) (hk : k < 2 ^ 31) : IntOp.addi (BitVec.ofNat 32 k) 0#32 = w ↔ w.toNat = k := by
  rw [← BitVec.toNat_inj]
  simp only [IntOp.addi, BitVec.add_zero, BitVec.toNat_ofNat]; omega

/-- A sum against a one-hot column is the entry the column marks. -/
theorem sum_hot {n : ℕ} (f : Fin n → EReal) (P : Fin n → Prop) [DecidablePred P] (i : Fin n) (hi : ∀ k, P k ↔ k = i) :
    ∑ k, f k * (if P k then 1 else 0) = f i := by
  rw [Finset.sum_eq_single i]
  · simp [hi]
  · intro k _ hk; simp [hi, hk]
  · simp

/-- Piece `h` of a table looked up by a word: the entry the word names where the word lies in the piece, zero elsewhere. -/
theorem piece (f : Fin 128 → EReal) (w : BitVec 32) (hw : w.toNat < 2 ^ 31) (h : ℕ) (hh : h < 2 ^ 31) :
    ∑ k : Fin 128, f k * ((if IntOp.addi (BitVec.ofNat 32 ↑k) 0#32 = IntOp.andi w 127#32 then 1 else 0) *
      (if IntOp.shrsi ArithUnit.vector w 7#32 = BitVec.ofNat 32 h then 1 else 0))
      = if w.toNat / 128 = h then f ⟨w.toNat % 128, Nat.mod_lt _ (by norm_num)⟩ else 0 := by
  simp only [low, high w hw h hh]
  split
  · simp only [mul_one]
    exact sum_hot f _ _ fun k => by rw [Fin.ext_iff]; exact eq_comm
  · simp

/-- A column's share of the piece's sum: the term where the column's word is `128 h + k`, zero elsewhere. -/
theorem share (x : EReal) (w : BitVec 32) (hw : w.toNat < 2 ^ 31) (h : ℕ) (hh : h < 2 ^ 31) (k : Fin 128) :
    x * ((if IntOp.addi (BitVec.ofNat 32 ↑k) 0#32 = IntOp.andi w 127#32 then 1 else 0) *
      (if IntOp.shrsi ArithUnit.vector w 7#32 = BitVec.ofNat 32 h then 1 else 0))
      = if w.toNat = 128 * h + k.val then x else 0 := by
  have hk := k.isLt
  simp only [low, high w hw h hh]
  by_cases h1 : w.toNat % 128 = k.val <;> by_cases h2 : w.toNat / 128 = h
  · rw [if_pos h1, if_pos h2, if_pos (by omega)]; simp
  · rw [if_pos h1, if_neg h2, if_neg (by omega)]; simp
  · rw [if_neg h1, if_pos h2, if_neg (by omega)]; simp
  · rw [if_neg h1, if_neg h2, if_neg (by omega)]; simp

/-- The eight pieces of a table of 1024 entries together give the entry the word names. -/
theorem eight (f : Fin 1024 → EReal) (w : BitVec 32) (hw : w.toNat < 1024) (g : Fin 8 → EReal)
    (hg : ∀ h : Fin 8, g h = if w.toNat / 128 = h.val then f ⟨128 * h.val + w.toNat % 128, by omega⟩ else 0) :
    g 0 + g 1 + g 2 + g 3 + g 4 + g 5 + g 6 + g 7 = f ⟨w.toNat, hw⟩ := by
  have e : g 0 + g 1 + g 2 + g 3 + g 4 + g 5 + g 6 + g 7 = ∑ h, g h := by simp [Fin.sum_univ_succ, add_assoc]
  rw [e, Finset.sum_eq_single (⟨w.toNat / 128, by omega⟩ : Fin 8)]
  · rw [hg, if_pos rfl]; congr 1; apply Fin.ext; simp only []; omega
  · intro k _ hk; rw [hg, if_neg]; intro h; exact hk (Fin.ext h.symm)
  · simp

/-- The four pieces of a table of 512 entries together give the entry the word names, or zero where the word lies outside. -/
theorem four (f : Fin 512 → EReal) (w : BitVec 32) (hw : w.toNat < 512) (g : Fin 4 → EReal)
    (hg : ∀ h : Fin 4, g h = if w.toNat / 128 = h.val then f ⟨128 * h.val + w.toNat % 128, by omega⟩ else 0) :
    g 0 + g 1 + g 2 + g 3 = f ⟨w.toNat, hw⟩ := by
  have e : g 0 + g 1 + g 2 + g 3 = ∑ h, g h := by simp [Fin.sum_univ_succ, add_assoc]
  rw [e, Finset.sum_eq_single (⟨w.toNat / 128, by omega⟩ : Fin 4)]
  · rw [hg, if_pos rfl]; congr 1; apply Fin.ext; simp only []; omega
  · intro k _ hk; rw [hg, if_neg]; intro h; exact hk (Fin.ext h.symm)
  · simp

/-- A sum over 96 entries, cut after 64, 80 and 88. -/
theorem sum96 (f : Fin 96 → EReal) :
    ∑ k, f k = (∑ k : Fin 64, f ⟨k.val, by omega⟩) + (∑ k : Fin 16, f ⟨64 + k.val, by omega⟩) + (∑ k : Fin 8, f ⟨80 + k.val, by omega⟩)
      + ∑ k : Fin 8, f ⟨88 + k.val, by omega⟩ := by
  rw [show (∑ k, f k) = ∑ k : Fin (64 + 16 + 8 + 8), f k from rfl, Fin.sum_univ_add, Fin.sum_univ_add, Fin.sum_univ_add]
  rfl

end Cert.OneHot
-- ==== Proof.XVal.lean ====
/-
  The block of feature sums that pass A writes, read at an entry over the extended reals: the rows of the looked-up tables named by the
  column's index words, and the dense features' products.
-/
module

public import proofs.«01_k».proof.Proof.BodyA
public import proofs.«01_k».proof.Proof.OneHot

@[expose] public section

set_option maxRecDepth 16384

noncomputable section

namespace Cert.KernelIdeal.PassA

open Cert.KernelIdeal Cert.KernelIdeal.Gen
open Idealize.ShloMosaic

/-- The index words of a column are in range: the two large tables', the route's, the age's and the batch's (up to the padding's 512). -/
structure InRange (X2 : S8x8192.Idx → BitVec 32) (n : Fin 8192) : Prop where
  io : (X2 (ix2 0 n)).toNat < 1024
  occ : (X2 (ix2 1 n)).toNat < 512
  route : (X2 (ix2 2 n)).toNat < 64
  age : (X2 (ix2 3 n)).toNat < 16
  batch : (X2 (ix2 4 n)).toNat ≤ 512

/-- The feature sum of a column: its rows of the tables and its dense features times their weights. -/
def feat (X2 : S8x8192.Idx → BitVec 32) (X3 : S8x8192.Idx → EReal) (X4 : S64x1024.Idx → EReal) (X5 : S64x512.Idx → EReal)
    (X6 : S64x96.Idx → EReal) (d : Fin 64) (n : Fin 8192) (h : InRange X2 n) : EReal :=
  X4 (ix2 d ⟨_, h.io⟩) + X5 (ix2 d ⟨_, h.occ⟩)
    + (X6 (ix2 d ⟨(X2 (ix2 2 n)).toNat, h.route.trans (by norm_num)⟩)
      + X6 (ix2 d ⟨64 + (X2 (ix2 3 n)).toNat, by have := h.age; omega⟩)
      + ∑ k : Fin 8, X6 (ix2 d ⟨80 + k.val, by omega⟩) * X3 (ix2 k n))

section
variable (X2 : S8x8192.Idx → BitVec 32) (X3 : S8x8192.Idx → EReal) (X4 : S64x1024.Idx → EReal) (X5 : S64x512.Idx → EReal)
    (X6 : S64x96.Idx → EReal) (d : Fin 64) (n : Fin 8192) (h : InRange X2 n)

include h

/-- The first table's lookup. -/
theorem sum4_apply : sum4 (F := Ideal) X2 X4 (ix2 d n) = X4 (ix2 d ⟨_, h.io⟩) := by
  have h1 := h.io
  pointwise [sum4, sum4a, slab4, k0_pay24, k0_pay23, k0_pay22, k0_pay21, k0_pay20, k0_pay19, k0_pay18, k0_pay17, k0_pay16, k0_pay15, k0_pay14, k0_pay13,
    k0_pay12, k0_pay11]
  simp only [Cert.OneHot.bit]
  refine Cert.OneHot.eight (fun k => X4 (ix2 d k)) (X2 (ix2 0 n)) h.io (fun h => ∑ k : Fin 128, X4 (ix2 d ⟨128 * h.val + k.val, by omega⟩) *
      ((if IntOp.addi (BitVec.ofNat 32 ↑k) 0#32 = IntOp.andi (X2 (ix2 0 n)) 127#32 then 1 else 0) *
      (if IntOp.shrsi ArithUnit.vector (X2 (ix2 0 n)) 7#32 = BitVec.ofNat 32 h.val then 1 else 0))) fun k => ?_
  exact Cert.OneHot.piece (fun l => X4 (ix2 d ⟨128 * k.val + l.val, by omega⟩)) _ (by omega) k.val (by omega)

/-- The first two tables' lookups. -/
theorem sum45_apply : sum45 (F := Ideal) X2 X4 X5 (ix2 d n) = X4 (ix2 d ⟨_, h.io⟩) + X5 (ix2 d ⟨_, h.occ⟩) := by
  have h1 := h.occ
  rw [← sum4_apply X2 X4 d n h]
  unfold sum45
  generalize sum4 (F := Ideal) X2 X4 = S
  pointwise [slab5, k0_pay31, k0_pay30, k0_pay29, k0_pay28, k0_pay27, k0_pay26, k0_pay25, k0_pay11]
  simp only [Cert.OneHot.bit]
  congr 1
  refine Cert.OneHot.four (fun k => X5 (ix2 d k)) (X2 (ix2 1 n)) h.occ (fun h => ∑ k : Fin 128, X5 (ix2 d ⟨128 * h.val + k.val, by omega⟩) *
      ((if IntOp.addi (BitVec.ofNat 32 ↑k) 0#32 = IntOp.andi (X2 (ix2 1 n)) 127#32 then 1 else 0) *
      (if IntOp.shrsi ArithUnit.vector (X2 (ix2 1 n)) 7#32 = BitVec.ofNat 32 h.val then 1 else 0))) fun k => ?_
  exact Cert.OneHot.piece (fun l => X5 (ix2 d ⟨128 * k.val + l.val, by omega⟩)) _ (by omega) k.val (by omega)

/-- The whole feature sum. -/
theorem feat_apply : k0_pay34 (F := Ideal) (sum45 X2 X4 X5) (k0_pay32 (F := Ideal) (k0_pay11 (F := Ideal) X2)) (k0_pay33 (k0_pay11 (F := Ideal) X2)) X3 X6 (ix2 d n)
    = feat X2 X3 X4 X5 X6 d n h := by
  have h2 := h.route
  have h3 := h.age
  unfold feat
  rw [← sum45_apply X2 X4 X5 d n h]
  generalize sum45 (F := Ideal) X2 X4 X5 = S
  pointwise [k0_pay34, k0_pay33, k0_pay32, k0_pay11]
  simp only [Cert.OneHot.bit]
  rw [Cert.OneHot.sum96]
  congr 1
  have e1 : ∀ k : Fin 64, k.val < 64 := fun k => k.isLt
  have e2 : ∀ k : Fin 16, ¬ 64 + k.val < 64 ∧ 64 + k.val - 64 = k.val ∧ k.val < 16 := fun k => by omega
  have e3 : ∀ k : Fin 8, ¬ 80 + k.val < 64 ∧ ¬ 80 + k.val - 64 < 16 ∧ 80 + k.val - 64 - 16 = k.val ∧ k.val < 8 := fun k => by omega
  have e4 : ∀ k : Fin 8, ¬ 88 + k.val < 64 ∧ ¬ 88 + k.val - 64 < 16 ∧ ¬ 88 + k.val - 64 - 16 < 8 := fun k => by omega
  simp only [e1, e2, e3, e4, dif_pos, dif_neg, dite_true, dite_false, ↓reduceDIte, not_false_eq_true, mul_zero, Finset.sum_const_zero, add_zero]
  congr 2
  · exact Cert.OneHot.sum_hot (fun k : Fin 64 => X6 (ix2 d ⟨k.val, by omega⟩)) _ ⟨_, h2⟩
      fun k => by rw [Cert.OneHot.pos _ _ (by omega), Fin.ext_iff]; exact eq_comm
  · exact Cert.OneHot.sum_hot (fun k : Fin 16 => X6 (ix2 d ⟨64 + k.val, by omega⟩)) _ ⟨_, h3⟩
      fun k => by rw [Cert.OneHot.pos _ _ (by omega), Fin.ext_iff]; exact eq_comm

/-- The block of feature sums at an entry. -/
theorem outX_apply : outX (F := Ideal) X2 X3 X4 X5 X6 (ix2 d n) = feat X2 X3 X4 X5 X6 d n h :=
  feat_apply X2 X3 X4 X5 X6 d n h

end

end Cert.KernelIdeal.PassA
-- ==== Proof.SumVal.lean ====
/-
  What pass A adds to its scratch sums at one grid point, read at an entry over the extended reals: for every batch the sum, over the
  block's columns of that batch, of the feature sums, of their squares and of ones. The pieces that the program skips hold no column of
  the block, so they would add nothing.
-/
module

public import proofs.«01_k».proof.Proof.XVal

@[expose] public section

set_option maxRecDepth 16384

noncomputable section

namespace Cert.KernelIdeal.PassA

open Cert.KernelIdeal Cert.KernelIdeal.Gen
open Cert.KernelIdeal.PassB (word meets)
open Idealize.ShloMosaic

/-- A put over 128 columns of the scratch, read at an entry. -/
theorem put_cols {α : Type} (X : S136x512.Idx → α) (o : ℕ) (w : S136x128.Idx → α) (j : Fin 136) (g : Fin 512) :
    VecWindow.put X ![0, o] S136x128.size w (ix2 j g) = if h : o ≤ g.val ∧ g.val < o + 128 then w (ix2 j ⟨g.val - o, by omega⟩) else X (ix2 j g) := by
  unfold VecWindow.put
  by_cases h : o ≤ g.val ∧ g.val < o + 128
  · have h' : ∀ a, (![0, o] : Fin 2 → ℕ) a ≤ ((ix2 j g : S136x512.Idx) a).val ∧ ((ix2 j g : S136x512.Idx) a).val < (![0, o] : Fin 2 → ℕ) a + S136x128.size a := by
      intro a
      match a with
      | 0 => exact ⟨Nat.zero_le _, by show j.val < 0 + 136; omega⟩
      | 1 => exact h
    rw [dif_pos h, dif_pos h']
    congr 1
    funext a
    match a with
    | 0 => rfl
    | 1 => rfl
  · rw [dif_neg h, dif_neg]
    intro h'
    exact h (h' 1)

/-- One piece of the scratch after its guarded addition: each entry of the piece gains its columns' terms, and no other entry changes. -/
theorem part (X : S136x512.Idx → EReal) (P : S136x128.Idx → EReal) (b : Fin 8192 → ℕ) (R : Fin 136 → Fin 8192 → EReal) (h : ℕ)
    (hP : ∀ (j : Fin 136) (k : Fin 128) (hk : 128 * h + k.val < 512), P (ix2 j k) = X (ix2 j ⟨128 * h + k.val, hk⟩) + ∑ n, if b n = 128 * h + k.val then R j n else 0)
    (c : Prop) [Decidable c] (hc : ¬ c → ∀ n, b n / 128 ≠ h) (j : Fin 136) (g : Fin 512) :
    (if c then VecWindow.put X ![0, 128 * h] S136x128.size P else X) (ix2 j g)
      = X (ix2 j g) + (if g.val / 128 = h then ∑ n, (if b n = g.val then R j n else 0) else 0) := by
  have hg := g.isLt
  by_cases hcc : c
  · rw [if_pos hcc, put_cols]
    by_cases hh : g.val / 128 = h
    · rw [dif_pos (by omega), if_pos hh, hP _ _ (by show 128 * h + (g.val - 128 * h) < 512; omega)]
      have e : 128 * h + (g.val - 128 * h) = g.val := by omega
      simp only [e]
    · rw [dif_neg (by omega), if_neg hh, add_zero]
  · rw [if_neg hcc]
    by_cases hh : g.val / 128 = h
    · rw [if_pos hh, Finset.sum_eq_zero, add_zero]
      intro n _
      rw [if_neg]
      intro e
      exact hc hcc n (by rw [e, hh])
    · rw [if_neg hh, add_zero]

/-- The rows summed into the scratch: the features, their squares, and ones. -/
def rowVal (X2 : S8x8192.Idx → BitVec 32) (X3 : S8x8192.Idx → EReal) (X4 : S64x1024.Idx → EReal) (X5 : S64x512.Idx → EReal)
    (X6 : S64x96.Idx → EReal) (hr : ∀ n, InRange X2 n) (j : Fin 136) (n : Fin 8192) : EReal :=
  if h : j.val < 64 then feat X2 X3 X4 X5 X6 ⟨j.val, h⟩ n (hr n)
  else if h : j.val < 128 then feat X2 X3 X4 X5 X6 ⟨j.val - 64, by omega⟩ n (hr n) * feat X2 X3 X4 X5 X6 ⟨j.val - 64, by omega⟩ n (hr n)
  else 1

section
variable (X2 : S8x8192.Idx → BitVec 32) (X3 : S8x8192.Idx → EReal) (X4 : S64x1024.Idx → EReal) (X5 : S64x512.Idx → EReal)
    (X6 : S64x96.Idx → EReal) (hr : ∀ n, InRange X2 n)

include hr

/-- The rows at an entry. -/
theorem rows_apply (j : Fin 136) (n : Fin 8192) : rows (F := Ideal) X2 X3 X4 X5 X6 (ix2 j n) = rowVal X2 X3 X4 X5 X6 hr j n := by
  unfold rows rowVal
  have e := fun d => feat_apply X2 X3 X4 X5 X6 d n (hr n)
  simp only [← e]
  generalize sum45 (F := Ideal) X2 X4 X5 = S
  generalize k0_pay32 (F := Ideal) (k0_pay11 (F := Ideal) X2) = U
  generalize k0_pay33 (k0_pay11 (F := Ideal) X2) = W
  pointwise [k0_pay37]
  split <;> rename_i h1
  · rfl
  · by_cases h2 : j.val - 64 < 64
    · rw [dif_pos h2, dif_pos (by omega)]
    · rw [dif_neg h2, dif_neg (by omega)]

/-- A column's term of a piece's sum. -/
theorem term (h : ℕ) (hh : h < 2 ^ 31) (j : Fin 136) (k : Fin 128) (n : Fin 8192) : rows (F := Ideal) X2 X3 X4 X5 X6 (ix2 j n)
      * ((if IntOp.addi (BitVec.ofNat 32 ↑k) 0#32 = IntOp.andi (X2 (ix2 4 n)) 127#32 then 1 else 0) *
        (if IntOp.shrsi ArithUnit.vector (X2 (ix2 4 n)) 7#32 = BitVec.ofNat 32 h then 1 else 0))
      = if (X2 (ix2 4 n)).toNat = 128 * h + k.val then rowVal X2 X3 X4 X5 X6 hr j n else 0 := by
  rw [Cert.OneHot.share _ _ (by have := (hr n).batch; omega) h hh k, rows_apply X2 X3 X4 X5 X6 hr]

/-- The first piece's payload. -/
theorem pay_0 (X : S136x512.Idx → EReal) (j : Fin 136) (k : Fin 128) (hk : 128 * 0 + k.val < 512) :
    k0_pay40 (F := Ideal) (k0_pay11 (F := Ideal) X2) (sum45 X2 X4 X5) (k0_pay32 (F := Ideal) (k0_pay11 (F := Ideal) X2)) (k0_pay33 (k0_pay11 (F := Ideal) X2)) X3 X6
        (View.ld X (Rect.unit (s := S136x512) ![0, 0] S136x128.size inb_S136x512_S136x128_0_0)) (ix2 j k)
      = X (ix2 j ⟨128 * 0 + k.val, hk⟩) + ∑ n, if (X2 (ix2 4 n)).toNat = 128 * 0 + k.val then rowVal X2 X3 X4 X5 X6 hr j n else 0 := by
  have key := fun n => term X2 X3 X4 X5 X6 hr 0 (by norm_num) j k n
  simp only [← key]
  unfold rows
  pointwise [k0_pay40, k0_pay39, k0_pay38, k0_pay36, k0_pay11]
  simp only [Cert.OneHot.bit, Nat.mul_zero, Nat.zero_add]

/-- The second piece's payload. -/
theorem pay_1 (X : S136x512.Idx → EReal) (j : Fin 136) (k : Fin 128) (hk : 128 * 1 + k.val < 512) :
    k0_pay1 (F := Ideal) (rows X2 X3 X4 X5 X6) (k0_pay38 (k0_pay11 (F := Ideal) X2)) (k0_pay39 (F := Ideal) (k0_pay11 (F := Ideal) X2))
        (View.ld X (Rect.unit (s := S136x512) ![0, 128] S136x128.size inb_S136x512_S136x128_0_128)) (ix2 j k)
      = X (ix2 j ⟨128 * 1 + k.val, hk⟩) + ∑ n, if (X2 (ix2 4 n)).toNat = 128 * 1 + k.val then rowVal X2 X3 X4 X5 X6 hr j n else 0 := by
  have key := fun n => term X2 X3 X4 X5 X6 hr 1 (by norm_num) j k n
  simp only [← key]
  generalize rows (F := Ideal) X2 X3 X4 X5 X6 = R
  pointwise [k0_pay1, k0_pay39, k0_pay38, k0_pay36, k0_pay11]
  simp only [Cert.OneHot.bit, Nat.mul_one]

/-- The third piece's payload. -/
theorem pay_2 (X : S136x512.Idx → EReal) (j : Fin 136) (k : Fin 128) (hk : 128 * 2 + k.val < 512) :
    k0_pay2 (F := Ideal) (rows X2 X3 X4 X5 X6) (k0_pay38 (k0_pay11 (F := Ideal) X2)) (k0_pay39 (F := Ideal) (k0_pay11 (F := Ideal) X2))
        (View.ld X (Rect.unit (s := S136x512) ![0, 256] S136x128.size inb_S136x512_S136x128_0_256)) (ix2 j k)
      = X (ix2 j ⟨128 * 2 + k.val, hk⟩) + ∑ n, if (X2 (ix2 4 n)).toNat = 128 * 2 + k.val then rowVal X2 X3 X4 X5 X6 hr j n else 0 := by
  have key := fun n => term X2 X3 X4 X5 X6 hr 2 (by norm_num) j k n
  simp only [← key]
  generalize rows (F := Ideal) X2 X3 X4 X5 X6 = R
  pointwise [k0_pay2, k0_pay39, k0_pay38, k0_pay36, k0_pay11]
  simp only [Cert.OneHot.bit, Nat.reduceMul]

/-- The fourth piece's payload. -/
theorem pay_3 (X : S136x512.Idx → EReal) (j : Fin 136) (k : Fin 128) (hk : 128 * 3 + k.val < 512) :
    k0_pay3 (F := Ideal) (rows X2 X3 X4 X5 X6) (k0_pay38 (k0_pay11 (F := Ideal) X2)) (k0_pay39 (F := Ideal) (k0_pay11 (F := Ideal) X2))
        (View.ld X (Rect.unit (s := S136x512) ![0, 384] S136x128.size inb_S136x512_S136x128_0_384)) (ix2 j k)
      = X (ix2 j ⟨128 * 3 + k.val, hk⟩) + ∑ n, if (X2 (ix2 4 n)).toNat = 128 * 3 + k.val then rowVal X2 X3 X4 X5 X6 hr j n else 0 := by
  have key := fun n => term X2 X3 X4 X5 X6 hr 3 (by norm_num) j k n
  simp only [← key]
  generalize rows (F := Ideal) X2 X3 X4 X5 X6 = R
  pointwise [k0_pay3, k0_pay39, k0_pay38, k0_pay36, k0_pay11]
  simp only [Cert.OneHot.bit, Nat.reduceMul]

/-- The scratch after a grid point, at an entry: every batch's sum gains the block's columns of that batch. The hypothesis says that a
    piece which the program skips holds no column of the block. -/
theorem scr_apply (i : grid0.Coords) (T : S13x2.Idx → BitVec 32) (X : S136x512.Idx → EReal)
    (h0 : ¬ meets (word (F := Ideal) T (k0_off1 i) (k0_off1_inb i)) (word (F := Ideal) T (k0_off2 i) (k0_off2_inb i)) 0#32 128#32 → ∀ n, (X2 (ix2 4 n)).toNat / 128 ≠ 0)
    (h1 : ¬ meets (word (F := Ideal) T (k0_off3 i) (k0_off3_inb i)) (word (F := Ideal) T (k0_off4 i) (k0_off4_inb i)) 128#32 256#32 → ∀ n, (X2 (ix2 4 n)).toNat / 128 ≠ 1)
    (h2 : ¬ meets (word (F := Ideal) T (k0_off5 i) (k0_off5_inb i)) (word (F := Ideal) T (k0_off6 i) (k0_off6_inb i)) 256#32 384#32 → ∀ n, (X2 (ix2 4 n)).toNat / 128 ≠ 2)
    (h3 : ¬ meets (word (F := Ideal) T (k0_off7 i) (k0_off7_inb i)) (word (F := Ideal) T (k0_off8 i) (k0_off8_inb i)) 384#32 512#32 → ∀ n, (X2 (ix2 4 n)).toNat / 128 ≠ 3)
    (j : Fin 136) (g : Fin 512) :
    scr (F := Ideal) i T X2 X3 X4 X5 X6 X (ix2 j g)
      = scr0 (F := Ideal) i X (ix2 j g) + ∑ n, if (X2 (ix2 4 n)).toNat = g.val then rowVal X2 X3 X4 X5 X6 hr j n else 0 := by
  have hg := g.isLt
  unfold scr scr4 scr1
  generalize scr0 (F := Ideal) i X = Y
  refine (part _ _ (fun n => (X2 (ix2 4 n)).toNat) (rowVal X2 X3 X4 X5 X6 hr) 3 (fun j k hk => pay_3 X2 X3 X4 X5 X6 hr _ j k hk) _ h3 j g).trans ?_
  refine (congrArg (· + _) (part _ _ (fun n => (X2 (ix2 4 n)).toNat) (rowVal X2 X3 X4 X5 X6 hr) 2 (fun j k hk => pay_2 X2 X3 X4 X5 X6 hr _ j k hk) _ h2 j g)).trans ?_
  refine (congrArg (· + _ + _) (part _ _ (fun n => (X2 (ix2 4 n)).toNat) (rowVal X2 X3 X4 X5 X6 hr) 1 (fun j k hk => pay_1 X2 X3 X4 X5 X6 hr _ j k hk) _ h1 j g)).trans ?_
  refine (congrArg (· + _ + _ + _) (part _ _ (fun n => (X2 (ix2 4 n)).toNat) (rowVal X2 X3 X4 X5 X6 hr) 0 (fun j k hk => pay_0 X2 X3 X4 X5 X6 hr _ j k hk) _ h0 j g)).trans ?_
  obtain e | e | e | e : g.val / 128 = 0 ∨ g.val / 128 = 1 ∨ g.val / 128 = 2 ∨ g.val / 128 = 3 := by omega
  all_goals simp [e]

end

end Cert.KernelIdeal.PassA
-- ==== Proof.FinalVal.lean ====
/-
  The scale and shift that pass A writes for every batch, and the block that pass B writes, read at an entry over the extended reals.
-/
module

public import proofs.«01_k».proof.Proof.SumVal

@[expose] public section

set_option maxRecDepth 16384

noncomputable section

namespace Cert.KernelIdeal.PassB

open Idealize.ShloMosaic

/-- The program's condition that a block's batches meet a piece, as an order on the words read signed. -/
theorem meets_iff (a b lo hi : BitVec 32) : meets a b lo hi ↔ lo.toInt ≤ b.toInt ∧ a.toInt < hi.toInt := by
  have e1 : ∀ x y : BitVec 32, Scalar.cmpi .sge x y = BitVec.ofBool (y.sle x) := fun x y => rfl
  have e2 : ∀ x y : BitVec 32, Scalar.cmpi .slt x y = BitVec.ofBool (x.slt y) := fun x y => rfl
  unfold meets
  rw [e1, e2, ← BitVec.sle_iff_toInt_le, ← BitVec.slt_iff_toInt_lt]
  cases lo.sle b <;> cases a.slt hi <;> decide

end Cert.KernelIdeal.PassB

namespace Cert.KernelIdeal.PassA

open Cert.KernelIdeal Cert.KernelIdeal.Gen
open Idealize.ShloMosaic

/-- A put over 64 rows of the second output, read at an entry. -/
theorem put_rows {α : Type} (X : S128x512.Idx → α) (o : ℕ) (w : S64x512.Idx → α) (j : Fin 128) (g : Fin 512) :
    VecWindow.put X ![o, 0] S64x512.size w (ix2 j g) = if h : o ≤ j.val ∧ j.val < o + 64 then w (ix2 ⟨j.val - o, by omega⟩ g) else X (ix2 j g) := by
  unfold VecWindow.put
  by_cases h : o ≤ j.val ∧ j.val < o + 64
  · have h' : ∀ a, (![o, 0] : Fin 2 → ℕ) a ≤ ((ix2 j g : S128x512.Idx) a).val ∧ ((ix2 j g : S128x512.Idx) a).val < (![o, 0] : Fin 2 → ℕ) a + S64x512.size a := by
      intro a
      match a with
      | 0 => exact h
      | 1 => exact ⟨Nat.zero_le _, by show g.val < 0 + 512; omega⟩
    rw [dif_pos h, dif_pos h']
    congr 1
    funext a
    match a with
    | 0 => rfl
    | 1 => rfl
  · rw [dif_neg h, dif_neg]
    intro h'
    exact h (h' 0)

/-- The scale from a batch's sum, sum of squares and count, and the norm's mean scale and weight. -/
def scaleOf (s q c ms w : EReal) : EReal :=
  w * Ideal.rsqrt (q * Ideal.div 1 (max c 1) - s * Ideal.div 1 (max c 1) * (s * Ideal.div 1 (max c 1)) * ms * (Ideal.ofBits FTy.f32 0x40000000#32 - ms)
    + Ideal.ofBits FTy.f32 0x3727C5AC#32)

/-- The shift from the same, and the norm's bias. -/
def shiftOf (s q c ms w b : EReal) : EReal := b - s * Ideal.div 1 (max c 1) * ms * scaleOf s q c ms w

section
variable (S : S136x512.Idx → EReal) (X7 : S64x8.Idx → EReal) (X9 : S128x512.Idx → EReal) (d : Fin 64) (g : Fin 512)

/-- The first half of the second output holds the scales. -/
theorem outAC_scale : outAC (F := Ideal) S X7 X9 (ix2 ⟨d.val, by omega⟩ g)
    = scaleOf (S (ix2 ⟨d.val, by omega⟩ g)) (S (ix2 ⟨64 + d.val, by omega⟩ g)) (S (ix2 128 g)) (X7 (ix2 d 0)) (X7 (ix2 d 1)) := by
  unfold outAC
  rw [put_rows, dif_neg (by simp only []; omega), put_rows, dif_pos (by simp only []; omega)]
  unfold scaleOf
  pointwise [k0_pay8, k0_pay7, k0_pay6, k0_pay5, k0_pay4, cntRow, sumRows, sqRows, gcol]

/-- The second half of the second output holds the shifts. -/
theorem outAC_shift : outAC (F := Ideal) S X7 X9 (ix2 ⟨64 + d.val, by omega⟩ g)
    = shiftOf (S (ix2 ⟨d.val, by omega⟩ g)) (S (ix2 ⟨64 + d.val, by omega⟩ g)) (S (ix2 128 g)) (X7 (ix2 d 0)) (X7 (ix2 d 1)) (X7 (ix2 d 2)) := by
  have e : (⟨64 + d.val - 64, by omega⟩ : Fin 64) = d := Fin.ext (by simp)
  unfold outAC
  rw [put_rows, dif_pos (by simp only []; omega)]
  simp only [e]
  unfold shiftOf scaleOf
  pointwise [k0_pay9, k0_pay7, k0_pay6, k0_pay5, k0_pay4, cntRow, sumRows, sqRows, gcol]

end

end Cert.KernelIdeal.PassA

namespace Cert.KernelIdeal.PassB

open Cert.KernelIdeal Cert.KernelIdeal.Gen
open Idealize.ShloMosaic

section
variable (X3 : S8x8192.Idx → BitVec 32) (X4 : S128x512.Idx → EReal) (n : Fin 8192) (hb : (X3 (ix2 4 n)).toNat ≤ 512)

/-- Piece `h`'s entry for a column: the table's entry where the column's batch lies in the piece. -/
def pieceVal (h : ℕ) (hh : h < 4) (j : Fin 128) : EReal :=
  if (X3 (ix2 4 n)).toNat / 128 = h then X4 (ix2 j ⟨128 * h + (X3 (ix2 4 n)).toNat % 128, by omega⟩) else 0

include hb

/-- A piece's sum for a column. -/
theorem term (h : ℕ) (hh : h < 4) (j : Fin 128) :
    ∑ k : Fin 128, X4 (ix2 j ⟨128 * h + k.val, by omega⟩) * ((if IntOp.addi (BitVec.ofNat 32 ↑k) 0#32 = IntOp.andi (X3 (ix2 4 n)) 127#32 then 1 else 0) *
      (if IntOp.shrsi ArithUnit.vector (X3 (ix2 4 n)) 7#32 = BitVec.ofNat 32 h then 1 else 0)) = pieceVal X3 X4 n h hh j :=
  Cert.OneHot.piece (fun k => X4 (ix2 j ⟨128 * h + k.val, by omega⟩)) _ (by omega) h (by omega)

omit hb in
/-- A guarded addition of a piece: what is skipped would add nothing. -/
theorem part (A P : S128x8192.Idx → EReal) (h : ℕ) (hh : h < 4) (j : Fin 128) (hP : P (ix2 j n) = A (ix2 j n) + pieceVal X3 X4 n h hh j)
    (c : Prop) [Decidable c] (hc : ¬ c → (X3 (ix2 4 n)).toNat / 128 ≠ h) :
    (if c then P else A) (ix2 j n) = A (ix2 j n) + pieceVal X3 X4 n h hh j := by
  by_cases hcc : c
  · rw [if_pos hcc, hP]
  · rw [if_neg hcc, pieceVal, if_neg (hc hcc), add_zero]

/-- The first piece's payload. -/
theorem pay_0 (A : S128x8192.Idx → EReal) (j : Fin 128) :
    k1_pay8 (F := Ideal) (batchRow (F := Ideal) X3) A (View.ld X4 (Rect.unit (s := S128x512) ![0, 0] S128x128.size inb_S128x512_S128x128_0_0)) (ix2 j n)
      = A (ix2 j n) + pieceVal X3 X4 n 0 (by norm_num) j := by
  rw [← term X3 X4 n hb 0 (by norm_num) j]
  pointwise [k1_pay8, k1_pay6, k1_pay5, k1_pay4, batchRow]
  simp only [Cert.OneHot.bit, Nat.mul_zero, Nat.zero_add]

/-- The second piece's payload. -/
theorem pay_1 (A : S128x8192.Idx → EReal) (j : Fin 128) :
    k1_pay9 (F := Ideal) (batchRow (F := Ideal) X3) A (View.ld X4 (Rect.unit (s := S128x512) ![0, 128] S128x128.size inb_S128x512_S128x128_0_128)) (ix2 j n)
      = A (ix2 j n) + pieceVal X3 X4 n 1 (by norm_num) j := by
  rw [← term X3 X4 n hb 1 (by norm_num) j]
  pointwise [k1_pay9, k1_pay6, k1_pay5, k1_pay4, batchRow]
  simp only [Cert.OneHot.bit, Nat.mul_one]

/-- The third piece's payload. -/
theorem pay_2 (A : S128x8192.Idx → EReal) (j : Fin 128) :
    k1_pay1 (F := Ideal) (k1_pay5 (F := Ideal) (batchRow (F := Ideal) X3)) (k1_pay6 (F := Ideal) (batchRow (F := Ideal) X3)) A
        (View.ld X4 (Rect.unit (s := S128x512) ![0, 256] S128x128.size inb_S128x512_S128x128_0_256)) (ix2 j n)
      = A (ix2 j n) + pieceVal X3 X4 n 2 (by norm_num) j := by
  rw [← term X3 X4 n hb 2 (by norm_num) j]
  pointwise [k1_pay1, k1_pay6, k1_pay5, k1_pay4, batchRow]
  simp only [Cert.OneHot.bit, Nat.reduceMul]

/-- The fourth piece's payload. -/
theorem pay_3 (A : S128x8192.Idx → EReal) (j : Fin 128) :
    k1_pay2 (F := Ideal) (k1_pay5 (F := Ideal) (batchRow (F := Ideal) X3)) (k1_pay6 (F := Ideal) (batchRow (F := Ideal) X3)) A
        (View.ld X4 (Rect.unit (s := S128x512) ![0, 384] S128x128.size inb_S128x512_S128x128_0_384)) (ix2 j n)
      = A (ix2 j n) + pieceVal X3 X4 n 3 (by norm_num) j := by
  rw [← term X3 X4 n hb 3 (by norm_num) j]
  pointwise [k1_pay2, k1_pay6, k1_pay5, k1_pay4, batchRow]
  simp only [Cert.OneHot.bit, Nat.reduceMul]

end

/-- The four pieces together: a column of a real batch gets its batch's entry. -/
theorem acc4_apply (i : grid1.Coords) (T : S13x2.Idx → BitVec 32) (X3 : S8x8192.Idx → BitVec 32) (X4 : S128x512.Idx → EReal) (n : Fin 8192)
    (hb : (X3 (ix2 4 n)).toNat < 512)
    (h0 : ¬ meets (word (F := Ideal) T (k1_off1 i) (k1_off1_inb i)) (word (F := Ideal) T (k1_off2 i) (k1_off2_inb i)) 0#32 128#32 → (X3 (ix2 4 n)).toNat / 128 ≠ 0)
    (h1 : ¬ meets (word (F := Ideal) T (k1_off3 i) (k1_off3_inb i)) (word (F := Ideal) T (k1_off4 i) (k1_off4_inb i)) 128#32 256#32 → (X3 (ix2 4 n)).toNat / 128 ≠ 1)
    (h2 : ¬ meets (word (F := Ideal) T (k1_off5 i) (k1_off5_inb i)) (word (F := Ideal) T (k1_off6 i) (k1_off6_inb i)) 256#32 384#32 → (X3 (ix2 4 n)).toNat / 128 ≠ 2)
    (h3 : ¬ meets (word (F := Ideal) T (k1_off7 i) (k1_off7_inb i)) (word (F := Ideal) T (k1_off8 i) (k1_off8_inb i)) 384#32 512#32 → (X3 (ix2 4 n)).toNat / 128 ≠ 3)
    (j : Fin 128) :
    acc4 (F := Ideal) i T X3 X4 (ix2 j n) = X4 (ix2 j ⟨(X3 (ix2 4 n)).toNat, hb⟩) := by
  have hb' := hb.le
  have hz : k1_pay7 (F := Ideal) (ix2 j n) = 0 := by pointwise [k1_pay7]
  unfold acc4 acc2
  refine (part X3 X4 n _ _ 3 (by norm_num) j (pay_3 X3 X4 n hb' _ j) _ h3).trans ?_
  refine (congrArg (· + _) (part X3 X4 n _ _ 2 (by norm_num) j (pay_2 X3 X4 n hb' _ j) _ h2)).trans ?_
  refine (congrArg (· + _ + _) (part X3 X4 n _ _ 1 (by norm_num) j (pay_1 X3 X4 n hb' _ j) _ h1)).trans ?_
  refine (congrArg (· + _ + _ + _) (part X3 X4 n _ _ 0 (by norm_num) j (pay_0 X3 X4 n hb' _ j) _ h0)).trans ?_
  rw [hz, zero_add]
  exact Cert.OneHot.four (fun k => X4 (ix2 j k)) (X3 (ix2 4 n)) hb (fun h => pieceVal X3 X4 n h.val h.isLt j) fun h => rfl

/-- Pass B's block at an entry: the batch's scale times the feature sum, plus the batch's shift. -/
theorem outB_apply (i : grid1.Coords) (T : S13x2.Idx → BitVec 32) (X2 : S64x8192.Idx → EReal) (X3 : S8x8192.Idx → BitVec 32) (X4 : S128x512.Idx → EReal)
    (n : Fin 8192) (d : Fin 64) (b : Fin 512) (hA : ∀ j, acc4 (F := Ideal) i T X3 X4 (ix2 j n) = X4 (ix2 j b)) :
    outB (F := Ideal) i T X2 X3 X4 (ix2 n d)
      = X4 (ix2 ⟨d.val, by omega⟩ b) * X2 (ix2 d n) + X4 (ix2 ⟨64 + d.val, by omega⟩ b) := by
  unfold outB
  rw [← hA, ← hA]
  generalize acc4 (F := Ideal) i T X3 X4 = A
  pointwise [k1_pay3]

end Cert.KernelIdeal.PassB
-- ==== Proof.KernelRows.lean ====
/-
  What the blocks of pass A hold in terms of the inputs: the index rows, the tables' entries that a row picks, and so the features.
-/
module

public import proofs.«01_k».proof.Proof.Blocks
public import proofs.«01_k».proof.Proof.HostVal
public import proofs.«01_k».proof.Proof.SumVal
public import proofs.«01_k».proof.Proof.FinalVal

@[expose] public section

set_option maxRecDepth 16384

noncomputable section

namespace Cert.KernelVal

open Cert.KernelIdeal hiding ix1
open Idealize.ShloMosaic Idealize.ShloMosaic.TcCoe Idealize.SL.Sem
open Cert.Model (Data Holds)
open Cert.HostVal (args padded)
open Cert.Blocks (pt pt1 at_)
open Cert.KernelIdeal.PassA (InRange feat)
open Cert.KernelIdeal.PassB (word meets)

variable (m : (ℓ : Loc nD τ sig) → Buf (Elt Ideal) ℓ) (c : Dev nD)

/-- The index rows of a block of pass A. -/
abbrev X2 (t : Fin 13) : S8x8192.Idx → BitVec 32 := PassA.B0 (Run.a0 m) (Gen.V29 m c) (pt t)
/-- The measurements of a block. -/
abbrev X3 (t : Fin 13) : S8x8192.Idx → EReal := PassA.B1 (Run.a0 m) (Gen.V29 m c) (pt t)
/-- The first table. -/
abbrev X4 (t : Fin 13) : S64x1024.Idx → EReal := PassA.B2 (Run.a0 m) (Gen.V29 m c) (pt t)
/-- The second table. -/
abbrev X5 (t : Fin 13) : S64x512.Idx → EReal := PassA.B3 (Run.a0 m) (Gen.V29 m c) (pt t)
/-- The third table. -/
abbrev X6 (t : Fin 13) : S64x96.Idx → EReal := PassA.B4 (Run.a0 m) (Gen.V29 m c) (pt t)

/-- A padded index row as numbers. -/
theorem padded_toNat {s : ℕ} (A : (⟨1, ![100000]⟩ : Shape).Idx → BitVec 32) (z : BitVec 32) (f : Fin 100000 → Fin s) (hs : s ≤ 1000)
    (h : ∀ n, A (ix1 n) = BitVec.ofNat 32 (f n).val) (n : Fin 106496) :
    (padded A z n).toNat = if h : n.val < 100000 then (f ⟨n.val, h⟩).val else z.toNat := by
  unfold padded
  split_ifs with hn
  · rw [h, BitVec.toNat_ofNat, Nat.mod_eq_of_lt]
    have := (f ⟨n.val, hn⟩).isLt
    omega
  · rfl

theorem pick_lt {p : Prop} [Decidable p] {s k z : ℕ} (f : p → Fin s) (hs : s ≤ k) (hz : z < k) : (if h : p then (f h).val else z) < k := by
  split_ifs with h
  · exact (f h).isLt.trans_le hs
  · exact hz

theorem same_col {k : ℕ} (X : (⟨2, ![64, k]⟩ : Shape).Idx → EReal) (d : Fin 64) {i j : ℕ} (e : i = j) (hj : j < k) {hi : i < k} :
    X (ix2 d ⟨i, hi⟩) = X (ix2 d ⟨j, hj⟩) := by subst e; rfl

variable {D : Data} (hD : Holds (args m c) D)
include hD

theorem io_at (t : Fin 13) (n : Fin 8192) : (X2 m c t (ix2 0 n)).toNat = if h : (at_ t n).val < 100000 then (D.io ⟨_, h⟩).val else 0 :=
  (congrArg BitVec.toNat ((Blocks.A0 _ _ t 0 n).trans (HostVal.idx_0 m c _))).trans (padded_toNat _ _ D.io (by norm_num) hD.a2 _)
theorem oc_at (t : Fin 13) (n : Fin 8192) : (X2 m c t (ix2 1 n)).toNat = if h : (at_ t n).val < 100000 then (D.oc ⟨_, h⟩).val else 0 :=
  (congrArg BitVec.toNat ((Blocks.A0 _ _ t 1 n).trans (HostVal.idx_1 m c _))).trans (padded_toNat _ _ D.oc (by norm_num) hD.a3 _)
theorem rt_at (t : Fin 13) (n : Fin 8192) : (X2 m c t (ix2 2 n)).toNat = if h : (at_ t n).val < 100000 then (D.rt ⟨_, h⟩).val else 0 :=
  (congrArg BitVec.toNat ((Blocks.A0 _ _ t 2 n).trans (HostVal.idx_2 m c _))).trans (padded_toNat _ _ D.rt (by norm_num) hD.a4 _)
theorem ag_at (t : Fin 13) (n : Fin 8192) : (X2 m c t (ix2 3 n)).toNat = if h : (at_ t n).val < 100000 then (D.ag ⟨_, h⟩).val else 0 :=
  (congrArg BitVec.toNat ((Blocks.A0 _ _ t 3 n).trans (HostVal.idx_3 m c _))).trans (padded_toNat _ _ D.ag (by norm_num) hD.a7 _)
theorem b_at (t : Fin 13) (n : Fin 8192) : (X2 m c t (ix2 4 n)).toNat = if h : (at_ t n).val < 100000 then (D.b ⟨_, h⟩).val else 512 :=
  (congrArg BitVec.toNat ((Blocks.A0 _ _ t 4 n).trans (HostVal.idx_4 m c _))).trans (padded_toNat _ _ D.b (by norm_num) hD.a8 _)

/-- Every column's indices lie in the padded tables. -/
theorem inRange (t : Fin 13) (n : Fin 8192) : InRange (X2 m c t) n where
  io := (io_at m c hD t n).trans_lt (pick_lt _ (by norm_num) (by norm_num))
  occ := (oc_at m c hD t n).trans_lt (pick_lt _ (by norm_num) (by norm_num))
  route := (rt_at m c hD t n).trans_lt (pick_lt _ (by norm_num) (by norm_num))
  age := (ag_at m c hD t n).trans_lt (pick_lt _ (by norm_num) (by norm_num))
  batch := Nat.le_of_lt_succ ((b_at m c hD t n).trans_lt (pick_lt _ (by norm_num) (by norm_num)))

section
variable (t : Fin 13) (n : Fin 8192) (d : Fin 64) (hn : 8192 * t.val + n.val < 100000)

theorem first_pick : X4 m c t (ix2 d ⟨_, (inRange m c hD t n).io⟩) = (D.tio (D.io ⟨_, hn⟩) d : EReal) :=
  (same_col _ d ((io_at m c hD t n).trans (dif_pos hn)) ((D.io ⟨_, hn⟩).isLt.trans (by norm_num))).trans
    ((congrFun (Blocks.A2 _ _ t) _).trans ((HostVal.first_table m c d _ (D.io ⟨_, hn⟩).isLt).trans (hD.a9 _ _)))
theorem second_pick : X5 m c t (ix2 d ⟨_, (inRange m c hD t n).occ⟩) = (D.toc (D.oc ⟨_, hn⟩) d : EReal) :=
  (same_col _ d ((oc_at m c hD t n).trans (dif_pos hn)) ((D.oc ⟨_, hn⟩).isLt.trans (by norm_num))).trans
    ((congrFun (Blocks.A3 _ _ t) _).trans ((HostVal.second_table m c d _ (D.oc ⟨_, hn⟩).isLt).trans (hD.a10 _ _)))
theorem route_pick : X6 m c t (ix2 d ⟨(X2 m c t (ix2 2 n)).toNat, (inRange m c hD t n).route.trans (by norm_num)⟩) = (D.trt (D.rt ⟨_, hn⟩) d : EReal) :=
  (same_col _ d ((rt_at m c hD t n).trans (dif_pos hn)) ((D.rt ⟨_, hn⟩).isLt.trans (by norm_num))).trans
    ((congrFun (Blocks.A4 _ _ t) _).trans ((HostVal.third_table_route m c d ⟨(D.rt ⟨_, hn⟩).val, (D.rt ⟨_, hn⟩).isLt.trans (by norm_num)⟩ (D.rt ⟨_, hn⟩).isLt).trans (hD.a11 _ _)))
theorem age_pick (h : 64 + (X2 m c t (ix2 3 n)).toNat < 96) : X6 m c t (ix2 d ⟨64 + (X2 m c t (ix2 3 n)).toNat, h⟩) = (D.tag (D.ag ⟨_, hn⟩) d : EReal) :=
  (same_col _ d (congrArg (64 + ·) ((ag_at m c hD t n).trans (dif_pos hn))) (Nat.add_lt_add_left ((D.ag ⟨_, hn⟩).isLt.trans (by norm_num : 16 < 32)) 64)).trans
    ((congrFun (Blocks.A4 _ _ t) _).trans ((HostVal.third_table_age m c d (D.ag ⟨_, hn⟩)).trans (hD.a13 _ _)))

/-- The products of the measurements with the small layers' weights, summed. -/
theorem small_layers (r : Fin 100000) (hr : r = ⟨8192 * t.val + n.val, hn⟩) : ∑ k : Fin 8, X6 m c t (ix2 d ⟨80 + k.val, by omega⟩) * X3 m c t (ix2 k n)
      = ((D.wnc d * D.nc r + D.wtm d * D.tm r + D.wpos 0 d * D.pp r 0 + D.wpos 1 d * D.pp r 1 + (D.tsx 1 d - D.tsx 0 d) * (D.sx r).val
          + (D.bnc d + D.btm d + D.bpos d + D.tsx 0 d) : ℝ) : EReal) := by
  subst hr
  have f0 : X6 m c t (ix2 d 80) = (D.wnc d : EReal) := (congrFun (Blocks.A4 _ _ t) _).trans ((HostVal.third_table_80 m c d).trans (hD.a18 _))
  have f1 : X6 m c t (ix2 d 81) = (D.wtm d : EReal) := (congrFun (Blocks.A4 _ _ t) _).trans ((HostVal.third_table_81 m c d).trans (hD.a16 _))
  have f2 : X6 m c t (ix2 d 82) = (D.wpos 0 d : EReal) := (congrFun (Blocks.A4 _ _ t) _).trans ((HostVal.third_table_82 m c d).trans (hD.a14 _ _))
  have f3 : X6 m c t (ix2 d 83) = (D.wpos 1 d : EReal) := (congrFun (Blocks.A4 _ _ t) _).trans ((HostVal.third_table_83 m c d).trans (hD.a14 _ _))
  have f4 : X6 m c t (ix2 d 84) = (D.tsx 1 d : EReal) - (D.tsx 0 d : EReal) := by
    rw [← hD.a12, ← hD.a12]
    exact (congrFun (Blocks.A4 _ _ t) _).trans (HostVal.third_table_84 m c d)
  have f5 : X6 m c t (ix2 d 85) = (D.bnc d : EReal) + (D.btm d : EReal) + (D.bpos d : EReal) + (D.tsx 0 d : EReal) := by
    rw [← hD.a12, ← hD.a19, ← hD.a17, ← hD.a15]
    exact (congrFun (Blocks.A4 _ _ t) _).trans (HostVal.third_table_85 m c d)
  have f6 : X6 m c t (ix2 d 86) = (0 : EReal) := (congrFun (Blocks.A4 _ _ t) _).trans (HostVal.third_table_86 m c d)
  have f7 : X6 m c t (ix2 d 87) = (0 : EReal) := (congrFun (Blocks.A4 _ _ t) _).trans (HostVal.third_table_87 m c d)
  have g0 : X3 m c t (ix2 0 n) = (D.nc ⟨_, hn⟩ : EReal) := (Blocks.A1 _ _ t 0 n).trans ((HostVal.val_0 m c (at_ t n) hn).trans (hD.a0 _))
  have g1 : X3 m c t (ix2 1 n) = (D.tm ⟨_, hn⟩ : EReal) := (Blocks.A1 _ _ t 1 n).trans ((HostVal.val_1 m c (at_ t n) hn).trans (hD.a1 _))
  have g2 : X3 m c t (ix2 2 n) = (D.pp ⟨_, hn⟩ 0 : EReal) := (Blocks.A1 _ _ t 2 n).trans ((HostVal.val_2 m c (at_ t n) hn).trans (hD.a6 _ _))
  have g3 : X3 m c t (ix2 3 n) = (D.pp ⟨_, hn⟩ 1 : EReal) := (Blocks.A1 _ _ t 3 n).trans ((HostVal.val_3 m c (at_ t n) hn).trans (hD.a6 _ _))
  have g4 : X3 m c t (ix2 4 n) = (((D.sx ⟨_, hn⟩).val : ℝ) : EReal) := by
    refine (Blocks.A1 _ _ t 4 n).trans ((HostVal.val_4 m c (at_ t n) hn).trans ?_)
    rw [hD.a5]
    generalize D.sx ⟨(at_ t n).val, hn⟩ = s
    fin_cases s <;> norm_num
  have g5 : X3 m c t (ix2 5 n) = (1 : EReal) := (Blocks.A1 _ _ t 5 n).trans (HostVal.val_5 m c (at_ t n) hn)
  rw [Fin.sum_univ_eight]
  show X6 m c t (ix2 d 80) * X3 m c t (ix2 0 n) + X6 m c t (ix2 d 81) * X3 m c t (ix2 1 n) + X6 m c t (ix2 d 82) * X3 m c t (ix2 2 n)
      + X6 m c t (ix2 d 83) * X3 m c t (ix2 3 n) + X6 m c t (ix2 d 84) * X3 m c t (ix2 4 n) + X6 m c t (ix2 d 85) * X3 m c t (ix2 5 n)
      + X6 m c t (ix2 d 86) * X3 m c t (ix2 6 n) + X6 m c t (ix2 d 87) * X3 m c t (ix2 7 n) = _
  rw [f0, f1, f2, f3, f4, f5, f6, f7, g0, g1, g2, g3, g4, g5, zero_mul, zero_mul, mul_one, add_zero, add_zero]
  push_cast
  rfl

/-- A row's features are the kernel's. -/
theorem feat_real :
    feat (X2 m c t) (X3 m c t) (X4 m c t) (X5 m c t) (X6 m c t) d n (inRange m c hD t n) = (Model.x D ⟨8192 * t.val + n.val, hn⟩ d : EReal) := by
  unfold feat
  rw [first_pick m c hD t n d hn, second_pick m c hD t n d hn, route_pick m c hD t n d hn, age_pick m c hD t n d hn, small_layers m c hD t n d hn _ rfl]
  generalize (⟨8192 * t.val + n.val, hn⟩ : Fin 100000) = r
  rw [← EReal.coe_add, ← EReal.coe_add, ← EReal.coe_add, ← EReal.coe_add]
  congr 1
  unfold Model.x
  generalize D.sx r = s
  fin_cases s <;> norm_num <;> ring

end

end Cert.KernelVal
-- ==== Proof.KernelSums.lean ====
/-
  What pass A has summed after its last point: for every group the features of its rows, their squares, and the number of its rows.
-/
module

public import proofs.«01_k».proof.Proof.KernelRows

@[expose] public section

set_option maxRecDepth 16384

noncomputable section

namespace Cert.KernelVal

open Cert.KernelIdeal hiding ix1
open Idealize.ShloMosaic Idealize.ShloMosaic.TcCoe Idealize.SL.Sem
open Cert.Model (Data Holds)
open Cert.HostVal (args padded)
open Cert.Blocks (pt pt1 at_)
open Cert.KernelIdeal.PassA (InRange feat rowVal)
open Cert.KernelIdeal.PassB (word meets)

/-- A sum over the 13 blocks' columns of what vanishes on the padding is the sum over the rows. -/
theorem sum_blocks (G : ℕ → EReal) (hG : ∀ k, 100000 ≤ k → G k = 0) :
    ∑ t : Fin 13, ∑ n : Fin 8192, G (8192 * t.val + n.val) = ∑ r : Fin 100000, G r.val := by
  have h : ∀ a : ℕ, ∑ t ∈ Finset.range a, ∑ n ∈ Finset.range 8192, G (8192 * t + n) = ∑ k ∈ Finset.range (8192 * a), G k := by
    intro a
    induction a with
    | zero => rfl
    | succ a ih => rw [Finset.sum_range_succ, ih, Nat.mul_succ, Finset.sum_range_add]
  have h1 : ∑ t : Fin 13, ∑ n : Fin 8192, G (8192 * t.val + n.val) = ∑ t ∈ Finset.range 13, ∑ n ∈ Finset.range 8192, G (8192 * t + n) :=
    (Finset.sum_congr rfl fun t _ => (Finset.sum_range (fun n => G (8192 * t.val + n))).symm).trans
      (Finset.sum_range (fun t => ∑ n ∈ Finset.range 8192, G (8192 * t + n))).symm
  rw [h1, h 13, show 8192 * 13 = 100000 + 6496 from rfl, Finset.sum_range_add,
    Finset.sum_eq_zero (s := Finset.range 6496) fun k _ => hG _ (Nat.le_add_right _ _), add_zero]
  exact Finset.sum_range G

/-- A word of the table: the offsets are the point and the column. -/
theorem word_at (T : S13x2.Idx → BitVec 32) (off : Fin 2 → ℕ) (inb : ∀ a, off a + S1x1.size a ≤ S13x2.size a) (t : Fin 13) (k : Fin 2)
    (h : off = ![t.val, k.val]) : word (F := Ideal) T off inb = T (ix2 t k) := by
  subst h
  unfold word
  refine congrArg T (funext fun i => Fin.ext ?_)
  fin_cases i
  · exact Nat.add_zero _
  · exact Nat.add_zero _

theorem off0 : ∀ t : Fin grid0.N, k0_off1 (grid0.coords t) = ![t.val, (0 : Fin 2).val] := by decide
theorem off1 : ∀ t : Fin grid0.N, k0_off2 (grid0.coords t) = ![t.val, (1 : Fin 2).val] := by decide
theorem off0' : ∀ t : Fin grid1.N, k1_off1 (grid1.coords t) = ![t.val, (0 : Fin 2).val] := by decide
theorem off1' : ∀ t : Fin grid1.N, k1_off2 (grid1.coords t) = ![t.val, (1 : Fin 2).val] := by decide

variable (m : (ℓ : Loc nD τ sig) → Buf (Elt Ideal) ℓ) (c : Dev nD)

theorem tab_eq : PassA.tab (Run.a0 m) = (Gen.V29 m c main_v68 : S13x2.Idx → BitVec 32) := by
  obtain rfl : c = 0 := Subsingleton.elim _ _
  rfl
theorem tab_eq' : PassB.tab (Run.a1 m) = (Gen.V29 m c main_v68 : S13x2.Idx → BitVec 32) := by
  obtain rfl : c = 0 := Subsingleton.elim _ _
  rfl

theorem small_toInt (g : Fin 512) : (BitVec.ofNat 32 g.val).toInt = g.val := by
  rw [BitVec.toInt_ofNat', Int.bmod_eq_of_le] <;> omega

variable {D : Data} (hD : Holds (args m c) D)
include hD

theorem low_word (t : Fin 13) : ((Gen.V29 m c main_v68 : S13x2.Idx → BitVec 32) (ix2 t 0)).toInt = ((D.b ⟨8192 * t.val, by omega⟩).val : ℤ) := by
  rw [HostVal.bounds_0, hD.a8, small_toInt]
theorem high_word (t : Fin 13) : ((Gen.V29 m c main_v68 : S13x2.Idx → BitVec 32) (ix2 t 1)).toInt
    = ((D.b ⟨min (8192 * t.val + 8191) 99999, by omega⟩).val : ℤ) := by
  rw [HostVal.bounds_1, hD.a8, small_toInt]

/-- A piece that the program skips at a point holds no column of the point's block: the rows are sorted by group. -/
theorem skip (t : Fin 13) (k : ℕ) (hk : k < 4) (lo hi a b : BitVec 32) (hlo : lo.toInt = 128 * k) (hhi : hi.toInt = 128 * (k + 1))
    (ha : a = (Gen.V29 m c main_v68 : S13x2.Idx → BitVec 32) (ix2 t 0)) (hb : b = (Gen.V29 m c main_v68 : S13x2.Idx → BitVec 32) (ix2 t 1))
    (h : ¬ meets a b lo hi) (n : Fin 8192) : (X2 m c t (ix2 4 n)).toNat / 128 ≠ k := by
  rw [PassB.meets_iff, ha, hb, low_word m c hD, high_word m c hD, hlo, hhi] at h
  rw [b_at m c hD]
  split_ifs with hn
  · have h1 : D.b ⟨8192 * t.val, by omega⟩ ≤ D.b ⟨8192 * t.val + n.val, hn⟩ := hD.sorted (Fin.mk_le_mk.2 (Nat.le_add_right _ _))
    have h2 : D.b ⟨8192 * t.val + n.val, hn⟩ ≤ D.b ⟨min (8192 * t.val + 8191) 99999, by omega⟩ :=
      hD.sorted (Fin.mk_le_mk.2 (by have := n.isLt; change 8192 * t.val + n.val < 100000 at hn; omega))
    rw [Fin.le_def] at h1 h2
    generalize (D.b ⟨8192 * t.val, _⟩).val = p at *
    generalize (D.b ⟨min (8192 * t.val + 8191) 99999, _⟩).val = q at *
    change (D.b ⟨8192 * t.val + n.val, hn⟩).val / 128 ≠ k
    generalize (D.b ⟨8192 * t.val + n.val, hn⟩).val = r at *
    omega
  · omega

/-- What the blocks' columns add to an entry of the sums. -/
def gain (j : Fin 136) (g : Fin 512) (t : Fin 13) : EReal :=
  ∑ n, if (X2 m c t (ix2 4 n)).toNat = g.val then rowVal (X2 m c t) (X3 m c t) (X4 m c t) (X5 m c t) (X6 m c t) (inRange m c hD t) j n else 0

omit hD in
theorem not_first : ∀ t : Fin grid0.N, PassA.first (grid0.coords t) → t.val = 0 := by decide

/-- One point's step. -/
theorem step_at (t : Fin 13) (X : S136x512.Idx → EReal) (hX : t.val = 0 → X = PassA.scr0 (F := Ideal) (grid0.coords (pt t)) X) (j : Fin 136) (g : Fin 512) :
    PassA.stepS (Run.a0 m) (Gen.V29 m c) (pt t) X (ix2 j g) = X (ix2 j g) + gain m c hD j g t := by
  have e : PassA.scr0 (F := Ideal) (grid0.coords (pt t)) X = X := by
    by_cases h : t.val = 0
    · exact (hX h).symm
    · exact if_neg fun h' => h (not_first (pt t) h')
  have h := PassA.scr_apply (X2 m c t) (X3 m c t) (X4 m c t) (X5 m c t) (X6 m c t) (inRange m c hD t) (grid0.coords (pt t)) (PassA.tab (Run.a0 m)) X
    (skip m c hD t 0 (by norm_num) _ _ _ _ (by decide) (by decide) ((word_at _ _ _ t 0 (off0 t)).trans (congrFun (tab_eq m c) _)) ((word_at _ _ _ t 1 (off1 t)).trans (congrFun (tab_eq m c) _)))
    (skip m c hD t 1 (by norm_num) _ _ _ _ (by decide) (by decide) ((word_at _ _ _ t 0 (off0 t)).trans (congrFun (tab_eq m c) _)) ((word_at _ _ _ t 1 (off1 t)).trans (congrFun (tab_eq m c) _)))
    (skip m c hD t 2 (by norm_num) _ _ _ _ (by decide) (by decide) ((word_at _ _ _ t 0 (off0 t)).trans (congrFun (tab_eq m c) _)) ((word_at _ _ _ t 1 (off1 t)).trans (congrFun (tab_eq m c) _)))
    (skip m c hD t 3 (by norm_num) _ _ _ _ (by decide) (by decide) ((word_at _ _ _ t 0 (off0 t)).trans (congrFun (tab_eq m c) _)) ((word_at _ _ _ t 1 (off1 t)).trans (congrFun (tab_eq m c) _)))
    j g
  rw [e] at h
  exact h

/-- The sums before point `k`. -/
theorem sums_at (j : Fin 136) (g : Fin 512) (k : ℕ) (hk : k ≤ 13) :
    PassA.sums (Run.a0 m) (Gen.V29 m c) k (ix2 j g) = ∑ t ∈ Finset.range k, if h : t < 13 then gain m c hD j g ⟨t, h⟩ else 0 := by
  induction k with
  | zero => exact (show Gen.k0_pay10 (F := Ideal) (ix2 j g) = 0 by pointwise [Gen.k0_pay10])
  | succ k ih =>
    rw [Finset.sum_range_succ, ← ih (by omega), dif_pos (by omega : k < 13)]
    refine (congrFun (PassA.track_succ (Run.a0 m) (Gen.V29 m c) _ (pt ⟨k, by omega⟩)) _).trans ?_
    refine step_at m c hD ⟨k, by omega⟩ _ (fun h0 => ?_) j g
    change k = 0 at h0
    subst h0
    exact (if_pos (PassA.first_zero ⟨0, by decide⟩ rfl)).symm

/-- The sums after the last point, over the rows: what a row adds if it is of the group. -/
theorem sums_all (j : Fin 136) (g : Fin 512) (R : Fin 100000 → EReal)
    (hR : ∀ (t : Fin 13) (n : Fin 8192) (hn : 8192 * t.val + n.val < 100000),
      rowVal (X2 m c t) (X3 m c t) (X4 m c t) (X5 m c t) (X6 m c t) (inRange m c hD t) j n = R ⟨8192 * t.val + n.val, hn⟩) :
    PassA.sums (Run.a0 m) (Gen.V29 m c) 13 (ix2 j g) = ∑ r : Fin 100000, if D.b r = g then R r else 0 := by
  rw [sums_at m c hD j g 13 (le_refl _), Finset.sum_range]
  refine Eq.trans (Finset.sum_congr rfl fun t _ => (dif_pos t.isLt).trans (Finset.sum_congr rfl fun n _ => ?_))
    ((sum_blocks (fun k => if h : k < 100000 then (if D.b ⟨k, h⟩ = g then R ⟨k, h⟩ else 0) else 0) fun k hk => dif_neg (not_lt.2 hk)).trans
      (Finset.sum_congr rfl fun r _ => dif_pos r.isLt))
  rw [b_at m c hD]
  by_cases hn : 8192 * t.val + n.val < 100000
  · rw [dif_pos hn, dif_pos hn, ← hR t n hn]
    exact if_congr Fin.ext_iff.symm rfl rfl
  · rw [dif_neg hn, dif_neg hn]
    exact if_neg (by omega)

/-- The features' sums. -/
theorem sums_tot (d : Fin 64) (g : Fin 512) : PassA.sums (Run.a0 m) (Gen.V29 m c) 13 (ix2 ⟨d.val, by omega⟩ g) = (Model.tot D g d : EReal) := by
  rw [Model.tot_coe]
  exact sums_all m c hD _ g (fun r => (Model.x D r d : EReal)) fun t n hn => (dif_pos d.isLt).trans (feat_real m c hD t n d hn)

/-- The squares' sums. -/
theorem sums_sq (d : Fin 64) (g : Fin 512) : PassA.sums (Run.a0 m) (Gen.V29 m c) 13 (ix2 ⟨64 + d.val, by omega⟩ g) = (Model.sq D g d : EReal) := by
  rw [Model.sq_coe]
  refine sums_all m c hD _ g (fun r => (Model.x D r d : EReal) * (Model.x D r d : EReal)) fun t n hn => ?_
  unfold rowVal
  rw [dif_neg (by simp), dif_pos (by simp; omega)]
  have e : (⟨64 + d.val - 64, by omega⟩ : Fin 64) = d := Fin.ext (Nat.add_sub_cancel_left _ _)
  rw [← feat_real m c hD t n d hn]
  exact congrArg (fun d => feat (X2 m c t) (X3 m c t) (X4 m c t) (X5 m c t) (X6 m c t) d n (inRange m c hD t n) * feat (X2 m c t) (X3 m c t) (X4 m c t) (X5 m c t) (X6 m c t) d n (inRange m c hD t n)) e

/-- The numbers of rows. -/
theorem sums_cnt (g : Fin 512) : PassA.sums (Run.a0 m) (Gen.V29 m c) 13 (ix2 128 g) = (Model.cnt D g : EReal) := by
  rw [Model.cnt_coe]
  exact sums_all m c hD _ g (fun _ => (1 : EReal)) fun t n hn => rfl

end Cert.KernelVal
-- ==== Proof.KernelOut.lean ====
/-
  The kernel's result over the extended reals: pass A's scales and shifts, and pass B's rows, which are the group norm's.
-/
module

public import proofs.«01_k».proof.Proof.KernelSums

@[expose] public section

set_option maxRecDepth 16384

noncomputable section

namespace Cert.KernelVal

open Cert.KernelIdeal hiding ix1
open Idealize.ShloMosaic Idealize.ShloMosaic.TcCoe Idealize.SL.Sem
open Cert.Model (Data Holds)
open Cert.HostVal (args padded)
open Cert.Blocks (pt pt1 at_)
open Cert.KernelIdeal.PassA (InRange feat rowVal scaleOf shiftOf)
open Cert.KernelIdeal.PassB (word meets)

variable (m : (ℓ : Loc nD τ sig) → Buf (Elt Ideal) ℓ) (c : Dev nD) {D : Data} (hD : Holds (args m c) D)

/-- The kernel's mean. -/
theorem mean_eq (D : Data) (g : Fin 512) (d : Fin 64) :
    (Model.tot D g d : EReal) * Ideal.div 1 (max (Model.cnt D g : EReal) 1) = (Model.mean D g d : EReal) := by
  rw [show (1 : EReal) = ((1 : ℝ) : EReal) from EReal.coe_one.symm, ← Model.coe_max, Model.div_real _ (Model.max_pos D g), one_mul, ← EReal.coe_mul]
  rfl

/-- The kernel's scale of a row's group is the weight over the root of the variance. -/
theorem scaleOf_eq (D : Data) (r : Fin 100000) (d : Fin 64) :
    scaleOf (Model.tot D (D.b r) d : EReal) (Model.sq D (D.b r) d : EReal) (Model.cnt D (D.b r) : EReal) (D.ms d) (D.w d : EReal) = ((Model.scl D r d : ℝ) : EReal) := by
  have hv : 0 < Model.var D (D.b r) d + Model.eps := add_pos_of_nonneg_of_pos (Model.var_nonneg D _ d) Model.eps_pos
  unfold scaleOf Model.scl
  rw [mean_eq, Model.two_word, Model.eps_word, show (1 : EReal) = ((1 : ℝ) : EReal) from EReal.coe_one.symm, ← Model.coe_max, Model.div_real _ (Model.max_pos D (D.b r)), one_mul,
    ← EReal.coe_mul]
  split_ifs with h
  · rw [Model.loss_lost D h, EReal.coe_sub_bot, EReal.top_add_coe, Ideal.rsqrt_top, mul_zero, EReal.coe_zero]
  · rw [Model.loss_real D h, ← EReal.coe_sub, ← EReal.coe_add, ← Model.var_eq D r d, Model.rsqrt_real hv, ← EReal.coe_mul]

/-- The kernel's shift of a row's group. -/
theorem shiftOf_eq (D : Data) (r : Fin 100000) (d : Fin 64) :
    shiftOf (Model.tot D (D.b r) d : EReal) (Model.sq D (D.b r) d : EReal) (Model.cnt D (D.b r) : EReal) (D.ms d) (D.w d : EReal) (D.bias d)
      = D.bias d - ((Model.shl D r d : ℝ) : EReal) := by
  unfold shiftOf
  rw [scaleOf_eq, mean_eq]
  unfold Model.scl Model.shl
  split_ifs with h
  · rw [EReal.coe_zero, mul_zero]
  · rw [Model.scaled_mean D h, ← EReal.coe_mul]

include hD

/-- The parameters in pass A's last block. -/
theorem params (d : Fin 64) : (PassA.B5 (Run.a0 m) (Gen.V29 m c) (pt 12) (ix2 d 0) : EReal) = D.ms d
    ∧ (PassA.B5 (Run.a0 m) (Gen.V29 m c) (pt 12) (ix2 d 1) : EReal) = (D.w d : EReal)
    ∧ (PassA.B5 (Run.a0 m) (Gen.V29 m c) (pt 12) (ix2 d 2) : EReal) = D.bias d :=
  ⟨(congrFun (Blocks.A5 _ _ 12) _).trans ((HostVal.params_0 m c d).trans (hD.a22 d)),
   (congrFun (Blocks.A5 _ _ 12) _).trans ((HostVal.params_1 m c d).trans (hD.a20 d)),
   (congrFun (Blocks.A5 _ _ 12) _).trans ((HostVal.params_2 m c d).trans (hD.a21 d))⟩

/-- The scales that pass A leaves, at a row's group. -/
theorem scales_at (r : Fin 100000) (d : Fin 64) : (Run.W30 m c main_v113_1 : S128x512.Idx → EReal) (ix2 ⟨d.val, by omega⟩ (D.b r))
    = ((Model.scl D r d : ℝ) : EReal) := by
  obtain ⟨h0, h1, -⟩ := params m c hD d
  refine (Blocks.scales m c _).trans ((PassA.outAC_scale _ _ _ d (D.b r)).trans ?_)
  rw [sums_tot m c hD, sums_sq m c hD, sums_cnt m c hD, h0, h1, scaleOf_eq]

/-- The shifts that pass A leaves, at a row's group. -/
theorem shifts_at (r : Fin 100000) (d : Fin 64) : (Run.W30 m c main_v113_1 : S128x512.Idx → EReal) (ix2 ⟨64 + d.val, by omega⟩ (D.b r))
    = D.bias d - ((Model.shl D r d : ℝ) : EReal) := by
  obtain ⟨h0, h1, h2⟩ := params m c hD d
  refine (Blocks.scales m c _).trans ((PassA.outAC_shift _ _ _ d (D.b r)).trans ?_)
  rw [sums_tot m c hD, sums_sq m c hD, sums_cnt m c hD, h0, h1, h2, shiftOf_eq]

omit hD in
/-- Pass B's index rows are pass A's. -/
theorem rows_same (t : Fin 13) (k : Fin 8) (n : Fin 8192) : PassB.B1 (Run.a1 m) (Run.W30 m c) (pt1 t) (ix2 k n) = X2 m c t (ix2 k n) :=
  (Blocks.C1 _ _ t k n).trans ((congrFun (Blocks.indices m c) _).trans (Blocks.A0 _ _ t k n).symm)

/-- A piece that pass B skips at a point holds no column of the point's block. -/
theorem skip' (t : Fin 13) (k : ℕ) (hk : k < 4) (lo hi : BitVec 32) (hlo : lo.toInt = 128 * k) (hhi : hi.toInt = 128 * (k + 1))
    (o o' : Fin 2 → ℕ) (i : ∀ a, o a + S1x1.size a ≤ S13x2.size a) (i' : ∀ a, o' a + S1x1.size a ≤ S13x2.size a)
    (ho : o = ![t.val, (0 : Fin 2).val]) (ho' : o' = ![t.val, (1 : Fin 2).val])
    (h : ¬ meets (word (F := Ideal) (PassB.tab (Run.a1 m)) o i) (word (F := Ideal) (PassB.tab (Run.a1 m)) o' i') lo hi) (n : Fin 8192) :
    (PassB.B1 (Run.a1 m) (Run.W30 m c) (pt1 t) (ix2 4 n)).toNat / 128 ≠ k := by
  rw [rows_same]
  exact skip m c hD t k hk lo hi _ _ hlo hhi ((word_at _ _ _ t 0 ho).trans (congrFun (tab_eq' m c) _)) ((word_at _ _ _ t 1 ho').trans (congrFun (tab_eq' m c) _)) h n

/-- Pass B picks the scales and shifts of the row's group. -/
theorem picked (t : Fin 13) (n : Fin 8192) (hn : 8192 * t.val + n.val < 100000) (j : Fin 128) :
    PassB.acc4 (F := Ideal) (grid1.coords (pt1 t)) (PassB.tab (Run.a1 m)) (PassB.B1 (Run.a1 m) (Run.W30 m c) (pt1 t)) (PassB.B2 (Run.a1 m) (Run.W30 m c) (pt1 t)) (ix2 j n)
      = PassB.B2 (Run.a1 m) (Run.W30 m c) (pt1 t) (ix2 j (D.b ⟨8192 * t.val + n.val, hn⟩)) := by
  have hb : (PassB.B1 (Run.a1 m) (Run.W30 m c) (pt1 t) (ix2 4 n)).toNat = (D.b ⟨8192 * t.val + n.val, hn⟩).val :=
    (congrArg BitVec.toNat (rows_same m c t 4 n)).trans ((b_at m c hD t n).trans (dif_pos hn))
  have h0 := fun h => skip' m c hD t 0 (by norm_num) 0#32 128#32 (by decide) (by decide) _ _ (Gen.k1_off1_inb (grid1.coords (pt1 t))) (Gen.k1_off2_inb (grid1.coords (pt1 t))) (off0' t) (off1' t) h n
  have h1 := fun h => skip' m c hD t 1 (by norm_num) 128#32 256#32 (by decide) (by decide) _ _ (Gen.k1_off3_inb (grid1.coords (pt1 t))) (Gen.k1_off4_inb (grid1.coords (pt1 t))) (off0' t) (off1' t) h n
  have h2 := fun h => skip' m c hD t 2 (by norm_num) 256#32 384#32 (by decide) (by decide) _ _ (Gen.k1_off5_inb (grid1.coords (pt1 t))) (Gen.k1_off6_inb (grid1.coords (pt1 t))) (off0' t) (off1' t) h n
  have h3 := fun h => skip' m c hD t 3 (by norm_num) 384#32 512#32 (by decide) (by decide) _ _ (Gen.k1_off7_inb (grid1.coords (pt1 t))) (Gen.k1_off8_inb (grid1.coords (pt1 t))) (off0' t) (off1' t) h n
  generalize PassB.B1 (Run.a1 m) (Run.W30 m c) (pt1 t) = X at *
  generalize PassB.B2 (Run.a1 m) (Run.W30 m c) (pt1 t) = Y at *
  refine (PassB.acc4_apply (grid1.coords (pt1 t)) (PassB.tab (Run.a1 m)) X Y n (hb.trans_lt (D.b _).isLt) h0 h1 h2 h3 j).trans ?_
  exact congrArg (fun k => Y (ix2 j k)) (Fin.ext hb)

/-- The result's entry in row `8192 * t + n`. -/
theorem result_at (t : Fin 13) (n : Fin 8192) (hn : 8192 * t.val + n.val < 100000) (d : Fin 64) :
    (Run.W31 m c main_v114 : S100000x64.Idx → EReal) (ix2 ⟨8192 * t.val + n.val, hn⟩ d) = Model.out D ⟨8192 * t.val + n.val, hn⟩ d := by
  have ho := PassB.outB_apply (grid1.coords (pt1 t)) (PassB.tab (Run.a1 m)) (PassB.B0 (Run.a1 m) (Run.W30 m c) (pt1 t)) (PassB.B1 (Run.a1 m) (Run.W30 m c) (pt1 t))
    (PassB.B2 (Run.a1 m) (Run.W30 m c) (pt1 t)) n d (D.b ⟨8192 * t.val + n.val, hn⟩) (picked m c hD t n hn)
  have e1 : PassB.B2 (Run.a1 m) (Run.W30 m c) (pt1 t) (ix2 ⟨d.val, by omega⟩ (D.b ⟨8192 * t.val + n.val, hn⟩)) = _ := (congrFun (Blocks.C2 _ _ t) _).trans (scales_at m c hD _ d)
  have e2 : PassB.B2 (Run.a1 m) (Run.W30 m c) (pt1 t) (ix2 ⟨64 + d.val, by omega⟩ (D.b ⟨8192 * t.val + n.val, hn⟩)) = _ := (congrFun (Blocks.C2 _ _ t) _).trans (shifts_at m c hD _ d)
  have e3 : PassB.B0 (Run.a1 m) (Run.W30 m c) (pt1 t) (ix2 d n) = _ := (Blocks.C0 _ _ t d n).trans
    ((Blocks.features m c t d n).trans ((PassA.outX_apply _ _ _ _ _ d n (inRange m c hD t n)).trans (feat_real m c hD t n d hn)))
  rw [e1, e2, e3] at ho
  exact (Blocks.result m c t n hn d).trans (ho.trans (Model.scale_shift D _ d))

/-- The kernel's result is the group norm of the features. -/
theorem result (r : Fin 100000) (d : Fin 64) : (Run.W31 m c main_v114 : S100000x64.Idx → EReal) (ix2 r d) = Model.out D r d := by
  have e : 8192 * (r.val / 8192) + r.val % 8192 = r.val := Nat.div_add_mod _ _
  have h := result_at m c hD ⟨r.val / 8192, by omega⟩ ⟨r.val % 8192, by omega⟩ (e.trans_lt r.isLt) d
  have er : (⟨8192 * (r.val / 8192) + r.val % 8192, e.trans_lt r.isLt⟩ : Fin 100000) = r := Fin.ext e
  exact (congrArg (fun r => (Run.W31 m c main_v114 : S100000x64.Idx → EReal) (ix2 r d)) er).symm.trans (h.trans (congrArg (fun r => Model.out D r d) er))

end Cert.KernelVal
-- ==== Proof.RefParts.lean ====
/-
  The reference's lookups and group sums, read at an entry: a lookup by indices in range is the table's row, and a scattered sum is
  the sum over the rows of the group.
-/
module

public import proofs.«01_k».proof.Proof.Gen.ReferenceIdeal.Run
public import proofs.«01_k».proof.Proof.Model
public import Idealize.ShloMosaic.Lib.Pointwise
public import Idealize.ShloMosaic.Lib.ReduceAll
public import Idealize.ShloMosaic.Lib.Routing.Ops
public import Idealize.ShloMosaic.Lib.Routing.OpsPair

@[expose] public section

set_option maxRecDepth 16384

noncomputable section

namespace Cert.RefVal

open Cert.ReferenceIdeal Cert.ReferenceIdeal.Gen Cert.ReferenceIdeal.Value
open Idealize.ShloMosaic Idealize.ShloMosaic.TcCoe Idealize.SL.Sem
open Cert.Model (Data Args Holds)

/-- A word that stands for a small number is that number, signed too. -/
theorem small_toInt {s : ℕ} (hs : s ≤ 1000) (k : Fin s) : (BitVec.ofNat 32 k.val).toInt = k.val := by
  have := k.isLt
  rw [BitVec.toInt_ofNat', Int.bmod_eq_of_le] <;> omega

/-- A column of small indices, wrapped from the end where negative, is as it was. -/
theorem wrap_at {s : ℕ} (hs : s ≤ 1000) (A : S100000.Idx → BitVec 32) (f : Fin 100000 → Fin s) (hA : ∀ n, A (ix1 n) = BitVec.ofNat 32 (f n).val) (k : BitVec 32)
    (n : Fin 100000) :
    (broadcastInDim S100000x1 ![0] bcast_S100000_S100000x1_0 (select (cmpi .slt A (broadcastInDim S100000 ![] bcast_S_S100000 (constantI S_ 32 0#32)))
      (addi A (broadcastInDim S100000 ![] bcast_S_S100000 (constantI S_ 32 k))) A) : S100000x1.Idx → BitVec 32) (ix2 n 0) = BitVec.ofNat 32 (f n).val := by
  have h := small_toInt hs (f n)
  pointwise
  rw [hA]
  have e : IntOp.cmpi .slt (BitVec.ofNat 32 (f n).val) 0#32 = 0#1 := by
    simp [IntOp.cmpi, BitVec.slt_eq_decide, h, show ¬ (((f n).val : ℕ) : ℤ) < 0 by omega]
  rw [e]
  rfl

/-- A lookup by indices in range is the table's row. -/
theorem take_at {s : ℕ} (hs : s ≤ 1000) (C : S100000x1.Idx → BitVec 32) (f : Fin 100000 → Fin s) (hC : ∀ n, C (ix2 n 0) = BitVec.ofNat 32 (f n).val)
    (hi : BitVec 32) (hhi : hi.toInt + 1 = s) (g : GatherDims ⟨2, ![s, 64]⟩ S100000x1 S100000x64) (h1 : g.offsetDims = [1])
    (h2 : g.collapsedSliceDims = [0]) (h3 : g.operandBatchingDims = []) (h4 : g.startIndexMap = [0]) (h5 : g.indexVectorDim = 1)
    (T : (⟨2, ![s, 64]⟩ : Shape).Idx → EReal) (z : S100000x64.Idx → EReal) (n : Fin 100000) (d : Fin 64) :
    select (broadcastInDim S100000x64 ![0] bcast_S100000_S100000x64_0 (Host.reduce IntOp.andi
      (andi (cmpi .sge C (broadcastInDim S100000x1 ![] bcast_S_S100000x1 (constantI S_ 32 0#32)))
        (cmpi .sle C (broadcastInDim S100000x1 ![0, 1] bcast_S1x1_S100000x1_0_1 (broadcastInDim S1x1 ![1] bcast_S1_S1x1_1 (constantI S1 32 hi)))))
      (constantI S_ 1 1#1) reducesTo_S100000x1_S100000_d1 h_S_)) (Host.gather g T C) z (ix2 n d) = T (ix2 (f n) d) := by
  have hr : ∀ j : S100000.Idx, Host.reduce IntOp.andi
      (andi (cmpi .sge C (broadcastInDim S100000x1 ![] bcast_S_S100000x1 (constantI S_ 32 0#32)))
        (cmpi .sle C (broadcastInDim S100000x1 ![0, 1] bcast_S1x1_S100000x1_0_1 (broadcastInDim S1x1 ![1] bcast_S1_S1x1_1 (constantI S1 32 hi)))))
      (constantI S_ 1 1#1) reducesTo_S100000x1_S100000_d1 h_S_ j = 1#1 := fun j => by
    refine Host.reduce_andi_one _ _ _ _ _ rfl fun i => ?_
    obtain ⟨a, rfl⟩ : ∃ a : Fin 100000, i = ix2 a 0 := ⟨i 0, funext fun k => by fin_cases k; rfl; exact Subsingleton.elim (α := Fin 1) _ _⟩
    pointwise
    rw [hC]
    have h := small_toInt hs (f a)
    have := (f a).isLt
    have h0 : (((f a).val : ℕ) : ℤ) ≤ hi.toInt := by omega
    simp [IntOp.cmpi, IntOp.andi, BitVec.sle_eq_decide, h, h0]
  have hg := Routing.gather_row g h1 h2 h3 h4 h5 T C n d (f n) (hC n) (by omega)
  refine Eq.trans ?_ hg
  generalize Host.gather g T C = G
  generalize Host.reduce IntOp.andi _ _ reducesTo_S100000x1_S100000_d1 h_S_ = M at hr
  pointwise
  rw [hr]
  rfl

variable (idx : S100000x1.Idx → BitVec 32) (b : Fin 100000 → Fin 512) (hb : ∀ n, idx (ix2 n 0) = BitVec.ofNat 32 (b n).val)

/-- Where a row's update of the groups' column lands. -/
theorem lands_vec (r : Fin 100000) (g : Fin 512) :
    scatter_S512_S100000x1_S100000_n_0_0_1.resultIdx? (ix1 r) idx = some (ix1 g) ↔ (idx (ix2 r 0)).toInt = g.val := by
  have hs : scatter_S512_S100000x1_S100000_n_0_0_1.start (ix1 r) idx 0 = (idx (ix2 r 0)).toInt := by
    unfold ScatterDims.start
    rw [dif_pos (by decide)]
    refine congrArg (fun i => (idx i).toInt) (funext fun a => ?_)
    fin_cases a <;> rfl
  have hw : scatter_S512_S100000x1_S100000_n_0_0_1.window (ix1 r) 0 = 0 := rfl
  refine (Routing.resultIdx?_ix1 scatter_S512_S100000x1_S100000_n_0_0_1 (ix1 r) idx g).trans ?_
  rw [hs, hw, Nat.cast_zero, add_zero]

/-- Where a row's update of the groups' matrix lands. -/
theorem lands_row (r : Fin 100000) (y : Fin 64) (g : Fin 512) (z : Fin 64) :
    scatter_S512x64_S100000x1_S100000x64_1_0_0_1.resultIdx? (ix2 r y) idx = some (ix2 g z) ↔ (idx (ix2 r 0)).toInt = g.val ∧ y = z := by
  have hs : scatter_S512x64_S100000x1_S100000x64_1_0_0_1.start (ix2 r y) idx 0 = (idx (ix2 r 0)).toInt := by
    unfold ScatterDims.start
    rw [dif_pos (by decide)]
    refine congrArg (fun i => (idx i).toInt) (funext fun a => ?_)
    fin_cases a <;> rfl
  have hs1 : scatter_S512x64_S100000x1_S100000x64_1_0_0_1.start (ix2 r y) idx 1 = 0 := by
    unfold ScatterDims.start
    exact dif_neg (by decide)
  have hw : scatter_S512x64_S100000x1_S100000x64_1_0_0_1.window (ix2 r y) 0 = 0 := rfl
  have hw1 : scatter_S512x64_S100000x1_S100000x64_1_0_0_1.window (ix2 r y) 1 = y.val := rfl
  refine (Routing.resultIdx?_ix2 scatter_S512x64_S100000x1_S100000x64_1_0_0_1 (ix2 r y) idx g z).trans ?_
  rw [hs, hw, hs1, hw1, Fin.ext_iff, Nat.cast_zero, add_zero, zero_add, Nat.cast_inj]

include hb

/-- A group's entry of a scattered column sum. -/
theorem sum_vec (x : S512.Idx → EReal) (u : S100000.Idx → EReal) (g : Fin 512) :
    Host.scatterAdd (F := Ideal) (φ := .f32) scatter_S512_S100000x1_S100000_n_0_0_1 x idx u (ix1 g) = x (ix1 g) + ∑ r : Fin 100000, if b r = g then u (ix1 r) else 0 := by
  show x (ix1 g) + ∑ j ∈ Finset.univ.filter (fun j => scatter_S512_S100000x1_S100000_n_0_0_1.resultIdx? j idx = some (ix1 g)), u j = _
  refine congrArg (x (ix1 g) + ·) ?_
  rw [← Finset.sum_filter]
  refine Finset.sum_nbij' (fun j => (j 0 : Fin 100000)) (fun r => ix1 r) ?_ ?_ ?_ ?_ ?_
  · intro j hj
    have h := (Finset.mem_filter.1 hj).2
    obtain ⟨r, rfl⟩ : ∃ r : Fin 100000, j = ix1 r := ⟨j 0, funext fun a => by fin_cases a; rfl⟩
    have h := (lands_vec idx r g).1 h
    rw [hb, small_toInt (by norm_num)] at h
    exact Finset.mem_filter.2 ⟨Finset.mem_univ _, Fin.ext (by exact_mod_cast h)⟩
  · intro r hr
    have h := (Finset.mem_filter.1 hr).2
    refine Finset.mem_filter.2 ⟨Finset.mem_univ _, (lands_vec idx r g).2 ?_⟩
    rw [hb, small_toInt (by norm_num), h]
  · intro j _
    exact funext fun a => by fin_cases a; rfl
  · intro r _; rfl
  · intro j _
    exact congrArg u (funext fun a => by fin_cases a; rfl)

/-- A group's entry of a scattered matrix sum. -/
theorem sum_row (x : S512x64.Idx → EReal) (u : S100000x64.Idx → EReal) (g : Fin 512) (z : Fin 64) :
    Host.scatterAdd (F := Ideal) (φ := .f32) scatter_S512x64_S100000x1_S100000x64_1_0_0_1 x idx u (ix2 g z) = x (ix2 g z) + ∑ r : Fin 100000, if b r = g then u (ix2 r z) else 0 := by
  show x (ix2 g z) + ∑ j ∈ Finset.univ.filter (fun j => scatter_S512x64_S100000x1_S100000x64_1_0_0_1.resultIdx? j idx = some (ix2 g z)), u j = _
  refine congrArg (x (ix2 g z) + ·) ?_
  rw [← Finset.sum_filter]
  have land : ∀ j ∈ Finset.univ.filter (fun j => scatter_S512x64_S100000x1_S100000x64_1_0_0_1.resultIdx? j idx = some (ix2 g z)),
      b (j 0) = g ∧ ix2 (j 0) z = j := by
    intro j hj
    have h := (Finset.mem_filter.1 hj).2
    obtain ⟨r, y, rfl⟩ : ∃ (r : Fin 100000) (y : Fin 64), j = ix2 r y := ⟨j 0, j 1, funext fun a => by fin_cases a <;> rfl⟩
    obtain ⟨h', rfl⟩ := (lands_row idx r y g z).1 h
    rw [hb, small_toInt (by norm_num)] at h'
    exact ⟨Fin.ext (by exact_mod_cast h'), rfl⟩
  refine Finset.sum_nbij' (fun j => (j 0 : Fin 100000)) (fun r => ix2 r z) ?_ ?_ ?_ ?_ ?_
  · intro j hj
    exact Finset.mem_filter.2 ⟨Finset.mem_univ _, (land j hj).1⟩
  · intro r hr
    have h := (Finset.mem_filter.1 hr).2
    refine Finset.mem_filter.2 ⟨Finset.mem_univ _, (lands_row idx r z g z).2 ⟨?_, rfl⟩⟩
    rw [hb, small_toInt (by norm_num), h]
  · intro j hj
    exact (land j hj).2
  · intro r _; rfl
  · intro j hj
    exact congrArg u (land j hj).2.symm

end Cert.RefVal
-- ==== Proof.RefVal.lean ====
/-
  The reference's result over the extended reals: the features, the groups' means and variances, and the normalised rows.
-/
module

public import proofs.«01_k».proof.Proof.RefParts

@[expose] public section

set_option maxRecDepth 16384

noncomputable section

namespace Cert.RefVal

open Cert.ReferenceIdeal Cert.ReferenceIdeal.Gen Cert.ReferenceIdeal.Value
open Idealize.ShloMosaic Idealize.ShloMosaic.TcCoe Idealize.SL.Sem
open Cert.Model (Data Args Holds)

variable (V : Valuation τ sig (Elt Ideal))

/-- The argument arrays in a valuation. -/
def args : Args where
  a0 := V (Proc.devRef .tc main_arg0)
  a1 := V (Proc.devRef .tc main_arg1)
  a2 := V (Proc.devRef .tc main_arg2)
  a3 := V (Proc.devRef .tc main_arg3)
  a4 := V (Proc.devRef .tc main_arg4)
  a5 := V (Proc.devRef .tc main_arg5)
  a6 := V (Proc.devRef .tc main_arg6)
  a7 := V (Proc.devRef .tc main_arg7)
  a8 := V (Proc.devRef .tc main_arg8)
  a9 := V (Proc.devRef .tc main_arg9)
  a10 := V (Proc.devRef .tc main_arg10)
  a11 := V (Proc.devRef .tc main_arg11)
  a12 := V (Proc.devRef .tc main_arg12)
  a13 := V (Proc.devRef .tc main_arg13)
  a14 := V (Proc.devRef .tc main_arg14)
  a15 := V (Proc.devRef .tc main_arg15)
  a16 := V (Proc.devRef .tc main_arg16)
  a17 := V (Proc.devRef .tc main_arg17)
  a18 := V (Proc.devRef .tc main_arg18)
  a19 := V (Proc.devRef .tc main_arg19)
  a20 := V (Proc.devRef .tc main_arg20)
  a21 := V (Proc.devRef .tc main_arg21)
  a22 := V (Proc.devRef .tc main_arg22)

section
variable (n : Fin 100000) (d : Fin 64)

/-- The layer of two measurements, at an entry. -/
theorem layer_2 (P : S100000x2.Idx → EReal) (W : S2x64.Idx → EReal) (B : S64.Idx → EReal) :
    (addf (F := Ideal) (φ := .f32) (Host.dotGeneral (F := Ideal) (φ₁ := .f32) (φ₂ := .f32) dot_S100000x2_S2x64_S100000x64_1_0_0_1_n_n none P W)
      (broadcastInDim S100000x64 ![0, 1] bcast_S1x64_S100000x64_0_1 (broadcastInDim S1x64 ![1] bcast_S64_S1x64_1 B)) : S100000x64.Idx → EReal) (ix2 n d)
      = P (ix2 n 0) * W (ix2 0 d) + P (ix2 n 1) * W (ix2 1 d) + B (ix1 d) := by
  pointwise
  exact congrArg (· + B (ix1 d)) (Fin.sum_univ_two fun k => P (ix2 n k) * W (ix2 k d))

/-- The layer of one measurement, at an entry. -/
theorem layer_1 (P : S100000.Idx → EReal) (W : S1x64.Idx → EReal) (B : S64.Idx → EReal) :
    (addf (F := Ideal) (φ := .f32) (Host.dotGeneral (F := Ideal) (φ₁ := .f32) (φ₂ := .f32) dot_S100000x1_S1x64_S100000x64_1_0_0_1_n_n none (shapeCast _ P shapeCasts_S100000_S100000x1) W)
      (broadcastInDim S100000x64 ![0, 1] bcast_S1x64_S100000x64_0_1 (broadcastInDim S1x64 ![1] bcast_S64_S1x64_1 B)) : S100000x64.Idx → EReal) (ix2 n d)
      = P (ix1 n) * W (ix2 0 d) + B (ix1 d) := by
  pointwise
  exact congrArg (· + B (ix1 d)) (Fin.sum_univ_one fun k => P (ix1 n) * W (ix2 k d))

/-- A column's larger with one. -/
theorem max_one (A : S512.Idx → EReal) (g : Fin 512) :
    (broadcastInDim S512x1 ![0] bcast_S512_S512x1_0 (maximumf (F := Ideal) (φ := .f32) A (broadcastInDim S512 ![] bcast_S_S512 (constant S_ .f32 0x3F800000#32))) : S512x1.Idx → EReal) (ix2 g 0)
      = max (A (ix1 g)) 1 := by
  rw [← EReal.coe_one, ← Model.one_word]
  pointwise

/-- The root of a sum, at an entry. -/
theorem root_at (A B : S512x64.Idx → EReal) (g : Fin 512) (z : Fin 64) (a b : EReal) (hA : A (ix2 g z) = a) (hB : B (ix2 g z) = b) :
    (Host.sqrt (F := Ideal) (φ := .f32) (addf (F := Ideal) (φ := .f32) A B) : S512x64.Idx → EReal) (ix2 g z) = Ideal.sqrt (a + b) := by
  rw [← hA, ← hB]
  pointwise

/-- The last step of the normalisation, at an entry. -/
theorem last_at (W Y R B : S100000x64.Idx → EReal) (w y r b : EReal) (hW : W (ix2 n d) = w) (hY : Y (ix2 n d) = y) (hR : R (ix2 n d) = r) (hB : B (ix2 n d) = b) :
    (addf (F := Ideal) (φ := .f32) (Host.divf (F := Ideal) (φ := .f32) (mulf (F := Ideal) (φ := .f32) W Y) R) B : S100000x64.Idx → EReal) (ix2 n d) = Ideal.div (w * y) r + b := by
  rw [← hW, ← hY, ← hR, ← hB]
  pointwise

end

/-- The reference's features. -/
abbrev X : S100000x64.Idx → EReal := res_main_v25 V
/-- The reference's column of group sizes, at least one. -/
abbrev N : S512x1.Idx → EReal := res_main_v32 V
/-- The reference's features less their scaled means. -/
abbrev Y : S100000x64.Idx → EReal := res_main_v48 V

variable {D : Data} (hD : Holds (args V) D)
include hD

/-- The reference's features. -/
theorem x_at (n : Fin 100000) (d : Fin 64) : X V (ix2 n d) = (Model.x D n d : EReal) := by
  have s0 := (take_at (by norm_num) (res_main_call0_v5 V) D.io (wrap_at (by norm_num) _ D.io hD.a2 1000#32) 999#32 (by decide)
    gather_S1000x64_S100000x1_S100000x64_1_0_n_n_0_1_164 rfl rfl rfl rfl rfl (args V).a9
    (broadcastInDim S100000x64 ![] bcast_S_S100000x64 (constant (F := Ideal) S_ .f32 0x7FC00000#32)) n d).trans (hD.a9 _ _)
  have s1 := (take_at (by norm_num) (res_main_call1_v5 V) D.oc (wrap_at (by norm_num) _ D.oc hD.a3 500#32) 499#32 (by decide)
    gather_S500x64_S100000x1_S100000x64_1_0_n_n_0_1_164 rfl rfl rfl rfl rfl (args V).a10
    (broadcastInDim S100000x64 ![] bcast_S_S100000x64 (constant (F := Ideal) S_ .f32 0x7FC00000#32)) n d).trans (hD.a10 _ _)
  have s2 := (take_at (by norm_num) (res_main_call2_v5 V) D.rt (wrap_at (by norm_num) _ D.rt hD.a4 50#32) 49#32 (by decide)
    gather_S50x64_S100000x1_S100000x64_1_0_n_n_0_1_164 rfl rfl rfl rfl rfl (args V).a11
    (broadcastInDim S100000x64 ![] bcast_S_S100000x64 (constant (F := Ideal) S_ .f32 0x7FC00000#32)) n d).trans (hD.a11 _ _)
  have s3 := (take_at (by norm_num) (res_main_call3_v5 V) D.sx (wrap_at (by norm_num) _ D.sx hD.a5 2#32) 1#32 (by decide)
    gather_S2x64_S100000x1_S100000x64_1_0_n_n_0_1_164 rfl rfl rfl rfl rfl (args V).a12
    (broadcastInDim S100000x64 ![] bcast_S_S100000x64 (constant (F := Ideal) S_ .f32 0x7FC00000#32)) n d).trans (hD.a12 _ _)
  have s4 := (take_at (by norm_num) (res_main_call4_v5 V) D.ag (wrap_at (by norm_num) _ D.ag hD.a7 16#32) 15#32 (by decide)
    gather_S16x64_S100000x1_S100000x64_1_0_n_n_0_1_164 rfl rfl rfl rfl rfl (args V).a13
    (broadcastInDim S100000x64 ![] bcast_S_S100000x64 (constant (F := Ideal) S_ .f32 0x7FC00000#32)) n d).trans (hD.a13 _ _)
  have l0 := layer_2 n d (args V).a6 (args V).a14 (args V).a15
  have l1 := layer_1 n d (args V).a1 (args V).a16 (args V).a17
  have l2 := layer_1 n d (args V).a0 (args V).a18 (args V).a19
  rw [hD.a6, hD.a6, hD.a14, hD.a14, hD.a15] at l0
  rw [hD.a1, hD.a16, hD.a17] at l1
  rw [hD.a0, hD.a18, hD.a19] at l2
  have h : X V (ix2 n d) = (D.tio (D.io n) d : EReal) + (D.toc (D.oc n) d : EReal) + (D.trt (D.rt n) d : EReal) + (D.tsx (D.sx n) d : EReal)
      + ((D.pp n 0 : EReal) * (D.wpos 0 d : EReal) + (D.pp n 1 : EReal) * (D.wpos 1 d : EReal) + (D.bpos d : EReal))
      + ((D.tm n : EReal) * (D.wtm d : EReal) + (D.btm d : EReal)) + ((D.nc n : EReal) * (D.wnc d : EReal) + (D.bnc d : EReal)) + (D.tag (D.ag n) d : EReal) :=
    congrArg₂ (fun a b : EReal => a + b) (congrArg₂ (fun a b : EReal => a + b) (congrArg₂ (fun a b : EReal => a + b) (congrArg₂ (fun a b : EReal => a + b)
      (congrArg₂ (fun a b : EReal => a + b) (congrArg₂ (fun a b : EReal => a + b) (congrArg₂ (fun a b : EReal => a + b) s0 s1) s2) s3) l0) l1) l2) s4
  rw [h]
  unfold Model.x
  push_cast
  rfl

/-- The column of groups, as the sums use it. -/
theorem groups_at (n : Fin 100000) : (broadcastInDim S100000x1 ![0] bcast_S100000_S100000x1_0 (args V).a8 : S100000x1.Idx → BitVec 32) (ix2 n 0) = BitVec.ofNat 32 (D.b n).val := by
  refine Eq.trans ?_ (hD.a8 n)
  pointwise

/-- The groups' sizes, at least one. -/
theorem count_at (g : Fin 512) : N V (ix2 g 0) = ((max (Model.cnt D g) 1 : ℝ) : EReal) := by
  have h := sum_vec _ D.b (groups_at V hD) (broadcastInDim S512 ![] bcast_S_S512 (constant (F := Ideal) S_ .f32 0x00000000#32))
    (broadcastInDim S100000 ![] bcast_S_S100000 (constant (F := Ideal) S_ .f32 0x3F800000#32)) g
  have h' : Host.scatterAdd (F := Ideal) (φ := .f32) scatter_S512_S100000x1_S100000_n_0_0_1 (broadcastInDim S512 ![] bcast_S_S512 (constant (F := Ideal) S_ .f32 0x00000000#32))
      (broadcastInDim S100000x1 ![0] bcast_S100000_S100000x1_0 (args V).a8) (broadcastInDim S100000 ![] bcast_S_S100000 (constant (F := Ideal) S_ .f32 0x3F800000#32)) (ix1 g)
      = (Model.cnt D g : EReal) := by
    rw [Model.cnt_coe, h]
    refine (congrArg (· + _) (Model.zero_word.trans EReal.coe_zero)).trans ((zero_add _).trans (Finset.sum_congr rfl fun r _ => ?_))
    exact congrArg (fun z : EReal => if D.b r = g then z else 0) (Model.one_word.trans EReal.coe_one)
  rw [Model.coe_max, ← h', EReal.coe_one]
  exact max_one _ g

/-- A quotient of a scattered sum by the groups' sizes. -/
theorem quot_at (U : S100000x64.Idx → EReal) (g : Fin 512) (d : Fin 64) (s : EReal)
    (hs : ∑ r : Fin 100000, (if D.b r = g then U (ix2 r d) else 0) = s) :
    (Host.divf (F := Ideal) (φ := .f32) (Host.scatterAdd (F := Ideal) (φ := .f32) scatter_S512x64_S100000x1_S100000x64_1_0_0_1
        (broadcastInDim S512x64 ![] bcast_S_S512x64 (constant (F := Ideal) S_ .f32 0x00000000#32))
        (broadcastInDim S100000x1 ![0] bcast_S100000_S100000x1_0 (args V).a8) U)
      (broadcastInDim S512x64 ![0, 1] bcast_S512x1_S512x64_0_1 (N V)) : S512x64.Idx → EReal) (ix2 g d)
      = Ideal.div s ((max (Model.cnt D g) 1 : ℝ) : EReal) := by
  have h := sum_row _ D.b (groups_at V hD) (broadcastInDim S512x64 ![] bcast_S_S512x64 (constant (F := Ideal) S_ .f32 0x00000000#32)) U g d
  have h' := h.trans ((congrArg (fun z : EReal => z + _) (Model.zero_word.trans EReal.coe_zero)).trans ((zero_add _).trans hs))
  rw [← count_at V hD]
  generalize Host.scatterAdd (F := Ideal) (φ := .f32) scatter_S512x64_S100000x1_S100000x64_1_0_0_1 _ _ _ = S at h'
  rw [← h']
  generalize N V = M
  pointwise

/-- The wrapped column of groups. -/
theorem wrapped_at (n : Fin 100000) :
    (broadcastInDim S100000x1 ![0] bcast_S100000_S100000x1_0 (select (cmpi .slt (args V).a8 (broadcastInDim S100000 ![] bcast_S_S100000 (constantI S_ 32 0#32)))
      (addi (args V).a8 (broadcastInDim S100000 ![] bcast_S_S100000 (constantI S_ 32 512#32))) (args V).a8) : S100000x1.Idx → BitVec 32) (ix2 n 0)
      = BitVec.ofNat 32 (D.b n).val :=
  wrap_at (by norm_num) _ D.b hD.a8 512#32 n

/-- A lookup in a matrix of the groups. -/
theorem group_row (T : S512x64.Idx → EReal) (n : Fin 100000) (d : Fin 64) :
    Host.gather gather_S512x64_S100000x1_S100000x64_1_0_n_n_0_1_164 T
      (broadcastInDim S100000x1 ![0] bcast_S100000_S100000x1_0 (select (cmpi .slt (args V).a8 (broadcastInDim S100000 ![] bcast_S_S100000 (constantI S_ 32 0#32)))
        (addi (args V).a8 (broadcastInDim S100000 ![] bcast_S_S100000 (constantI S_ 32 512#32))) (args V).a8) : S100000x1.Idx → BitVec 32) (ix2 n d)
      = T (ix2 (D.b n) d) :=
  Routing.gather_row gather_S512x64_S100000x1_S100000x64_1_0_n_n_0_1_164 rfl rfl rfl rfl rfl T _ n d (D.b n) (wrapped_at V hD n) (by norm_num)

omit hD in
/-- A row of parameters, repeated. -/
theorem row_at (B : S64.Idx → EReal) (n : Fin 100000) (d : Fin 64) :
    (broadcastInDim S100000x64 ![0, 1] bcast_S1x64_S100000x64_0_1 (broadcastInDim S1x64 ![1] bcast_S64_S1x64_1 B) : S100000x64.Idx → EReal) (ix2 n d) = B (ix1 d) := by
  pointwise

/-- The features less their scaled means. -/
theorem y_at (n : Fin 100000) (d : Fin 64) : Y V (ix2 n d) = (Model.x D n d : EReal) - (Model.mean D (D.b n) d : EReal) * D.ms d := by
  have hm := (group_row V hD _ n d).trans ((quot_at V hD (X V) (D.b n) d (Model.tot D (D.b n) d)
    ((Finset.sum_congr rfl fun r _ => congrArg (fun z : EReal => if D.b r = D.b n then z else 0) (x_at V hD r d)).trans (Model.tot_coe D _ d).symm)).trans
      (Model.div_real _ (Model.max_pos D (D.b n))))
  exact congrArg₂ (fun a b : EReal => a - b) (x_at V hD n d) (congrArg₂ (fun a b : EReal => a * b) hm ((row_at (args V).a22 n d).trans (hD.a22 d)))

/-- They are reals where the row is not lost. -/
theorem y_real {n : Fin 100000} {d : Fin 64} (h : ¬ Model.Lost D n d) : Y V (ix2 n d) = (Model.dev D n d : EReal) := by
  rw [y_at V hD, Model.scaled_mean D h, ← EReal.coe_sub]
  rfl

omit hD in
/-- The rows of a group are lost together. -/
theorem lost_same {k n : Fin 100000} (d : Fin 64) (h : D.b k = D.b n) : Model.Lost D k d ↔ Model.Lost D n d := by
  unfold Model.Lost
  rw [h]

omit hD in
/-- The reference's result, as the program composes it. -/
abbrev result : S100000x64.Idx → EReal :=
  addf (F := Ideal) (φ := .f32) (Host.divf (mulf (broadcastInDim S100000x64 ![0, 1] bcast_S1x64_S100000x64_0_1 (broadcastInDim S1x64 ![1] bcast_S64_S1x64_1 (args V).a20)) (Y V))
    (Host.gather gather_S512x64_S100000x1_S100000x64_1_0_n_n_0_1_164
      (Host.sqrt (addf (Host.divf (Host.scatterAdd (F := Ideal) (φ := .f32) scatter_S512x64_S100000x1_S100000x64_1_0_0_1
        (broadcastInDim S512x64 ![] bcast_S_S512x64 (constant S_ .f32 0x00000000#32)) (broadcastInDim S100000x1 ![0] bcast_S100000_S100000x1_0 (args V).a8)
        (mulf (F := Ideal) (φ := .f32) (Y V) (Y V))) (broadcastInDim S512x64 ![0, 1] bcast_S512x1_S512x64_0_1 (N V))) (broadcastInDim S512x64 ![] bcast_S_S512x64 (constant S_ .f32 0x3727C5AC#32))))
      (broadcastInDim S100000x1 ![0] bcast_S100000_S100000x1_0 (select (cmpi .slt (args V).a8 (broadcastInDim S100000 ![] bcast_S_S100000 (constantI S_ 32 0#32)))
        (addi (args V).a8 (broadcastInDim S100000 ![] bcast_S_S100000 (constantI S_ 32 512#32))) (args V).a8))))
    (broadcastInDim S100000x64 ![0, 1] bcast_S1x64_S100000x64_0_1 (broadcastInDim S1x64 ![1] bcast_S64_S1x64_1 (args V).a21))

omit hD in
/-- The number added to the variances. -/
theorem eps_at (g : Fin 512) (z : Fin 64) : (broadcastInDim S512x64 ![] bcast_S_S512x64 (constant (F := Ideal) S_ .f32 0x3727C5AC#32) : S512x64.Idx → EReal) (ix2 g z) = (Model.eps : EReal) := by
  rw [← Model.eps_word]
  pointwise

omit hD in
/-- The root of a real that is not negative. -/
theorem sqrt_real {v : ℝ} (h : 0 ≤ v) : Ideal.sqrt (v : EReal) = ((√v : ℝ) : EReal) := by
  have : Ideal.sqrt (v : EReal) = if v < 0 then ⊥ else ((√v : ℝ) : EReal) := rfl
  rw [this, if_neg (not_lt.2 h)]

/-- The reference's result, from the sum of the squared deviations of the row's group. -/
theorem result_of (n : Fin 100000) (d : Fin 64) (q : EReal)
    (hq : ∑ k : Fin 100000, (if D.b k = D.b n then mulf (F := Ideal) (φ := .f32) (Y V) (Y V) (ix2 k d) else 0) = q) :
    result V (ix2 n d) = Ideal.div ((D.w d : EReal) * Y V (ix2 n d)) (Ideal.sqrt (Ideal.div q ((max (Model.cnt D (D.b n)) 1 : ℝ) : EReal) + (Model.eps : EReal))) + D.bias d :=
  last_at n d _ _ _ _ _ _ _ _ ((row_at (args V).a20 n d).trans (hD.a20 d)) rfl
    ((group_row V hD _ n d).trans (root_at _ _ (D.b n) d _ _ (quot_at V hD (mulf (F := Ideal) (φ := .f32) (Y V) (Y V)) (D.b n) d q hq) (eps_at (D.b n) d)))
    ((row_at (args V).a21 n d).trans (hD.a21 d))

/-- The reference's result is the group norm of the features. -/
theorem result_at (n : Fin 100000) (d : Fin 64) : result V (ix2 n d) = Model.out D n d := by
  have hv : 0 < Model.var D (D.b n) d + Model.eps := add_pos_of_nonneg_of_pos (Model.var_nonneg D _ d) Model.eps_pos
  unfold Model.out
  split_ifs with h
  · have hc : (0 : ℝ) < (max (Model.cnt D (D.b n)) 1)⁻¹ := inv_pos.2 (lt_max_of_lt_right one_pos)
    have e : Ideal.div (⊤ : EReal) ((max (Model.cnt D (D.b n)) 1 : ℝ) : EReal) = ⊤ := by
      unfold Ideal.div
      rw [if_neg (EReal.coe_ne_zero.2 (Model.max_pos D (D.b n))), ← EReal.coe_inv, EReal.top_mul_coe_of_pos hc]
    rw [result_of V hD n d ⊤ ((Finset.sum_congr rfl fun k _ => ?_).trans (Model.sum_top D n)), e, EReal.top_add_coe, Ideal.sqrt_top]
    · unfold Ideal.div
      rw [if_neg EReal.top_ne_zero, EReal.inv_top, mul_zero, zero_add]
    · split_ifs with hk
      · refine (congrArg (fun z : EReal => z * z) (y_at V hD k d)).trans ?_
        rw [hk]
        exact Model.dev_lost D h k
      · rfl
  · rw [result_of V hD n d _ ((Finset.sum_congr rfl fun k _ => ?_).trans (Model.dev_coe D (D.b n) d).symm), y_real V hD h, Model.div_real _ (Model.max_pos D (D.b n)),
      ← EReal.coe_add]
    · refine congrArg (· + D.bias d) ((congrArg₂ Ideal.div (EReal.coe_mul _ _).symm (sqrt_real hv.le)).trans ?_)
      exact Model.div_real _ (Real.sqrt_pos.2 hv).ne'
    · split_ifs with hk
      · exact congrArg (fun z : EReal => z * z) (y_real V hD fun hl => h ((lost_same d hk).1 hl))
      · rfl

end Cert.RefVal
-- ==== Proof.PreFacts.lean ====
/-
  The shapes that the precondition's operations relate.
-/
module

public import proofs.«01_k».proof.Pre_inputs_in_range

@[expose] public section

namespace Cert.Pre_inputs_in_range

open Idealize.ShloMosaic

/-- The precondition's side conditions hold. -/
instance facts : Cert.Pre_inputs_in_range.Facts := by
  constructor <;> decide

end Cert.Pre_inputs_in_range
-- ==== Proof.Decode.lean ====
/-
  What the precondition says of the arrays: they hold real numbers, indices within their tables, and rows sorted by group.
-/
module

public import proofs.«01_k».proof.Proof.PreFacts
public import proofs.«01_k».proof.Proof.Model
public import Idealize.ShloMosaic.Lib.ReduceAll
public import Idealize.ShloMosaic.Lib.WordCmp
public import Idealize.ShloMosaic.Lib.Pointwise

@[expose] public section

set_option maxRecDepth 16384

noncomputable section

namespace Cert.Decode

open Cert.Pre_inputs_in_range Cert.Pre_inputs_in_range.Facts
open Idealize.ShloMosaic
open Cert.Model (Data Args Holds)

instance : Subsingleton S_.Idx := ⟨fun a b => funext fun k => k.elim0⟩

/-- A conjunction that is 1. -/
theorem both {A B : S_.Idx → BitVec 1} {j : S_.Idx} (h : andi A B j = 1#1) : A j = 1#1 ∧ B j = 1#1 := IntOp.andi_eq_one.1 h

/-- The word of infinity. -/
theorem inf_word : Ideal.ofBits .f32 0x7F800000#32 = ⊤ := by simp [Ideal.ofBits, Ideal.ieee]

/-- A number whose magnitude is below infinity is real. -/
theorem real_of_lt {x : EReal} (h : Ideal.cmp .olt (max x (-x)) ⊤ = 1#1) : ∃ r : ℝ, x = (r : EReal) := by
  have h : max x (-x) < ⊤ := by
    unfold Ideal.cmp at h
    exact of_decide_eq_true ((WordCmp.ofBool_eq_one_iff _).1 h)
  induction x with
  | bot => simp at h
  | top => simp at h
  | coe r => exact ⟨r, rfl⟩

/-- An array all of whose magnitudes are below infinity holds reals. -/
theorem finite {s : Shape} {axes : List (Fin s.rank)} (A : s.Idx → EReal) (hb : S_.BroadcastsInDim s (![] : Fin 0 → Fin s.rank)) (hr : s.ReducesTo axes S_)
    {j : S_.Idx} (h : Host.reduce IntOp.andi (cmpf (F := Ideal) (φ := .f32) .olt (Host.absf (F := Ideal) (φ := .f32) A) (broadcastInDim s ![] hb (constant S_ .f32 0x7F800000#32)))
      (constantI S_ 1 1#1) hr h_S_ j = 1#1) : ∃ f : s.Idx → ℝ, ∀ i, A i = (f i : EReal) := by
  refine ⟨fun i => (A i).toReal, fun i => ?_⟩
  have e := Host.reduce_andi_all _ _ hr h_S_ j h i
  obtain ⟨r, hx⟩ := real_of_lt (x := A i) (by rw [← inf_word]; exact e)
  simp only [hx, EReal.toReal_coe]

/-- Words that are all at least zero and below `k` are numbers below `k`. -/
theorem small (C : S100000.Idx → BitVec 32) (k : ℕ) (hk : k ≤ 1000) {j : S_.Idx}
    (h : Host.reduce IntOp.andi (andi (cmpi .sge C (broadcastInDim S100000 ![] bcast_S_S100000 (constantI S_ 32 0#32)))
      (cmpi .slt C (broadcastInDim S100000 ![] bcast_S_S100000 (constantI S_ 32 (BitVec.ofNat 32 k))))) (constantI S_ 1 1#1) reducesTo_S100000_S_d0 h_S_ j = 1#1) :
    ∃ f : Fin 100000 → Fin k, ∀ n, C (ix1 n) = BitVec.ofNat 32 (f n).val := by
  have key : ∀ n, (C (ix1 n)).toNat < k := by
    intro n
    have e := Host.reduce_andi_all _ _ reducesTo_S100000_S_d0 h_S_ j h (ix1 n)
    obtain ⟨h0, h1⟩ := IntOp.andi_eq_one.1 e
    have h0 : (0#32).toInt ≤ (C (ix1 n)).toInt := IntOp.cmpi_sge.1 h0
    have h1 : (C (ix1 n)).toInt < (BitVec.ofNat 32 k).toInt := IntOp.cmpi_slt.1 h1
    have h2 : (BitVec.ofNat 32 k).toInt = k := by rw [BitVec.toInt_ofNat', Int.bmod_eq_of_le] <;> omega
    have h3 : (0#32).toInt = 0 := by decide
    rw [h2] at h1
    rw [h3] at h0
    generalize C (ix1 n) = w at *
    have := BitVec.toInt_eq_toNat_cond w
    have := w.isLt
    split_ifs at * <;> omega
  refine ⟨fun n => ⟨_, key n⟩, fun n => ?_⟩
  rw [BitVec.ofNat_toNat, BitVec.setWidth_eq]

/-- Numbers each at most the next are sorted. -/
theorem sorted (C : S100000.Idx → BitVec 32) (f : Fin 100000 → Fin 512) (hf : ∀ n, C (ix1 n) = BitVec.ofNat 32 (f n).val) {j : S_.Idx}
    (h : Host.reduce IntOp.andi (cmpi .sle (extractStridedSlice S99999 ![0] C slices_S100000_S99999_0) (extractStridedSlice S99999 ![1] C slices_S100000_S99999_1))
      (constantI S_ 1 1#1) reducesTo_S99999_S_d0 h_S_ j = 1#1) : Monotone f := by
  have hv : ∀ n : Fin 100000, (C (ix1 n)).toInt = ((f n).val : ℤ) := by
    intro n
    have := (f n).isLt
    rw [hf, BitVec.toInt_ofNat', Int.bmod_eq_of_le] <;> omega
  have step : ∀ n : Fin 99999, f n.castSucc ≤ f n.succ := by
    intro n
    have e := IntOp.cmpi_sle.1 (Host.reduce_andi_all _ _ reducesTo_S99999_S_d0 h_S_ j h (ix1 n))
    have e0 : extractStridedSlice S99999 ![0] C slices_S100000_S99999_0 (ix1 n) = C (ix1 n.castSucc) := by
      pointwise
      rfl
    have e1 : extractStridedSlice S99999 ![1] C slices_S100000_S99999_1 (ix1 n) = C (ix1 n.succ) := by
      pointwise
      exact congrArg (fun z : Fin 100000 => C (ix1 z)) (Fin.ext (Nat.add_comm 1 n.val))
    rw [e0, e1, hv, hv] at e
    exact Fin.le_def.2 (by exact_mod_cast e)
  exact Fin.monotone_iff_le_succ.2 step

/-- The precondition of the arrays, as its conjuncts: the six ranges, the order of the groups, and the fifteen arrays of reals. -/
theorem decode (A : Args) (h : fn (F := Ideal) A.a0 A.a1 A.a2 A.a3 A.a4 A.a5 A.a6 A.a7 A.a8 A.a9 A.a10 A.a11 A.a12 A.a13 A.a14 A.a15 A.a16 A.a17 A.a18 A.a19 A.a20 A.a21 A.a22 = fun _ => 1#1) : ∃ D, Holds A D := by
  have h := congrFun h (fun k => k.elim0)
  unfold fn fn_part1 fn_part2 fn_part3 fn_part4 fn_part5 fn_part6 fn_part7 at h
  dsimp only at h
  obtain ⟨h, f20⟩ := both h
  obtain ⟨h, he⟩ := both h
  obtain ⟨h, hd⟩ := both h
  obtain ⟨h, hc⟩ := both h
  obtain ⟨ha, hs⟩ := both h
  obtain ⟨ha, i8⟩ := both ha
  obtain ⟨ha, i7⟩ := both ha
  obtain ⟨ha, i5⟩ := both ha
  obtain ⟨ha, i4⟩ := both ha
  obtain ⟨i2, i3⟩ := both ha
  obtain ⟨hc, f6⟩ := both hc
  obtain ⟨f0, f1⟩ := both hc
  obtain ⟨hd, f13⟩ := both hd
  obtain ⟨hd, f12⟩ := both hd
  obtain ⟨hd, f11⟩ := both hd
  obtain ⟨f9, f10⟩ := both hd
  obtain ⟨he, f19⟩ := both he
  obtain ⟨he, f18⟩ := both he
  obtain ⟨he, f17⟩ := both he
  obtain ⟨he, f16⟩ := both he
  obtain ⟨f14, f15⟩ := both he
  obtain ⟨io, i2⟩ := small A.a2 1000 (by norm_num) i2
  obtain ⟨oc, i3⟩ := small A.a3 500 (by norm_num) i3
  obtain ⟨rt, i4⟩ := small A.a4 50 (by norm_num) i4
  obtain ⟨sx, i5⟩ := small A.a5 2 (by norm_num) i5
  obtain ⟨ag, i7⟩ := small A.a7 16 (by norm_num) i7
  obtain ⟨b, i8⟩ := small A.a8 512 (by norm_num) i8
  obtain ⟨g0, f0⟩ := finite A.a0 _ _ f0
  obtain ⟨g1, f1⟩ := finite A.a1 _ _ f1
  obtain ⟨g6, f6⟩ := finite A.a6 _ _ f6
  obtain ⟨g9, f9⟩ := finite A.a9 _ _ f9
  obtain ⟨g10, f10⟩ := finite A.a10 _ _ f10
  obtain ⟨g11, f11⟩ := finite A.a11 _ _ f11
  obtain ⟨g12, f12⟩ := finite A.a12 _ _ f12
  obtain ⟨g13, f13⟩ := finite A.a13 _ _ f13
  obtain ⟨g14, f14⟩ := finite A.a14 _ _ f14
  obtain ⟨g15, f15⟩ := finite A.a15 _ _ f15
  obtain ⟨g16, f16⟩ := finite A.a16 _ _ f16
  obtain ⟨g17, f17⟩ := finite A.a17 _ _ f17
  obtain ⟨g18, f18⟩ := finite A.a18 _ _ f18
  obtain ⟨g19, f19⟩ := finite A.a19 _ _ f19
  obtain ⟨g20, f20⟩ := finite A.a20 _ _ f20
  exact ⟨{ nc := fun n => g0 (ix1 n), tm := fun n => g1 (ix1 n), io := io, oc := oc, rt := rt, sx := sx, pp := fun n k => g6 (ix2 n k), ag := ag, b := b,
            tio := fun k d => g9 (ix2 k d), toc := fun k d => g10 (ix2 k d), trt := fun k d => g11 (ix2 k d), tsx := fun k d => g12 (ix2 k d), tag := fun k d => g13 (ix2 k d),
            wpos := fun k d => g14 (ix2 k d), bpos := fun d => g15 (ix1 d), wtm := fun d => g16 (ix2 0 d), btm := fun d => g17 (ix1 d), wnc := fun d => g18 (ix2 0 d), bnc := fun d => g19 (ix1 d),
            w := fun d => g20 (ix1 d), bias := fun d => A.a21 (ix1 d), ms := fun d => A.a22 (ix1 d) },
    { a0 := fun n => f0 _, a1 := fun n => f1 _, a2 := i2, a3 := i3, a4 := i4, a5 := i5, a6 := fun n k => f6 _, a7 := i7, a8 := i8, a9 := fun k d => f9 _, a10 := fun k d => f10 _,
            a11 := fun k d => f11 _, a12 := fun k d => f12 _, a13 := fun k d => f13 _, a14 := fun k d => f14 _, a15 := fun d => f15 _, a16 := fun d => f16 _, a17 := fun d => f17 _, a18 := fun d => f18 _,
            a19 := fun d => f19 _, a20 := fun d => f20 _, a21 := fun d => rfl, a22 := fun d => rfl, sorted := sorted A.a8 b i8 hs }⟩

end Cert.Decode
-- ==== Proof.Value.lean ====
/-
  The ideal kernel and the ideal reference compute the same values.
-/
module

public import proofs.«01_k».proof.Proof.Frames
public import proofs.«01_k».proof.Proof.KernelOut
public import proofs.«01_k».proof.Proof.RefVal
public import proofs.«01_k».proof.Proof.Decode

@[expose] public section

set_option maxRecDepth 16384

noncomputable section

namespace Cert.Value

open Idealize.ShloMosaic Idealize.ShloMosaic.TcCoe Idealize.SL.Sem
open Cert.Model (Data Args Holds)

/-- The reference's result over its arguments' contents, entry by entry, is the kernel's over the same arguments. -/
theorem same (m : (ℓ : Loc Cert.KernelIdeal.nD Cert.KernelIdeal.τ Cert.KernelIdeal.sig) → Buf (Elt Ideal) ℓ) (c : Dev Cert.KernelIdeal.nD)
    (V : Valuation Cert.ReferenceIdeal.τ Cert.ReferenceIdeal.sig (Elt Ideal)) (hV : Cert.RefVal.args V = Cert.HostVal.args m c) {D : Data} (hD : Holds (Cert.HostVal.args m c) D) :
    Cert.RefVal.result V = (Cert.KernelIdeal.Run.W31 m c Cert.KernelIdeal.main_v114 : Cert.KernelIdeal.S100000x64.Idx → EReal) := by
  funext i
  obtain ⟨r, d, rfl⟩ : ∃ (r : Fin 100000) (d : Fin 64), i = ix2 r d := ⟨i 0, i 1, eq_ix2 i⟩
  exact (Cert.RefVal.result_at V (hV ▸ hD) r d).trans (Cert.KernelVal.result m c hD r d).symm

/-- The value claim. -/
theorem algebraic : Cert.algebraic_KernelIdeal_ReferenceIdeal_pre_inputs_in_range (hKernelIdeal := Cert.KernelIdeal.Gen.facts)
    (hReferenceIdeal := Cert.ReferenceIdeal.Gen.facts) (hPre_inputs_in_range := Cert.Pre_inputs_in_range.facts) := by
  intro m g m' g' hpre hargs
  refine ⟨fun c => Cert.KernelIdeal.Run.W31 m c Cert.KernelIdeal.main_v114, ?_, ?_⟩
  · refine (θ_run _ _ _).mono (fun r h c => ⟨?_, Cert.Frames.args_kept m c (h.1 c)⟩) (Cert.KernelIdeal.Run.run m g)
    exact h.1 c _ (Cert.KernelIdeal.Run.mem_uc Cert.KernelIdeal.main_v114 (by decide))
  · refine (θ_run _ _ _).mono (fun r h c => ⟨?_, (h c).2⟩) (Cert.ReferenceIdeal.Value.run m' g')
    obtain ⟨D, hD⟩ := Cert.Decode.decode (Cert.HostVal.args m c) (hpre c)
    refine (h c).1.trans (same m c (StableHlo.launchContents m' c) ?_ hD)
    obtain ⟨e0, e1, e2, e3, e4, e5, e6, e7, e8, e9, e10, e11, e12, e13, e14, e15, e16, e17, e18, e19, e20, e21, e22⟩ := hargs c
    exact (Args.mk.injEq ..).mpr ⟨e0, e1, e2, e3, e4, e5, e6, e7, e8, e9, e10, e11, e12, e13, e14, e15, e16, e17, e18, e19, e20, e21, e22⟩

/-- The frames under the precondition are the frames. -/
theorem frame_kernelIdeal_pre : Cert.quiescent_KernelIdeal_pre_inputs_in_range (hKernelIdeal := Cert.KernelIdeal.Gen.facts)
    (hPre_inputs_in_range := Cert.Pre_inputs_in_range.facts) := fun m g _ => Cert.Frames.frame_kernelIdeal m g trivial

theorem frame_referenceIdeal_pre : Cert.quiescent_ReferenceIdeal_pre_inputs_in_range (hReferenceIdeal := Cert.ReferenceIdeal.Gen.facts)
    (hPre_inputs_in_range := Cert.Pre_inputs_in_range.facts) := fun m g _ => Cert.Frames.frame_referenceIdeal m g trivial

end Cert.Value
-- ==== Proof.lean ====
/-
  The proof of `Cert.Claim`: the parts, proved in the modules under Proof/, put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The frames of the kernel, the ideal kernel and the ideal reference (with the precondition and without), the idealization's preservation, and the value claim. -/
theorem claim : Cert.Claim := ⟨Cert.Kernel.Gen.facts, Cert.KernelIdeal.Gen.facts, Cert.ReferenceIdeal.Gen.facts, Cert.Pre_inputs_in_range.facts,
  Cert.Frames.frame_kernel, Cert.Frames.frame_kernelIdeal, Cert.Value.frame_kernelIdeal_pre, Cert.Frames.frame_referenceIdeal, Cert.Value.frame_referenceIdeal_pre, trivial,
  Cert.Value.algebraic⟩

end Cert.Proof

end
